-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateRefIdeal (m : (ℓ : Loc Cert.RotateRefIdeal.nD Cert.RotateRefIdeal.τ Cert.RotateRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1)
      ∧ r.2.mem ((c.tc : Thread Cert.Rotate.nD Cert.Rotate.τ).loc Cert.Rotate.main_arg2) = m ((c.tc : Thread Cert.Rotate.nD Cert.Rotate.τ).loc Cert.Rotate.main_arg2))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ r.2.sem = fun _ => 0)

def quiescent_RotateRefIdeal [hRotateRefIdeal : Cert.RotateRefIdeal.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1)
      ∧ r.2.mem ((c.tc : Thread Cert.RotateRefIdeal.nD Cert.RotateRefIdeal.τ).loc Cert.RotateRefIdeal.main_arg2) = m ((c.tc : Thread Cert.RotateRefIdeal.nD Cert.RotateRefIdeal.τ).loc Cert.RotateRefIdeal.main_arg2))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Rotate_RotateIdeal : Prop :=
  IdealRules.bf16_pair.BufferStatement Cert.RotateIdeal.S4872x2x128 Cert.RotateIdeal.S4872x1x128
  ∧ IdealRules.bf16_pair.Statement Cert.RotateIdeal.S4872x2x128 Cert.RotateIdeal.S4872x1x128
  ∧ IdealRules.bf16_pair.SelectZeroStatement Cert.RotateIdeal.S4872x128
  ∧ IdealRules.bf16_pair.Statement Cert.RotateIdeal.S128x128 Cert.RotateIdeal.S64x128
  ∧ IdealRules.bf16_pair.Statement Cert.RotateIdeal.S8x2x128 Cert.RotateIdeal.S8x1x128
  ∧ IdealRules.bf16_pair.Statement Cert.RotateIdeal.S80x2x128 Cert.RotateIdeal.S80x1x128
  ∧ IdealRules.bf16_pair.Statement Cert.RotateIdeal.S160x128 Cert.RotateIdeal.S80x128

def algebraic_RotateIdeal_RotateRefIdeal [hRotateIdeal : Cert.RotateIdeal.Facts] [hRotateRefIdeal : Cert.RotateRefIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateRefIdeal.nD Cert.RotateRefIdeal.τ Cert.RotateRefIdeal.sig) → Buf (Elt Ideal) ℓ) (g' : Dev Cert.RotateRefIdeal.nD → PrngReg), Pre_RotateIdeal m →
    (∀ c : Dev Cert.RotateIdeal.nD,
      m' ((c.tc : Thread Cert.RotateRefIdeal.nD Cert.RotateRefIdeal.τ).loc Cert.RotateRefIdeal.main_arg0) = m ((c.tc : Thread Cert.RotateIdeal.nD Cert.RotateIdeal.τ).loc Cert.RotateIdeal.main_arg0)
      ∧ m' ((c.tc : Thread Cert.RotateRefIdeal.nD Cert.RotateRefIdeal.τ).loc Cert.RotateRefIdeal.main_arg1) = m ((c.tc : Thread Cert.RotateIdeal.nD Cert.RotateIdeal.τ).loc Cert.RotateIdeal.main_arg1)
      ∧ m' ((c.tc : Thread Cert.RotateRefIdeal.nD Cert.RotateRefIdeal.τ).loc Cert.RotateRefIdeal.main_arg2) = m ((c.tc : Thread Cert.RotateIdeal.nD Cert.RotateIdeal.τ).loc Cert.RotateIdeal.main_arg2)) →
    ∃ (v0 : (c : Dev Cert.RotateIdeal.nD) → Buf (Elt Ideal) ((c.tc : Thread Cert.RotateIdeal.nD Cert.RotateIdeal.τ).loc Cert.RotateIdeal.main_v8_0)) (v1 : (c : Dev Cert.RotateIdeal.nD) → Buf (Elt Ideal) ((c.tc : Thread Cert.RotateIdeal.nD Cert.RotateIdeal.τ).loc Cert.RotateIdeal.main_v8_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v8_0) = v0 c
          ∧ r.2.mem ((c.tc : Thread Cert.RotateIdeal.nD Cert.RotateIdeal.τ).loc Cert.RotateIdeal.main_v8_1) = v1 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
          ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ θ_run (Cert.RotateRefIdeal.defs (F := Ideal)) (onTc (τ := Cert.RotateRefIdeal.τ) (Cert.RotateRefIdeal.main (F := Ideal))) ⟨m', fun _ => 0, g'⟩ (fun r => ∀ c : Dev Cert.RotateRefIdeal.nD,
          r.2.mem ((c.tc : Thread Cert.RotateRefIdeal.nD Cert.RotateRefIdeal.τ).loc Cert.RotateRefIdeal.main_v90) = v0 c
          ∧ r.2.mem ((c.tc : Thread Cert.RotateRefIdeal.nD Cert.RotateRefIdeal.τ).loc Cert.RotateRefIdeal.main_v91) = v1 c
          ∧ r.2.mem ((c.tc : Thread Cert.RotateRefIdeal.nD Cert.RotateRefIdeal.τ).loc Cert.RotateRefIdeal.main_arg0) = m' ((c.tc : Thread Cert.RotateRefIdeal.nD Cert.RotateRefIdeal.τ).loc Cert.RotateRefIdeal.main_arg0)
          ∧ r.2.mem ((c.tc : Thread Cert.RotateRefIdeal.nD Cert.RotateRefIdeal.τ).loc Cert.RotateRefIdeal.main_arg1) = m' ((c.tc : Thread Cert.RotateRefIdeal.nD Cert.RotateRefIdeal.τ).loc Cert.RotateRefIdeal.main_arg1)
          ∧ r.2.mem ((c.tc : Thread Cert.RotateRefIdeal.nD Cert.RotateRefIdeal.τ).loc Cert.RotateRefIdeal.main_arg2) = m' ((c.tc : Thread Cert.RotateRefIdeal.nD Cert.RotateRefIdeal.τ).loc Cert.RotateRefIdeal.main_arg2))

def Claim : Prop :=
  ∃ (hDown : Cert.Down.Facts) (hDownIdeal : Cert.DownIdeal.Facts) (hDownRefIdeal : Cert.DownRefIdeal.Facts) (hRotate : Cert.Rotate.Facts) (hRotateIdeal : Cert.RotateIdeal.Facts) (hRotateRefIdeal : Cert.RotateRefIdeal.Facts),
    quiescent_Down (hDown := hDown)
    ∧ quiescent_DownIdeal (hDownIdeal := hDownIdeal)
    ∧ quiescent_DownRefIdeal (hDownRefIdeal := hDownRefIdeal)
    ∧ quiescent_Rotate (hRotate := hRotate)
    ∧ quiescent_RotateIdeal (hRotateIdeal := hRotateIdeal)
    ∧ quiescent_RotateRefIdeal (hRotateRefIdeal := hRotateRefIdeal)
    ∧ preserves_Down_DownIdeal
    ∧ algebraic_DownIdeal_DownRefIdeal (hDownIdeal := hDownIdeal) (hDownRefIdeal := hDownRefIdeal)
    ∧ preserves_Rotate_RotateIdeal
    ∧ algebraic_RotateIdeal_RotateRefIdeal (hRotateIdeal := hRotateIdeal) (hRotateRefIdeal := hRotateRefIdeal)
-- ==== Down.lean ====
abbrev S4608x18944 : Shape := ⟨2, ![4608, 18944]⟩
abbrev S_ : Shape := ⟨0, ![]⟩
abbrev S18944x3584 : Shape := ⟨2, ![18944, 3584]⟩
abbrev S3584 : Shape := ⟨1, ![3584]⟩
abbrev S1 : Shape := ⟨1, ![1]⟩
abbrev S1x3584 : Shape := ⟨2, ![1, 3584]⟩
abbrev S4608x3584 : Shape := ⟨2, ![4608, 3584]⟩
abbrev S512x18944 : Shape := ⟨2, ![512, 18944]⟩
abbrev S18944x512 : Shape := ⟨2, ![18944, 512]⟩
abbrev S1x512 : Shape := ⟨2, ![1, 512]⟩
abbrev S512x512 : Shape := ⟨2, ![512, 512]⟩

abbrev nBuf : Space → Nat
  | .hbm => 7
  | .vmem => 8
  | .smem => 1
  | _ => 0

abbrev bufTy : (tb : Table) → Fin (tcTables nBuf tb) → BufTy
  | .hbm, ⟨0, _⟩ => ⟨S4608x18944, .fp8e4m3⟩
  | .hbm, ⟨1, _⟩ => ⟨S_, .f32⟩
  | .hbm, ⟨2, _⟩ => ⟨S18944x3584, .fp8e4m3⟩
  | .hbm, ⟨3, _⟩ => ⟨S3584, .f32⟩
  | .hbm, ⟨4, _⟩ => ⟨S1, .f32⟩
  | .hbm, ⟨5, _⟩ => ⟨S1x3584, .f32⟩
  | .hbm, ⟨6, _⟩ => ⟨S4608x3584, .bf16⟩
  | .local _ .vmem, ⟨0, _⟩ => ⟨S512x18944, .fp8e4m3⟩
  | .local _ .vmem, ⟨1, _⟩ => ⟨S512x18944, .fp8e4m3⟩
  | .local _ .vmem, ⟨2, _⟩ => ⟨S18944x512, .fp8e4m3⟩
  | .local _ .vmem, ⟨3, _⟩ => ⟨S18944x512, .fp8e4m3⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .smem, ⟨0, _⟩ => ⟨S1, .f32⟩
  | _, _ => ⟨S4608x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 7], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x18944 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S18944x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S4608x18944 : Shape := ⟨2, ![4608, 18944]⟩
abbrev S_ : Shape := ⟨0, ![]⟩
abbrev S18944x3584 : Shape := ⟨2, ![18944, 3584]⟩
abbrev S3584 : Shape := ⟨1, ![3584]⟩
abbrev S1x1 : Shape := ⟨2, ![1, 1]⟩
abbrev S1x3584 : Shape := ⟨2, ![1, 3584]⟩
abbrev S4608x3584 : Shape := ⟨2, ![4608, 3584]⟩

abbrev nBuf : Space → Nat
  | .hbm => 7
  | .vmem => 5
  | .smem => 0
  | _ => 0

abbrev bufTy : (tb : Table) → Fin (tcTables nBuf tb) → BufTy
  | .hbm, ⟨0, _⟩ => ⟨S4608x18944, .fp8e4m3⟩
  | .hbm, ⟨1, _⟩ => ⟨S_, .f32⟩
  | .hbm, ⟨2, _⟩ => ⟨S18944x3584, .fp8e4m3⟩
  | .hbm, ⟨3, _⟩ => ⟨S3584, .f32⟩
  | .hbm, ⟨4, _⟩ => ⟨S1x1, .f32⟩
  | .hbm, ⟨5, _⟩ => ⟨S1x3584, .f32⟩
  | .hbm, ⟨6, _⟩ => ⟨S4608x3584, .bf16⟩
  | .local _ .vmem, ⟨0, _⟩ => ⟨S1x1, .f32⟩
  | .local _ .vmem, ⟨1, _⟩ => ⟨S4608x18944, .fp8e4m3⟩
  | .local _ .vmem, ⟨2, _⟩ => ⟨S18944x3584, .fp8e4m3⟩
  | .local _ .vmem, ⟨3, _⟩ => ⟨S1x3584, .f32⟩
  | .local _ .vmem, ⟨4, _⟩ => ⟨S4608x3584, .bf16⟩
  | _, _ => ⟨S4608x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Rotate.lean ====
abbrev S3x1536x18944 : Shape := ⟨3, ![3, 1536, 18944]⟩
abbrev S148x148 : Shape := ⟨2, ![148, 148]⟩
abbrev S_ : Shape := ⟨0, ![]⟩
abbrev S160x160 : Shape := ⟨2, ![160, 160]⟩
abbrev S1 : Shape := ⟨1, ![1]⟩
abbrev S2 : Shape := ⟨1, ![2]⟩
abbrev S4608x18944 : Shape := ⟨2, ![4608, 18944]⟩
abbrev S128x18944 : Shape := ⟨2, ![128, 18944]⟩
abbrev S4872x128 : Shape := ⟨2, ![4872, 128]⟩
abbrev S19536x128 : Shape := ⟨2, ![19536, 128]⟩
abbrev S8x128 : Shape := ⟨2, ![8, 128]⟩
abbrev S128x128 : Shape := ⟨2, ![128, 128]⟩
abbrev S64x128 : Shape := ⟨2, ![64, 128]⟩
abbrev S80x128 : Shape := ⟨2, ![80, 128]⟩
abbrev S160x128 : Shape := ⟨2, ![160, 128]⟩
abbrev S160x256 : Shape := ⟨2, ![160, 256]⟩
abbrev S4x128 : Shape := ⟨2, ![4, 128]⟩
abbrev S1x8x128 : Shape := ⟨3, ![1, 8, 128]⟩
abbrev S1x1x1 : Shape := ⟨3, ![1, 1, 1]⟩

abbrev nBuf : Space → Nat
  | .hbm => 16
  | .vmem => 9
  | .smem => 2
  | _ => 0

abbrev bufTy : (tb : Table) → Fin (tcTables nBuf tb) → BufTy
  | .hbm, ⟨0, _⟩ => ⟨S3x1536x18944, .bf16⟩
  | .hbm, ⟨1, _⟩ => ⟨S148x148, .f32⟩
  | .hbm, ⟨2, _⟩ => ⟨S_, .f32⟩
  | .hbm, ⟨3, _⟩ => ⟨S_, .bf16⟩
  | .hbm, ⟨4, _⟩ => ⟨S160x160, .bf16⟩
  | .hbm, ⟨5, _⟩ => ⟨S148x148, .bf16⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S160x160, .bf16⟩
  | .hbm, ⟨12, _⟩ => ⟨S1, .f32⟩
  | .hbm, ⟨13, _⟩ => ⟨S4608x18944, .bf16⟩
  | .hbm, ⟨14, _⟩ => ⟨S4608x18944, .fp8e4m3⟩
  | .hbm, ⟨15, _⟩ => ⟨S1, .f32⟩
  | .local _ .vmem, ⟨0, _⟩ => ⟨S128x18944, .bf16⟩
  | .local _ .vmem, ⟨1, _⟩ => ⟨S128x18944, .bf16⟩
  | .local _ .vmem, ⟨2, _⟩ => ⟨S160x160, .bf16⟩
  | .local _ .vmem, ⟨3, _⟩ => ⟨S128x18944, .fp8e4m3⟩
  | .local _ .vmem, ⟨4, _⟩ => ⟨S128x18944, .fp8e4m3⟩
  | .local _ .vmem, ⟨5, _⟩ => ⟨S4872x128, .i32⟩
  | .local _ .vmem, ⟨6, _⟩ => ⟨S4872x128, .i32⟩
  | .local _ .vmem, ⟨7, _⟩ => ⟨S19536x128, .f32⟩
  | .local _ .vmem, ⟨8, _⟩ => ⟨S8x128, .f32⟩
  | .local _ .smem, ⟨0, _⟩ => ⟨S1, .f32⟩
  | .local _ .smem, ⟨1, _⟩ => ⟨S1, .f32⟩
  | _, _ => ⟨S3x1536x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_stg0_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [BitOps F]

abbrev grid0 : Pipeline.Grid := ⟨1, ![36], ![false]⟩

@[reducible] def k0_t1_loop : Scf.Loop 32 :=
  let c0_i32_1 : BitVec 32 := 0#32
  let c37_i32 : BitVec 32 := 37#32
  let v4 : BitVec 32 := Scalar.addi c0_i32_1 c37_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let c0_i32_11 : BitVec 32 := 0#32
  let v11 : BitVec 32 := Scalar.addi v10 c0_i32_11
  let c256_i32 : BitVec 32 := 256#32
  let v12 : BitVec 32 := Scalar.muli v11 c256_i32
  v12
def k0_off1 (k0_t1 : Fin k0_t1_loop.trips) (c0_i32_11 : BitVec 32) : Fin 2 → Nat :=
  let c0_12 : Index := 0#32
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let v11 : BitVec 32 := Scalar.addi v10 c0_i32_11
  let c256_i32 : BitVec 32 := 256#32
  let v12 : BitVec 32 := Scalar.muli v11 c256_i32
  let v13 : BitVec 32 := v12
  let v14 : Index := Scalar.indexCast v13
  ![0, v14.toNat]
def k0_mult2 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let c0_i32_11 : BitVec 32 := 0#32
  let v11 : BitVec 32 := Scalar.addi v10 c0_i32_11
  let c256_i32_13 : BitVec 32 := 256#32
  let v17 : BitVec 32 := Scalar.muli v11 c256_i32_13
  let c128_i32 : BitVec 32 := 128#32
  let v18 : BitVec 32 := Scalar.addi v17 c128_i32
  v18
def k0_off2 (k0_t1 : Fin k0_t1_loop.trips) (c0_i32_11 : BitVec 32) : Fin 2 → Nat :=
  let c0_14 : Index := 0#32
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let v11 : BitVec 32 := Scalar.addi v10 c0_i32_11
  let c256_i32_13 : BitVec 32 := 256#32
  let v17 : BitVec 32 := Scalar.muli v11 c256_i32_13
  let c128_i32 : BitVec 32 := 128#32
  let v18 : BitVec 32 := Scalar.addi v17 c128_i32
  let v19 : BitVec 32 := v18
  let v20 : Index := Scalar.indexCast v19
  ![0, v20.toNat]
def k0_off3 (k0_t1 : Fin k0_t1_loop.trips) (c0_i32_11 : BitVec 32) (c0_i32_17 : BitVec 32) : Fin 2 → Nat :=
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let v11 : BitVec 32 := Scalar.addi v10 c0_i32_11
  let v38 : BitVec 32 := Scalar.addi v11 c0_i32_17
  let v39 : Index := Scalar.indexCast v38
  let c0_18 : Index := 0#32
  ![v39.toNat, 0]
def k0_mult3 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32_42 : BitVec 32 := 2#32
  let v133 : BitVec 32 := Scalar.muli arg10 c2_i32_42
  let c1_i32_43 : BitVec 32 := 1#32
  let v134 : BitVec 32 := Scalar.addi v133 c1_i32_43
  let c256_i32_44 : BitVec 32 := 256#32
  let v135 : BitVec 32 := Scalar.muli v134 c256_i32_44
  v135
def k0_mult4 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32_42 : BitVec 32 := 2#32
  let v133 : BitVec 32 := Scalar.muli arg10 c2_i32_42
  let c1_i32_43 : BitVec 32 := 1#32
  let v134 : BitVec 32 := Scalar.addi v133 c1_i32_43
  let c256_i32_46 : BitVec 32 := 256#32
  let v140 : BitVec 32 := Scalar.muli v134 c256_i32_46
  let c128_i32_47 : BitVec 32 := 128#32
  let v141 : BitVec 32 := Scalar.addi v140 c128_i32_47
  v141
@[reducible] def k0_t2_loop : Scf.Loop 32 :=
  let c0_i32_3 : BitVec 32 := 0#32
  let c16_i32 : BitVec 32 := 16#32
  let v5 : BitVec 32 := Scalar.addi c0_i32_3 c16_i32
  let c1_i32_4 : BitVec 32 := 1#32
  ⟨c0_i32_3, v5, c1_i32_4⟩
def k0_off4 (k0_t2 : Fin k0_t2_loop.trips) (c0_i32_13 : BitVec 32) : Fin 2 → Nat :=
  let c0_i32_3 : BitVec 32 := 0#32
  let c1_i32_4 : BitVec 32 := 1#32
  let arg10 : BitVec 32 := Scf.iv c0_i32_3 c1_i32_4 k0_t2
  let c4_i32 : BitVec 32 := 4#32
  let v12 : BitVec 32 := Scalar.muli arg10 c4_i32
  let v13 : BitVec 32 := Scalar.addi v12 c0_i32_13
  let c76_i32 : BitVec 32 := 76#32
  let v14 : BitVec 32 := Scalar.muli v13 c76_i32
  let v15 : Index := Scalar.indexCast v14
  let c0_14 : Index := 0#32
  ![v15.toNat, 0]
def k0_off5 (k0_t2 : Fin k0_t2_loop.trips) (c0_i32_36 : BitVec 32) (c0_i32_37 : BitVec 32) : Fin 2 → Nat :=
  let c0_i32_3 : BitVec 32 := 0#32
  let c1_i32_4 : BitVec 32 := 1#32
  let arg10 : BitVec 32 := Scf.iv c0_i32_3 c1_i32_4 k0_t2
  let c8_i32 : BitVec 32 := 8#32
  let v92 : BitVec 32 := Scalar.muli arg10 c8_i32
  let v93 : BitVec 32 := Scalar.addi c0_i32_36 v92
  let v94 : BitVec 32 := Scalar.addi v93 c0_i32_37
  let v95 : Index := Scalar.indexCast v94
  let c0_38 : Index := 0#32
  ![v95.toNat, 0]
def k0_off6 (k0_t2 : Fin k0_t2_loop.trips) (c0_i32_592 : BitVec 32) : Fin 2 → Nat :=
  let c19008_i32 : BitVec 32 := 19008#32
  let c0_i32_3 : BitVec 32 := 0#32
  let c1_i32_4 : BitVec 32 := 1#32
  let arg10 : BitVec 32 := Scf.iv c0_i32_3 c1_i32_4 k0_t2
  let c8_i32_591 : BitVec 32 := 8#32
  let v1677 : BitVec 32 := Scalar.muli arg10 c8_i32_591
  let v1678 : BitVec 32 := Scalar.addi c19008_i32 v1677
  let v1679 : BitVec 32 := Scalar.addi v1678 c0_i32_592
  let v1680 : Index := Scalar.indexCast v1679
  let c0_593 : Index := 0#32
  ![v1680.toNat, 0]
@[reducible] def k0_t3_loop : Scf.Loop 32 :=
  let c0_i32_6 : BitVec 32 := 0#32
  let c37_i32_7 : BitVec 32 := 37#32
  let v6 : BitVec 32 := Scalar.addi c0_i32_6 c37_i32_7
  let c1_i32_8 : BitVec 32 := 1#32
  ⟨c0_i32_6, v6, c1_i32_8⟩
def k0_off7 (k0_t3 : Fin k0_t3_loop.trips) (c0_i32_11 : BitVec 32) (c0_i32_12 : BitVec 32) : Fin 2 → Nat :=
  let c0_i32_6 : BitVec 32 := 0#32
  let c1_i32_8 : BitVec 32 := 1#32
  let arg10 : BitVec 32 := Scf.iv c0_i32_6 c1_i32_8 k0_t3
  let c4_i32 : BitVec 32 := 4#32
  let v10 : BitVec 32 := Scalar.muli arg10 c4_i32
  let v11 : BitVec 32 := Scalar.addi v10 c0_i32_11
  let c132_i32 : BitVec 32 := 132#32
  let v12 : BitVec 32 := Scalar.muli v11 c132_i32
  let v13 : BitVec 32 := Scalar.addi v12 c0_i32_12
  let v14 : Index := Scalar.indexCast v13
  let c0_13 : Index := 0#32
  ![v14.toNat, 0]
def k0_mult5 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32 : BitVec 32 := 4#32
  let v10 : BitVec 32 := Scalar.muli arg10 c4_i32
  let c0_i32_11 : BitVec 32 := 0#32
  let v11 : BitVec 32 := Scalar.addi v10 c0_i32_11
  let c128_i32 : BitVec 32 := 128#32
  let v187 : BitVec 32 := Scalar.muli v11 c128_i32
  v187
def k0_off8 (k0_t3 : Fin k0_t3_loop.trips) (c0_i32_11 : BitVec 32) : Fin 2 → Nat :=
  let c0_51 : Index := 0#32
  let c0_i32_6 : BitVec 32 := 0#32
  let c1_i32_8 : BitVec 32 := 1#32
  let arg10 : BitVec 32 := Scf.iv c0_i32_6 c1_i32_8 k0_t3
  let c4_i32 : BitVec 32 := 4#32
  let v10 : BitVec 32 := Scalar.muli arg10 c4_i32
  let v11 : BitVec 32 := Scalar.addi v10 c0_i32_11
  let c128_i32 : BitVec 32 := 128#32
  let v187 : BitVec 32 := Scalar.muli v11 c128_i32
  let v188 : BitVec 32 := v187
  let v189 : Index := Scalar.indexCast v188
  ![0, v189.toNat]
def k0_mult6 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32_52 : BitVec 32 := 4#32
  let v191 : BitVec 32 := Scalar.muli arg10 c4_i32_52
  let c1_i32_53 : BitVec 32 := 1#32
  let v192 : BitVec 32 := Scalar.addi v191 c1_i32_53
  let c128_i32_109 : BitVec 32 := 128#32
  let v368 : BitVec 32 := Scalar.muli v192 c128_i32_109
  v368
def k0_mult7 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32_111 : BitVec 32 := 4#32
  let v372 : BitVec 32 := Scalar.muli arg10 c4_i32_111
  let c2_i32 : BitVec 32 := 2#32
  let v373 : BitVec 32 := Scalar.addi v372 c2_i32
  let c128_i32_167 : BitVec 32 := 128#32
  let v549 : BitVec 32 := Scalar.muli v373 c128_i32_167
  v549
def k0_mult8 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32_169 : BitVec 32 := 4#32
  let v553 : BitVec 32 := Scalar.muli arg10 c4_i32_169
  let c3_i32 : BitVec 32 := 3#32
  let v554 : BitVec 32 := Scalar.addi v553 c3_i32
  let c128_i32_225 : BitVec 32 := 128#32
  let v730 : BitVec 32 := Scalar.muli v554 c128_i32_225
  v730
def k0_cond2 (i : grid0.Coords) : BitVec 1 :=
  let arg0 : BitVec 32 := BitVec.ofNat 32 (i 0).val
  let c35_i32 : BitVec 32 := 35#32
  let v7 : BitVec 1 := Scalar.cmpi .eq arg0 c35_i32
  let v8 : BitVec 32 := Scalar.extui v7
  let c0_i32_10 : BitVec 32 := 0#32
  let v9 : BitVec 1 := Scalar.cmpi .ne v8 c0_i32_10
  v9

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x18944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x18944 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RotateIdeal.lean ====
abbrev S3x1536x18944 : Shape := ⟨3, ![3, 1536, 18944]⟩
abbrev S148x148 : Shape := ⟨2, ![148, 148]⟩
abbrev S_ : Shape := ⟨0, ![]⟩
abbrev S160x160 : Shape := ⟨2, ![160, 160]⟩
abbrev S1 : Shape := ⟨1, ![1]⟩
abbrev S2 : Shape := ⟨1, ![2]⟩
abbrev S4608x18944 : Shape := ⟨2, ![4608, 18944]⟩
abbrev S128x18944 : Shape := ⟨2, ![128, 18944]⟩
abbrev S4872x128 : Shape := ⟨2, ![4872, 128]⟩
abbrev S4872x2x128 : Shape := ⟨3, ![4872, 2, 128]⟩
abbrev S4872x1x128 : Shape := ⟨3, ![4872, 1, 128]⟩
abbrev S19536x128 : Shape := ⟨2, ![19536, 128]⟩
abbrev S8x128 : Shape := ⟨2, ![8, 128]⟩
abbrev S128x128 : Shape := ⟨2, ![128, 128]⟩
abbrev S64x128 : Shape := ⟨2, ![64, 128]⟩
abbrev S8x2x128 : Shape := ⟨3, ![8, 2, 128]⟩
abbrev S8x1x128 : Shape := ⟨3, ![8, 1, 128]⟩
abbrev S80x128 : Shape := ⟨2, ![80, 128]⟩
abbrev S80x2x128 : Shape := ⟨3, ![80, 2, 128]⟩
abbrev S80x1x128 : Shape := ⟨3, ![80, 1, 128]⟩
abbrev S160x128 : Shape := ⟨2, ![160, 128]⟩
abbrev S160x256 : Shape := ⟨2, ![160, 256]⟩
abbrev S4x128 : Shape := ⟨2, ![4, 128]⟩
abbrev S1x8x128 : Shape := ⟨3, ![1, 8, 128]⟩
abbrev S1x1x1 : Shape := ⟨3, ![1, 1, 1]⟩

abbrev nBuf : Space → Nat
  | .hbm => 16
  | .vmem => 9
  | .smem => 2
  | _ => 0

abbrev bufTy : (tb : Table) → Fin (tcTables nBuf tb) → BufTy
  | .hbm, ⟨0, _⟩ => ⟨S3x1536x18944, .bf16⟩
  | .hbm, ⟨1, _⟩ => ⟨S148x148, .f32⟩
  | .hbm, ⟨2, _⟩ => ⟨S_, .f32⟩
  | .hbm, ⟨3, _⟩ => ⟨S_, .bf16⟩
  | .hbm, ⟨4, _⟩ => ⟨S160x160, .bf16⟩
  | .hbm, ⟨5, _⟩ => ⟨S148x148, .bf16⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S160x160, .bf16⟩
  | .hbm, ⟨12, _⟩ => ⟨S1, .f32⟩
  | .hbm, ⟨13, _⟩ => ⟨S4608x18944, .bf16⟩
  | .hbm, ⟨14, _⟩ => ⟨S4608x18944, .fp8e4m3⟩
  | .hbm, ⟨15, _⟩ => ⟨S1, .f32⟩
  | .local _ .vmem, ⟨0, _⟩ => ⟨S128x18944, .bf16⟩
  | .local _ .vmem, ⟨1, _⟩ => ⟨S128x18944, .bf16⟩
  | .local _ .vmem, ⟨2, _⟩ => ⟨S160x160, .bf16⟩
  | .local _ .vmem, ⟨3, _⟩ => ⟨S128x18944, .fp8e4m3⟩
  | .local _ .vmem, ⟨4, _⟩ => ⟨S128x18944, .fp8e4m3⟩
  | .local _ .vmem, ⟨5, _⟩ => ⟨S4872x2x128, .bf16⟩
  | .local _ .vmem, ⟨6, _⟩ => ⟨S4872x2x128, .bf16⟩
  | .local _ .vmem, ⟨7, _⟩ => ⟨S19536x128, .f32⟩
  | .local _ .vmem, ⟨8, _⟩ => ⟨S8x128, .f32⟩
  | .local _ .smem, ⟨0, _⟩ => ⟨S1, .f32⟩
  | .local _ .smem, ⟨1, _⟩ => ⟨S1, .f32⟩
  | _, _ => ⟨S3x1536x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_stg0_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32_1 : BitVec 32 := 0#32
  let c37_i32 : BitVec 32 := 37#32
  let v4 : BitVec 32 := Scalar.addi c0_i32_1 c37_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let c0_i32_11 : BitVec 32 := 0#32
  let v11 : BitVec 32 := Scalar.addi v10 c0_i32_11
  let c256_i32 : BitVec 32 := 256#32
  let v12 : BitVec 32 := Scalar.muli v11 c256_i32
  v12
def k0_off1 (k0_t1 : Fin k0_t1_loop.trips) (c0_i32_11 : BitVec 32) : Fin 2 → Nat :=
  let c0_12 : Index := 0#32
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let v11 : BitVec 32 := Scalar.addi v10 c0_i32_11
  let c256_i32 : BitVec 32 := 256#32
  let v12 : BitVec 32 := Scalar.muli v11 c256_i32
  let v13 : BitVec 32 := v12
  let v14 : Index := Scalar.indexCast v13
  ![0, v14.toNat]
def k0_mult2 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let c0_i32_11 : BitVec 32 := 0#32
  let v11 : BitVec 32 := Scalar.addi v10 c0_i32_11
  let c256_i32_13 : BitVec 32 := 256#32
  let v17 : BitVec 32 := Scalar.muli v11 c256_i32_13
  let c128_i32 : BitVec 32 := 128#32
  let v18 : BitVec 32 := Scalar.addi v17 c128_i32
  v18
def k0_off2 (k0_t1 : Fin k0_t1_loop.trips) (c0_i32_11 : BitVec 32) : Fin 2 → Nat :=
  let c0_14 : Index := 0#32
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let v11 : BitVec 32 := Scalar.addi v10 c0_i32_11
  let c256_i32_13 : BitVec 32 := 256#32
  let v17 : BitVec 32 := Scalar.muli v11 c256_i32_13
  let c128_i32 : BitVec 32 := 128#32
  let v18 : BitVec 32 := Scalar.addi v17 c128_i32
  let v19 : BitVec 32 := v18
  let v20 : Index := Scalar.indexCast v19
  ![0, v20.toNat]
def k0_off3 (k0_t1 : Fin k0_t1_loop.trips) (c0_i32_11 : BitVec 32) (c0_i32_17 : BitVec 32) : Fin 3 → Nat :=
  let c0_i32_1 : BitVec 32 := 0#32
  let c1_i32 : BitVec 32 := 1#32
  let arg10 : BitVec 32 := Scf.iv c0_i32_1 c1_i32 k0_t1
  let c2_i32 : BitVec 32 := 2#32
  let v10 : BitVec 32 := Scalar.muli arg10 c2_i32
  let v11 : BitVec 32 := Scalar.addi v10 c0_i32_11
  let v38 : BitVec 32 := Scalar.addi v11 c0_i32_17
  let v39 : Index := Scalar.indexCast v38
  let c0_18 : Index := 0#32
  ![v39.toNat, 0, 0]
def k0_mult3 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32_42 : BitVec 32 := 2#32
  let v133 : BitVec 32 := Scalar.muli arg10 c2_i32_42
  let c1_i32_43 : BitVec 32 := 1#32
  let v134 : BitVec 32 := Scalar.addi v133 c1_i32_43
  let c256_i32_44 : BitVec 32 := 256#32
  let v135 : BitVec 32 := Scalar.muli v134 c256_i32_44
  v135
def k0_mult4 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c2_i32_42 : BitVec 32 := 2#32
  let v133 : BitVec 32 := Scalar.muli arg10 c2_i32_42
  let c1_i32_43 : BitVec 32 := 1#32
  let v134 : BitVec 32 := Scalar.addi v133 c1_i32_43
  let c256_i32_46 : BitVec 32 := 256#32
  let v140 : BitVec 32 := Scalar.muli v134 c256_i32_46
  let c128_i32_47 : BitVec 32 := 128#32
  let v141 : BitVec 32 := Scalar.addi v140 c128_i32_47
  v141
@[reducible] def k0_t2_loop : Scf.Loop 32 :=
  let c0_i32_3 : BitVec 32 := 0#32
  let c16_i32 : BitVec 32 := 16#32
  let v5 : BitVec 32 := Scalar.addi c0_i32_3 c16_i32
  let c1_i32_4 : BitVec 32 := 1#32
  ⟨c0_i32_3, v5, c1_i32_4⟩
def k0_off4 (k0_t2 : Fin k0_t2_loop.trips) (c0_i32_13 : BitVec 32) : Fin 3 → Nat :=
  let c0_i32_3 : BitVec 32 := 0#32
  let c1_i32_4 : BitVec 32 := 1#32
  let arg10 : BitVec 32 := Scf.iv c0_i32_3 c1_i32_4 k0_t2
  let c4_i32 : BitVec 32 := 4#32
  let v12 : BitVec 32 := Scalar.muli arg10 c4_i32
  let v13 : BitVec 32 := Scalar.addi v12 c0_i32_13
  let c76_i32 : BitVec 32 := 76#32
  let v14 : BitVec 32 := Scalar.muli v13 c76_i32
  let v15 : Index := Scalar.indexCast v14
  let c0_14 : Index := 0#32
  ![v15.toNat, 0, 0]
def k0_off5 (k0_t2 : Fin k0_t2_loop.trips) (c0_i32_36 : BitVec 32) (c0_i32_37 : BitVec 32) : Fin 2 → Nat :=
  let c0_i32_3 : BitVec 32 := 0#32
  let c1_i32_4 : BitVec 32 := 1#32
  let arg10 : BitVec 32 := Scf.iv c0_i32_3 c1_i32_4 k0_t2
  let c8_i32 : BitVec 32 := 8#32
  let v92 : BitVec 32 := Scalar.muli arg10 c8_i32
  let v93 : BitVec 32 := Scalar.addi c0_i32_36 v92
  let v94 : BitVec 32 := Scalar.addi v93 c0_i32_37
  let v95 : Index := Scalar.indexCast v94
  let c0_38 : Index := 0#32
  ![v95.toNat, 0]
def k0_off6 (k0_t2 : Fin k0_t2_loop.trips) (c0_i32_592 : BitVec 32) : Fin 2 → Nat :=
  let c19008_i32 : BitVec 32 := 19008#32
  let c0_i32_3 : BitVec 32 := 0#32
  let c1_i32_4 : BitVec 32 := 1#32
  let arg10 : BitVec 32 := Scf.iv c0_i32_3 c1_i32_4 k0_t2
  let c8_i32_591 : BitVec 32 := 8#32
  let v1677 : BitVec 32 := Scalar.muli arg10 c8_i32_591
  let v1678 : BitVec 32 := Scalar.addi c19008_i32 v1677
  let v1679 : BitVec 32 := Scalar.addi v1678 c0_i32_592
  let v1680 : Index := Scalar.indexCast v1679
  let c0_593 : Index := 0#32
  ![v1680.toNat, 0]
@[reducible] def k0_t3_loop : Scf.Loop 32 :=
  let c0_i32_6 : BitVec 32 := 0#32
  let c37_i32_7 : BitVec 32 := 37#32
  let v6 : BitVec 32 := Scalar.addi c0_i32_6 c37_i32_7
  let c1_i32_8 : BitVec 32 := 1#32
  ⟨c0_i32_6, v6, c1_i32_8⟩
def k0_off7 (k0_t3 : Fin k0_t3_loop.trips) (c0_i32_11 : BitVec 32) (c0_i32_12 : BitVec 32) : Fin 2 → Nat :=
  let c0_i32_6 : BitVec 32 := 0#32
  let c1_i32_8 : BitVec 32 := 1#32
  let arg10 : BitVec 32 := Scf.iv c0_i32_6 c1_i32_8 k0_t3
  let c4_i32 : BitVec 32 := 4#32
  let v10 : BitVec 32 := Scalar.muli arg10 c4_i32
  let v11 : BitVec 32 := Scalar.addi v10 c0_i32_11
  let c132_i32 : BitVec 32 := 132#32
  let v12 : BitVec 32 := Scalar.muli v11 c132_i32
  let v13 : BitVec 32 := Scalar.addi v12 c0_i32_12
  let v14 : Index := Scalar.indexCast v13
  let c0_13 : Index := 0#32
  ![v14.toNat, 0]
def k0_mult5 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32 : BitVec 32 := 4#32
  let v10 : BitVec 32 := Scalar.muli arg10 c4_i32
  let c0_i32_11 : BitVec 32 := 0#32
  let v11 : BitVec 32 := Scalar.addi v10 c0_i32_11
  let c128_i32 : BitVec 32 := 128#32
  let v187 : BitVec 32 := Scalar.muli v11 c128_i32
  v187
def k0_off8 (k0_t3 : Fin k0_t3_loop.trips) (c0_i32_11 : BitVec 32) : Fin 2 → Nat :=
  let c0_51 : Index := 0#32
  let c0_i32_6 : BitVec 32 := 0#32
  let c1_i32_8 : BitVec 32 := 1#32
  let arg10 : BitVec 32 := Scf.iv c0_i32_6 c1_i32_8 k0_t3
  let c4_i32 : BitVec 32 := 4#32
  let v10 : BitVec 32 := Scalar.muli arg10 c4_i32
  let v11 : BitVec 32 := Scalar.addi v10 c0_i32_11
  let c128_i32 : BitVec 32 := 128#32
  let v187 : BitVec 32 := Scalar.muli v11 c128_i32
  let v188 : BitVec 32 := v187
  let v189 : Index := Scalar.indexCast v188
  ![0, v189.toNat]
def k0_mult6 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32_52 : BitVec 32 := 4#32
  let v191 : BitVec 32 := Scalar.muli arg10 c4_i32_52
  let c1_i32_53 : BitVec 32 := 1#32
  let v192 : BitVec 32 := Scalar.addi v191 c1_i32_53
  let c128_i32_109 : BitVec 32 := 128#32
  let v368 : BitVec 32 := Scalar.muli v192 c128_i32_109
  v368
def k0_mult7 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32_111 : BitVec 32 := 4#32
  let v372 : BitVec 32 := Scalar.muli arg10 c4_i32_111
  let c2_i32 : BitVec 32 := 2#32
  let v373 : BitVec 32 := Scalar.addi v372 c2_i32
  let c128_i32_167 : BitVec 32 := 128#32
  let v549 : BitVec 32 := Scalar.muli v373 c128_i32_167
  v549
def k0_mult8 (k0_t3 : Fin k0_t3_loop.trips) : BitVec 32 :=
  let c0_i32_6 : BitVec 32 := 0#32
  let c1_i32_8 : BitVec 32 := 1#32
  let arg10 : BitVec 32 := Scf.iv c0_i32_6 c1_i32_8 k0_t3
  let c4_i32_169 : BitVec 32 := 4#32
  let v553 : BitVec 32 := Scalar.muli arg10 c4_i32_169
  let c3_i32 : BitVec 32 := 3#32
  let v554 : BitVec 32 := Scalar.addi v553 c3_i32
  let c128_i32_225 : BitVec 32 := 128#32
  let v730 : BitVec 32 := Scalar.muli v554 c128_i32_225
  v730
def k0_cond2 (i : grid0.Coords) : BitVec 1 :=
  let arg0 : BitVec 32 := BitVec.ofNat 32 (i 0).val
  let c35_i32 : BitVec 32 := 35#32
  let v7 : BitVec 1 := Scalar.cmpi .eq arg0 c35_i32
  let v8 : BitVec 32 := Scalar.extui v7
  let c0_i32_10 : BitVec 32 := 0#32
  let v9 : BitVec 1 := Scalar.cmpi .ne v8 c0_i32_10
  v9

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x18944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x18944 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RotateRefIdeal.lean ====
abbrev S3x1536x18944 : Shape := ⟨3, ![3, 1536, 18944]⟩
abbrev S148x148 : Shape := ⟨2, ![148, 148]⟩
abbrev S_ : Shape := ⟨0, ![]⟩
abbrev S3x1536x148x128 : Shape := ⟨4, ![3, 1536, 148, 128]⟩
abbrev S148x3x1536x128 : Shape := ⟨4, ![148, 3, 1536, 128]⟩
abbrev S3x1536x148x64x2x1 : Shape := ⟨6, ![3, 1536, 148, 64, 2, 1]⟩
abbrev S3x1536x148x64x1x1 : Shape := ⟨6, ![3, 1536, 148, 64, 1, 1]⟩
abbrev S3x1536x148x64x1 : Shape := ⟨5, ![3, 1536, 148, 64, 1]⟩
abbrev S3x1536x148x32x2x2 : Shape := ⟨6, ![3, 1536, 148, 32, 2, 2]⟩
abbrev S3x1536x148x32x1x2 : Shape := ⟨6, ![3, 1536, 148, 32, 1, 2]⟩
abbrev S3x1536x148x32x2 : Shape := ⟨5, ![3, 1536, 148, 32, 2]⟩
abbrev S3x1536x148x16x2x4 : Shape := ⟨6, ![3, 1536, 148, 16, 2, 4]⟩
abbrev S3x1536x148x16x1x4 : Shape := ⟨6, ![3, 1536, 148, 16, 1, 4]⟩
abbrev S3x1536x148x16x4 : Shape := ⟨5, ![3, 1536, 148, 16, 4]⟩
abbrev S3x1536x148x8x2x8 : Shape := ⟨6, ![3, 1536, 148, 8, 2, 8]⟩
abbrev S3x1536x148x8x1x8 : Shape := ⟨6, ![3, 1536, 148, 8, 1, 8]⟩
abbrev S3x1536x148x8x8 : Shape := ⟨5, ![3, 1536, 148, 8, 8]⟩
abbrev S3x1536x148x4x2x16 : Shape := ⟨6, ![3, 1536, 148, 4, 2, 16]⟩
abbrev S3x1536x148x4x1x16 : Shape := ⟨6, ![3, 1536, 148, 4, 1, 16]⟩
abbrev S3x1536x148x4x16 : Shape := ⟨5, ![3, 1536, 148, 4, 16]⟩
abbrev S3x1536x148x2x2x32 : Shape := ⟨6, ![3, 1536, 148, 2, 2, 32]⟩
abbrev S3x1536x148x2x1x32 : Shape := ⟨6, ![3, 1536, 148, 2, 1, 32]⟩
abbrev S3x1536x148x2x32 : Shape := ⟨5, ![3, 1536, 148, 2, 32]⟩
abbrev S3x1536x148x1x2x64 : Shape := ⟨6, ![3, 1536, 148, 1, 2, 64]⟩
abbrev S3x1536x148x1x1x64 : Shape := ⟨6, ![3, 1536, 148, 1, 1, 64]⟩
abbrev S3x1536x148x1x64 : Shape := ⟨5, ![3, 1536, 148, 1, 64]⟩
abbrev S4608x18944 : Shape := ⟨2, ![4608, 18944]⟩
abbrev S1 : Shape := ⟨1, ![1]⟩

abbrev nBuf : Space → Nat
  | .hbm => 104
  | .vmem => 0
  | .smem => 0
  | _ => 0

abbrev bufTy : (tb : Table) → Fin (tcTables nBuf tb) → BufTy
  | .hbm, ⟨0, _⟩ => ⟨S3x1536x18944, .bf16⟩
  | .hbm, ⟨1, _⟩ => ⟨S148x148, .f32⟩
  | .hbm, ⟨2, _⟩ => ⟨S_, .f32⟩
  | .hbm, ⟨3, _⟩ => ⟨S3x1536x18944, .f32⟩
  | .hbm, ⟨4, _⟩ => ⟨S3x1536x148x128, .f32⟩
  | .hbm, ⟨5, _⟩ => ⟨S148x3x1536x128, .f32⟩
  | .hbm, ⟨6, _⟩ => ⟨S3x1536x148x128, .f32⟩
  | .hbm, ⟨7, _⟩ => ⟨S3x1536x148x64x2x1, .f32⟩
  | .hbm, ⟨8, _⟩ => ⟨S3x1536x148x64x1x1, .f32⟩
  | .hbm, ⟨9, _⟩ => ⟨S3x1536x148x64x1, .f32⟩
  | .hbm, ⟨10, _⟩ => ⟨S3x1536x148x64x1x1, .f32⟩
  | .hbm, ⟨11, _⟩ => ⟨S3x1536x148x64x1, .f32⟩
  | .hbm, ⟨12, _⟩ => ⟨S3x1536x148x64x1, .f32⟩
  | .hbm, ⟨13, _⟩ => ⟨S3x1536x148x64x1, .f32⟩
  | .hbm, ⟨14, _⟩ => ⟨S3x1536x148x64x1x1, .f32⟩
  | .hbm, ⟨15, _⟩ => ⟨S3x1536x148x64x1x1, .f32⟩
  | .hbm, ⟨16, _⟩ => ⟨S3x1536x148x64x2x1, .f32⟩
  | .hbm, ⟨17, _⟩ => ⟨S3x1536x148x128, .f32⟩
  | .hbm, ⟨18, _⟩ => ⟨S3x1536x148x32x2x2, .f32⟩
  | .hbm, ⟨19, _⟩ => ⟨S3x1536x148x32x1x2, .f32⟩
  | .hbm, ⟨20, _⟩ => ⟨S3x1536x148x32x2, .f32⟩
  | .hbm, ⟨21, _⟩ => ⟨S3x1536x148x32x1x2, .f32⟩
  | .hbm, ⟨22, _⟩ => ⟨S3x1536x148x32x2, .f32⟩
  | .hbm, ⟨23, _⟩ => ⟨S3x1536x148x32x2, .f32⟩
  | .hbm, ⟨24, _⟩ => ⟨S3x1536x148x32x2, .f32⟩
  | .hbm, ⟨25, _⟩ => ⟨S3x1536x148x32x1x2, .f32⟩
  | .hbm, ⟨26, _⟩ => ⟨S3x1536x148x32x1x2, .f32⟩
  | .hbm, ⟨27, _⟩ => ⟨S3x1536x148x32x2x2, .f32⟩
  | .hbm, ⟨28, _⟩ => ⟨S3x1536x148x128, .f32⟩
  | .hbm, ⟨29, _⟩ => ⟨S3x1536x148x16x2x4, .f32⟩
  | .hbm, ⟨30, _⟩ => ⟨S3x1536x148x16x1x4, .f32⟩
  | .hbm, ⟨31, _⟩ => ⟨S3x1536x148x16x4, .f32⟩
  | .hbm, ⟨32, _⟩ => ⟨S3x1536x148x16x1x4, .f32⟩
  | .hbm, ⟨33, _⟩ => ⟨S3x1536x148x16x4, .f32⟩
  | .hbm, ⟨34, _⟩ => ⟨S3x1536x148x16x4, .f32⟩
  | .hbm, ⟨35, _⟩ => ⟨S3x1536x148x16x4, .f32⟩
  | .hbm, ⟨36, _⟩ => ⟨S3x1536x148x16x1x4, .f32⟩
  | .hbm, ⟨37, _⟩ => ⟨S3x1536x148x16x1x4, .f32⟩
  | .hbm, ⟨38, _⟩ => ⟨S3x1536x148x16x2x4, .f32⟩
  | .hbm, ⟨39, _⟩ => ⟨S3x1536x148x128, .f32⟩
  | .hbm, ⟨40, _⟩ => ⟨S3x1536x148x8x2x8, .f32⟩
  | .hbm, ⟨41, _⟩ => ⟨S3x1536x148x8x1x8, .f32⟩
  | .hbm, ⟨42, _⟩ => ⟨S3x1536x148x8x8, .f32⟩
  | .hbm, ⟨43, _⟩ => ⟨S3x1536x148x8x1x8, .f32⟩
  | .hbm, ⟨44, _⟩ => ⟨S3x1536x148x8x8, .f32⟩
  | .hbm, ⟨45, _⟩ => ⟨S3x1536x148x8x8, .f32⟩
  | .hbm, ⟨46, _⟩ => ⟨S3x1536x148x8x8, .f32⟩
  | .hbm, ⟨47, _⟩ => ⟨S3x1536x148x8x1x8, .f32⟩
  | .hbm, ⟨48, _⟩ => ⟨S3x1536x148x8x1x8, .f32⟩
  | .hbm, ⟨49, _⟩ => ⟨S3x1536x148x8x2x8, .f32⟩
  | .hbm, ⟨50, _⟩ => ⟨S3x1536x148x128, .f32⟩
  | .hbm, ⟨51, _⟩ => ⟨S3x1536x148x4x2x16, .f32⟩
  | .hbm, ⟨52, _⟩ => ⟨S3x1536x148x4x1x16, .f32⟩
  | .hbm, ⟨53, _⟩ => ⟨S3x1536x148x4x16, .f32⟩
  | .hbm, ⟨54, _⟩ => ⟨S3x1536x148x4x1x16, .f32⟩
  | .hbm, ⟨55, _⟩ => ⟨S3x1536x148x4x16, .f32⟩
  | .hbm, ⟨56, _⟩ => ⟨S3x1536x148x4x16, .f32⟩
  | .hbm, ⟨57, _⟩ => ⟨S3x1536x148x4x16, .f32⟩
  | .hbm, ⟨58, _⟩ => ⟨S3x1536x148x4x1x16, .f32⟩
  | .hbm, ⟨59, _⟩ => ⟨S3x1536x148x4x1x16, .f32⟩
  | .hbm, ⟨60, _⟩ => ⟨S3x1536x148x4x2x16, .f32⟩
  | .hbm, ⟨61, _⟩ => ⟨S3x1536x148x128, .f32⟩
  | .hbm, ⟨62, _⟩ => ⟨S3x1536x148x2x2x32, .f32⟩
  | .hbm, ⟨63, _⟩ => ⟨S3x1536x148x2x1x32, .f32⟩
  | .hbm, ⟨64, _⟩ => ⟨S3x1536x148x2x32, .f32⟩
  | .hbm, ⟨65, _⟩ => ⟨S3x1536x148x2x1x32, .f32⟩
  | .hbm, ⟨66, _⟩ => ⟨S3x1536x148x2x32, .f32⟩
  | .hbm, ⟨67, _⟩ => ⟨S3x1536x148x2x32, .f32⟩
  | .hbm, ⟨68, _⟩ => ⟨S3x1536x148x2x32, .f32⟩
  | .hbm, ⟨69, _⟩ => ⟨S3x1536x148x2x1x32, .f32⟩
  | .hbm, ⟨70, _⟩ => ⟨S3x1536x148x2x1x32, .f32⟩
  | .hbm, ⟨71, _⟩ => ⟨S3x1536x148x2x2x32, .f32⟩
  | .hbm, ⟨72, _⟩ => ⟨S3x1536x148x128, .f32⟩
  | .hbm, ⟨73, _⟩ => ⟨S3x1536x148x1x2x64, .f32⟩
  | .hbm, ⟨74, _⟩ => ⟨S3x1536x148x1x1x64, .f32⟩
  | .hbm, ⟨75, _⟩ => ⟨S3x1536x148x1x64, .f32⟩
  | .hbm, ⟨76, _⟩ => ⟨S3x1536x148x1x1x64, .f32⟩
  | .hbm, ⟨77, _⟩ => ⟨S3x1536x148x1x64, .f32⟩
  | .hbm, ⟨78, _⟩ => ⟨S3x1536x148x1x64, .f32⟩
  | .hbm, ⟨79, _⟩ => ⟨S3x1536x148x1x64, .f32⟩
  | .hbm, ⟨80, _⟩ => ⟨S3x1536x148x1x1x64, .f32⟩
  | .hbm, ⟨81, _⟩ => ⟨S3x1536x148x1x1x64, .f32⟩
  | .hbm, ⟨82, _⟩ => ⟨S3x1536x148x1x2x64, .f32⟩
  | .hbm, ⟨83, _⟩ => ⟨S3x1536x148x128, .f32⟩
  | .hbm, ⟨84, _⟩ => ⟨S_, .f32⟩
  | .hbm, ⟨85, _⟩ => ⟨S3x1536x148x128, .f32⟩
  | .hbm, ⟨86, _⟩ => ⟨S3x1536x148x128, .f32⟩
  | .hbm, ⟨87, _⟩ => ⟨S3x1536x18944, .f32⟩
  | .hbm, ⟨88, _⟩ => ⟨S3x1536x18944, .f32⟩
  | .hbm, ⟨89, _⟩ => ⟨S3x1536x18944, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S3x1536x18944, .f32⟩
  | .hbm, ⟨94, _⟩ => ⟨S3x1536x18944, .f32⟩
  | .hbm, ⟨95, _⟩ => ⟨S_, .f32⟩
  | .hbm, ⟨96, _⟩ => ⟨S3x1536x18944, .f32⟩
  | .hbm, ⟨97, _⟩ => ⟨S3x1536x18944, .f32⟩
  | .hbm, ⟨98, _⟩ => ⟨S3x1536x18944, .fp8e4m3⟩
  | .hbm, ⟨99, _⟩ => ⟨S3x1536x18944, .f32⟩
  | .hbm, ⟨100, _⟩ => ⟨S_, .f32⟩
  | .hbm, ⟨101, _⟩ => ⟨S_, .f32⟩
  | .hbm, ⟨102, _⟩ => ⟨S4608x18944, .fp8e4m3⟩
  | .hbm, ⟨103, _⟩ => ⟨S1, .f32⟩
  | _, _ => ⟨S3x1536x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_cst : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_cst_0 : Ref sig .tc := ⟨.hbm, 90, rfl⟩
abbrev main_cst_1 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_2 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩

abbrev nD : Nat := 1
abbrev τ : Topo := Topo.v7x

variable {F : FTy → Type} [FloatOps F]
-- ==== Proof.DownValue.lean ====
/-
  The value of the down projection: what the tiled kernel's result array holds after the run, and what the one-block
  reference's holds, each as one function of the four arguments, at the ideal instance.
-/
module

public import proofs.«01_k».proof.Proof.Gen.DownIdeal.Frame
public import proofs.«01_k».proof.Proof.Gen.DownIdeal.Value
public import proofs.«01_k».proof.Proof.Gen.DownRefIdeal.Frame
public import proofs.«01_k».proof.Proof.Gen.DownRefIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownValue

/-- The down projection: row times column of the codes, times the activations' scale, times the column's scale. -/
def G (x : FVec Ideal ⟨2, ![4608, 18944]⟩ .fp8e4m3) (s : FVec Ideal ⟨0, ![]⟩ .f32)
    (w : FVec Ideal ⟨2, ![18944, 3584]⟩ .fp8e4m3) (ws : FVec Ideal ⟨1, ![3584]⟩ .f32) :
    FVec Ideal ⟨2, ![4608, 3584]⟩ .bf16 := fun i =>
  ((((∑ k : Fin 18944, (x (ix2 (i 0) k) : EReal) * (w (ix2 k (i 1)) : EReal)) * (s ix0 : EReal)) * (ws (ix1 (i 1)) : EReal) : EReal))

end Cert.DownValue

/-! ## The tiled kernel -/

namespace Cert.DownIdeal.RefValue

open Cert.DownIdeal Cert.DownIdeal.Gen

variable (m : (ℓ : Loc nD τ sig) → Buf (Elt Ideal) ℓ)

/-- What the body stores at an element of its block, from the loaded blocks. -/
theorem pay_apply (x : Vec Ideal S512x18944 .fp8e4m3) (w : Vec Ideal S18944x512 .fp8e4m3) (s : Elt Ideal .f32)
    (ws : Vec Ideal S1x512 .f32) (j : S512x512.Idx) :
    k0_pay1 x w s ws j
      = (((∑ k : Fin 18944, (x (ix2 (j 0) k) : EReal) * (w (ix2 k (j 1)) : EReal)) * s) * (ws (ix2 0 (j 1)) : EReal) : EReal) := by
  idx_vars j
  pointwise [k0_pay1]

/-- The index maps of the five windows. -/
theorem idx : ∀ t : Fin cfg0.N, win0_0.index t = ![0] ∧ win0_1.index t = ![win0_4.index t 0, 0]
    ∧ win0_2.index t = ![0, win0_4.index t 1] ∧ win0_3.index t = ![0, win0_4.index t 1] :=
  (by decide +kernel : ∀ t : Fin grid0.N, _)

theorem final (c : Dev nD) : (dats m 0 c).arrAt 4 cfg0.N
    = Cert.DownValue.G (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  rw [pay_apply]
  unfold Cert.DownValue.G
  blk_point [iblk, V, idx t]
  -- the scale: a one-element array reshaped from a scalar
  rw [show (V m c (Pipeline.arrRef spec0 0) : Vec Ideal S1 .f32)
      = shapeCast S1 (m (c.tc.loc main_arg1) : Vec Ideal ⟨0, ![]⟩ .f32) shapeCasts_S_S1 from by entry_read; rfl]
  show (m (c.tc.loc main_arg1) : Vec Ideal ⟨0, ![]⟩ .f32) _ = _
  congr 1

end Cert.DownIdeal.RefValue

/-! ## The reference -/

namespace Cert.DownRefIdeal.RefValue

open Cert.DownRefIdeal Cert.DownRefIdeal.Gen

variable (m : (ℓ : Loc nD τ sig) → Buf (Elt Ideal) ℓ)

/-- What the body stores at an element of its block, from the loaded blocks. -/
theorem pay_apply (x : Vec Ideal S4608x18944 .fp8e4m3) (w : Vec Ideal S18944x3584 .fp8e4m3) (s : Vec Ideal S1x1 .f32)
    (ws : Vec Ideal S1x3584 .f32) (j : S4608x3584.Idx) :
    k0_pay1 x w s ws j
      = (((∑ k : Fin 18944, (x (ix2 (j 0) k) : EReal) * (w (ix2 k (j 1)) : EReal)) * (s (ix2 0 0) : EReal))
          * (ws (ix2 0 (j 1)) : EReal) : EReal) := by
  idx_vars j
  pointwise [k0_pay1]

theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

theorem final (c : Dev nD) : (dats m 0 c).arrAt 4 cfg0.N
    = Cert.DownValue.G (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_apply]
  unfold Cert.DownValue.G
  blk_point [iblk, V, idx t]

end Cert.DownRefIdeal.RefValue

end
-- ==== Proof.RotateT.Preserves.lean ====
/-
  Which bfloat16-pair rewrites the rotation's exact form rests on: each is an instance of the library's proofs.
-/
module

public import proofs.«01_k».proof.Defs
public import proofs.«01_k».proof.Proof.Gen.RotateIdeal
public import Idealize.ShloMosaic.Lib.Bf16PairInverse

@[expose] public section
noncomputable section
open Idealize.ShloMosaic Idealize.SL.Sem

namespace Cert.Proof

/-- The scratch of packed words read as pairs of rows, the packed stores and loads, and the words read as rows. -/
theorem preservesRotate : Cert.preserves_Rotate_RotateIdeal :=
  open Cert.RotateIdeal IdealRules.bf16_pair in
  ⟨bufferStatement S4872x2x128 S4872x1x128, statement S4872x2x128 S4872x1x128, selectZeroStatement S4872x128,
    statement S128x128 S64x128, statement S8x2x128 S8x1x128, statement S80x2x128 S80x1x128, statement S160x128 S80x128⟩

end Cert.Proof

end
-- ==== Proof.RotateT.RotateT1.lean ====
module

public import proofs.«01_k».proof.Proof.Gen.Rotate.Skeleton
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Rotate.Trip

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
local notation "𝕄G" => MT nD τ sig Unit (Elt F) ℕ (UR sig nD τ) ℕ

/-- One trip's resources of the transposing loop: the tile it reads at its contents, the two scratch
   buffers it writes at any. -/
abbrev Trip1 (c : Dev nD) (arg2 : Memref sig .tc .vmem S128x18944 .bf16) (arg6 : Memref sig .tc .vmem S4872x128 .i32) (arg7 : Memref sig .tc .vmem S4872x128 .i32) (X2 : BufTy.Contents (Elt F) arg2.view.ty) (f6 : BufTy.Contents (Elt F) arg6.view.ty) (f7 : BufTy.Contents (Elt F) arg7.view.ty) : sProp 𝕄G :=
  iprop((arg2.view.loc (c : Thread nD τ) ↦[arg2.view.set]{fullShare} X2) ∗ (arg6.view.loc (c : Thread nD τ) ↦[arg6.view.set]{fullShare} f6) ∗ (arg7.view.loc (c : Thread nD τ) ↦[arg7.view.set]{fullShare} f7))

/-- One trip of the transposing loop at a symbolic trip number: the pieces it writes. -/
@[irreducible] def trip1 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (k : Fin k0_t1_loop.trips) :
    Σ' (L6 : List (View.Piece (Elt F) S4872x128 .i32)), { L7 : List (View.Piece (Elt F) S4872x128 .i32) // ∀ (E : Set ℕ) (f6 : BufTy.Contents (Elt F) arg6.view.ty) (f7 : BufTy.Contents (Elt F) arg7.view.ty),
      Trip1 (F := F) c arg2 arg6 arg7 X2 f6 f7
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 k PUnit.unit)
          (fun _ => Trip1 (F := F) c arg2 arg6 arg7 X2 (arg6.view.writes (Elt F) f6 L6) (arg7.view.writes (Elt F) f7 L7)) } := by
  have hk : k.val < 37 := Nat.lt_of_lt_of_le k.isLt k0_t1_abs.2.1
  refine ⟨?_, ?_, fun E f6 f7 => ?run⟩
  case run =>
    unfold k0_t1_body
    iintro ⟨H2, H6, H7⟩
    sl_exec
    sl_step
    sl_close

end Cert.Rotate.Trip
-- ==== Proof.RotateT.RotateT2.lean ====
module

public import proofs.«01_k».proof.Proof.RotateT.RotateT1

@[expose] public section

set_option maxRecDepth 16384
set_option maxHeartbeats 4000000

noncomputable section

namespace Cert.Rotate.Trip

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
local notation "𝕄G" => MT nD τ sig Unit (Elt F) ℕ (UR sig nD τ) ℕ

/-- One trip's resources of the loop of the dense factor: the matrix and the two transposed tiles at
   their contents, the array of partial transforms at any. -/
abbrev Trip2 (c : Dev nD) (arg3 : Memref sig .tc .vmem S160x160 .bf16) (arg6 : Memref sig .tc .vmem S4872x128 .i32) (arg7 : Memref sig .tc .vmem S4872x128 .i32) (arg8 : Memref sig .tc .vmem S19536x128 .f32) (X3 : BufTy.Contents (Elt F) arg3.view.ty) (X6 : BufTy.Contents (Elt F) arg6.view.ty) (X7 : BufTy.Contents (Elt F) arg7.view.ty) (f8 : BufTy.Contents (Elt F) arg8.view.ty) : sProp 𝕄G :=
  iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8))

/-- One trip of the loop of the dense factor at a symbolic trip number: the pieces it writes. -/
@[irreducible] def trip2 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (k : Fin k0_t2_loop.trips) :
    { L8 : List (View.Piece (Elt F) S19536x128 .f32) // ∀ (E : Set ℕ) (f8 : BufTy.Contents (Elt F) arg8.view.ty),
      Trip2 (F := F) c arg3 arg6 arg7 arg8 X3 X6 X7 f8
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 k PUnit.unit)
          (fun _ => Trip2 (F := F) c arg3 arg6 arg7 arg8 X3 X6 X7 (arg8.view.writes (Elt F) f8 L8)) } := by
  have hk : k.val < 16 := Nat.lt_of_lt_of_le k.isLt k0_t2_abs.2.1
  refine ⟨?_, fun E f8 => ?run⟩
  case run =>
    unfold k0_t2_body
    iintro ⟨H3, H6, H7, H8⟩
    sl_exec
    sl_step
    sl_close

end Cert.Rotate.Trip
-- ==== Proof.RotateT.RotateLoops.lean ====
module

public import proofs.«01_k».proof.Proof.RotateT.RotateT1
public import proofs.«01_k».proof.Proof.RotateT.RotateT2
public import proofs.«01_k».proof.Proof.Gen.Rotate.Loops

@[expose] public section

set_option maxRecDepth 16384
set_option maxHeartbeats 4000000

noncomputable section

namespace Cert.Rotate.Trip

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
local notation "𝕄G" => MT nD τ sig Unit (Elt F) ℕ (UR sig nD τ) ℕ

/-- Trip `k`'s pieces of the transposing loop in front of the earlier ones. -/
@[irreducible] def pb1Step (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (k : ℕ) (prev : List (View.Piece (Elt F) S4872x128 .i32) × List (View.Piece (Elt F) S4872x128 .i32)) : List (View.Piece (Elt F) S4872x128 .i32) × List (View.Piece (Elt F) S4872x128 .i32) :=
  if h : k < k0_t1_loop.trips then
    ((trip1 (F := F) 𝒱 c bd i arg1 harg1 arg2 harg2 arg3 harg3 arg4 harg4 arg5 harg5 arg6 harg6 arg7 harg7 arg8 harg8 arg9 harg9 X2 ⟨k, h⟩).1 ++ prev.1, (trip1 (F := F) 𝒱 c bd i arg1 harg1 arg2 harg2 arg3 harg3 arg4 harg4 arg5 harg5 arg6 harg6 arg7 harg7 arg8 harg8 arg9 harg9 X2 ⟨k, h⟩).2.1 ++ prev.2)
  else prev

/-- The pieces of the transposing loop's trips before `k`, last first. -/
def pb1 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) : ℕ → List (View.Piece (Elt F) S4872x128 .i32) × List (View.Piece (Elt F) S4872x128 .i32)
  | 0 => ([], [])
  | k + 1 => pb1Step 𝒱 c bd i arg1 harg1 arg2 harg2 arg3 harg3 arg4 harg4 arg5 harg5 arg6 harg6 arg7 harg7 arg8 harg8 arg9 harg9 X2 k (pb1 𝒱 c bd i arg1 harg1 arg2 harg2 arg3 harg3 arg4 harg4 arg5 harg5 arg6 harg6 arg7 harg7 arg8 harg8 arg9 harg9 X2 k)

theorem pb1_succ (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (k : Fin k0_t1_loop.trips) :
    pb1 (F := F) 𝒱 c bd i arg1 harg1 arg2 harg2 arg3 harg3 arg4 harg4 arg5 harg5 arg6 harg6 arg7 harg7 arg8 harg8 arg9 harg9 X2 (k.val + 1)
      = ((trip1 (F := F) 𝒱 c bd i arg1 harg1 arg2 harg2 arg3 harg3 arg4 harg4 arg5 harg5 arg6 harg6 arg7 harg7 arg8 harg8 arg9 harg9 X2 k).1 ++ (pb1 (F := F) 𝒱 c bd i arg1 harg1 arg2 harg2 arg3 harg3 arg4 harg4 arg5 harg5 arg6 harg6 arg7 harg7 arg8 harg8 arg9 harg9 X2 k.val).1, (trip1 (F := F) 𝒱 c bd i arg1 harg1 arg2 harg2 arg3 harg3 arg4 harg4 arg5 harg5 arg6 harg6 arg7 harg7 arg8 harg8 arg9 harg9 X2 k).2.1 ++ (pb1 (F := F) 𝒱 c bd i arg1 harg1 arg2 harg2 arg3 harg3 arg4 harg4 arg5 harg5 arg6 harg6 arg7 harg7 arg8 harg8 arg9 harg9 X2 k.val).2) := by
  rw [pb1.eq_2]; unfold pb1Step; exact dif_pos k.isLt

/-- Before trip `k`: the tile at its contents, both scratch buffers at the pieces of the trips before `k` over
   what they held. -/
abbrev inv1 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (G6 : BufTy.Contents (Elt F) arg6.view.ty) (G7 : BufTy.Contents (Elt F) arg7.view.ty) (k : ℕ) (acc : Unit) : sProp 𝕄G :=
  iprop((arg2.view.loc (c : Thread nD τ) ↦[arg2.view.set]{fullShare} X2) ∗ (∃ f, (arg6.view.loc (c : Thread nD τ) ↦[arg6.view.set]{fullShare} f) ∗ ⌜f = arg6.view.writes (Elt F) G6 (pb1 (F := F) 𝒱 c bd i arg1 harg1 arg2 harg2 arg3 harg3 arg4 harg4 arg5 harg5 arg6 harg6 arg7 harg7 arg8 harg8 arg9 harg9 X2 k).1⌝) ∗ (∃ f, (arg7.view.loc (c : Thread nD τ) ↦[arg7.view.set]{fullShare} f) ∗ ⌜f = arg7.view.writes (Elt F) G7 (pb1 (F := F) 𝒱 c bd i arg1 harg1 arg2 harg2 arg3 harg3 arg4 harg4 arg5 harg5 arg6 harg6 arg7 harg7 arg8 harg8 arg9 harg9 X2 k).2⌝))

set_option warn.classDefReducibility false in
/-- The transposing loop by its invariant. -/
@[sl_loop] def loopInv1 (𝒱 : Variants) (c : Dev nD) (bd : Option 𝒱.V) (E : Set ℕ) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (G6 : BufTy.Contents (Elt F) arg6.view.ty) (G7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 where
  inv := inv1 (F := F) 𝒱 c bd i arg1 harg1 arg2 harg2 arg3 harg3 arg4 harg4 arg5 harg5 arg6 harg6 arg7 harg7 arg8 harg8 arg9 harg9 X2 G6 G7
  step k acc := by
    iintro ⟨H2, ⟨%f6, H6, %h6⟩, ⟨%f7, H7, %h7⟩⟩
    iapply (wp_wand_r Idealize.ShloMosaic.frame (wpE (defs₀ (F := F)) 𝒱 (c : Thread nD τ) bd) E)
    isplitl [H2 H6 H7]
    · iapply ((trip1 (F := F) 𝒱 c bd i arg1 harg1 arg2 harg2 arg3 harg3 arg4 harg4 arg5 harg5 arg6 harg6 arg7 harg7 arg8 harg8 arg9 harg9 X2 k).2.2 E f6 f7)
      isplitl [H2]; · iexact H2
      isplitl [H6]; · iexact H6
      iexact H7
    · iintro %_ ⟨H2, H6, H7⟩
      isplitl [H2]; · iexact H2
      rw [pb1_succ]
      isplitl [H6]
      · iexists _; isplitl [H6]; · iexact H6
        ipureintro; rw [h6, ← View.writes_append]
      iexists _; isplitl [H7]; · iexact H7
      ipureintro; rw [h7, ← View.writes_append]

/-- Trip `k`'s pieces of the loop of the dense factor in front of the earlier ones. -/
@[irreducible] def pb2Step (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (k : ℕ) (prev : List (View.Piece (Elt F) S19536x128 .f32)) : List (View.Piece (Elt F) S19536x128 .f32) :=
  if h : k < k0_t2_loop.trips then (trip2 (F := F) 𝒱 c bd i arg1 harg1 arg2 harg2 arg3 harg3 arg4 harg4 arg5 harg5 arg6 harg6 arg7 harg7 arg8 harg8 arg9 harg9 X3 X6 X7 ⟨k, h⟩).1 ++ prev else prev

/-- The pieces of the dense factor's trips before `k`, last first. -/
def pb2 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) : ℕ → List (View.Piece (Elt F) S19536x128 .f32)
  | 0 => []
  | k + 1 => pb2Step 𝒱 c bd i arg1 harg1 arg2 harg2 arg3 harg3 arg4 harg4 arg5 harg5 arg6 harg6 arg7 harg7 arg8 harg8 arg9 harg9 X3 X6 X7 k (pb2 𝒱 c bd i arg1 harg1 arg2 harg2 arg3 harg3 arg4 harg4 arg5 harg5 arg6 harg6 arg7 harg7 arg8 harg8 arg9 harg9 X3 X6 X7 k)

theorem pb2_succ (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (k : Fin k0_t2_loop.trips) :
    pb2 (F := F) 𝒱 c bd i arg1 harg1 arg2 harg2 arg3 harg3 arg4 harg4 arg5 harg5 arg6 harg6 arg7 harg7 arg8 harg8 arg9 harg9 X3 X6 X7 (k.val + 1)
      = (trip2 (F := F) 𝒱 c bd i arg1 harg1 arg2 harg2 arg3 harg3 arg4 harg4 arg5 harg5 arg6 harg6 arg7 harg7 arg8 harg8 arg9 harg9 X3 X6 X7 k).1 ++ pb2 (F := F) 𝒱 c bd i arg1 harg1 arg2 harg2 arg3 harg3 arg4 harg4 arg5 harg5 arg6 harg6 arg7 harg7 arg8 harg8 arg9 harg9 X3 X6 X7 k.val := by
  rw [pb2.eq_2]; unfold pb2Step; exact dif_pos k.isLt

/-- Before trip `k`: the matrix and both tiles at their contents, the partial transforms at the pieces of the trips
   before `k` over what the array held. -/
abbrev inv2 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (G8 : BufTy.Contents (Elt F) arg8.view.ty) (k : ℕ) (acc : Unit) : sProp 𝕄G :=
  iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f) ∗ ⌜f = arg8.view.writes (Elt F) G8 (pb2 (F := F) 𝒱 c bd i arg1 harg1 arg2 harg2 arg3 harg3 arg4 harg4 arg5 harg5 arg6 harg6 arg7 harg7 arg8 harg8 arg9 harg9 X3 X6 X7 k)⌝))

set_option warn.classDefReducibility false in
/-- The loop of the dense factor by its invariant. -/
@[sl_loop] def loopInv2 (𝒱 : Variants) (c : Dev nD) (bd : Option 𝒱.V) (E : Set ℕ) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (G8 : BufTy.Contents (Elt F) arg8.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 where
  inv := inv2 (F := F) 𝒱 c bd i arg1 harg1 arg2 harg2 arg3 harg3 arg4 harg4 arg5 harg5 arg6 harg6 arg7 harg7 arg8 harg8 arg9 harg9 X3 X6 X7 G8
  step k acc := by
    iintro ⟨H3, H6, H7, ⟨%f8, H8, %h8⟩⟩
    iapply (wp_wand_r Idealize.ShloMosaic.frame (wpE (defs₀ (F := F)) 𝒱 (c : Thread nD τ) bd) E)
    isplitl [H3 H6 H7 H8]
    · iapply ((trip2 (F := F) 𝒱 c bd i arg1 harg1 arg2 harg2 arg3 harg3 arg4 harg4 arg5 harg5 arg6 harg6 arg7 harg7 arg8 harg8 arg9 harg9 X3 X6 X7 k).2 E f8)
      isplitl [H3]; · iexact H3
      isplitl [H6]; · iexact H6
      isplitl [H7]; · iexact H7
      iexact H8
    · iintro %_ ⟨H3, H6, H7, H8⟩
      isplitl [H3]; · iexact H3
      isplitl [H6]; · iexact H6
      isplitl [H7]; · iexact H7
      rw [pb2_succ]
      iexists _; isplitl [H8]; · iexact H8
      ipureintro; rw [h8, ← View.writes_append]

end Cert.Rotate.Trip
-- ==== Proof.RotateT.RotateRunA.lean ====
module

public import proofs.«01_k».proof.Proof.RotateT.RotateLoops
public import proofs.«01_k».proof.Proof.Gen.Rotate.Frame

@[expose] public section

set_option maxRecDepth 16384
set_option maxHeartbeats 4000000

noncomputable section

namespace Cert.Rotate.Trip

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
local notation "𝕄G" => MT nD τ sig Unit (Elt F) ℕ (UR sig nD τ) ℕ

/-- The body's run, case A: its inputs at their contents, the outputs and the scratch at the pieces the run writes. -/
@[irreducible] def runA (c : Dev nD) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (hA : Scalar.cmpi .ne (Scalar.extui (Scalar.cmpi .eq (BitVec.ofNat 32 (i 0).val) 0#32) : BitVec 32) 0#32 = 1#1) (hC : ¬ (k0_cond2 i = 1#1))
    (x1 : Vec F S1 .f32) (x2 : Vec F S128x18944 .bf16) (x3 : Vec F S160x160 .bf16) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    Σ' (L4 : List (View.Piece (Elt F) S128x18944 .fp8e4m3)), { L9 : List (View.Piece (Elt F) S8x128 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} (arg4.view.writes (Elt F) f4 L4)) ∗ (arg5.view.loc (c : Thread nD τ) ↦[arg5.view.set]{fullShare} f5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (arg9.view.loc (c : Thread nD τ) ↦[arg9.view.set]{fullShare} (arg9.view.writes (Elt F) arg9.view.junk L9))) -∗ K ⟨⟩))
          ⊢ wp frame (wpE (defs₀ (F := F)) Variants.none c none) E (cc0_rotate_quantise (F := F) i arg1 harg1 arg2 harg2 arg3 harg3 arg4 harg4 arg5 harg5 arg6 harg6 arg7 harg7 arg8 harg8 arg9 harg9) K } := by
  refine ⟨?_, ?_, fun E K => ?run⟩
  case run =>
    simp only [cc0_rotate_quantise_eq_skeleton]; unfold cc0_rotate_quantise_skel
    simp (config := { zeta := true }) only [hA, hC, ↓reduceDIte]
    unfold owns
    iintro ⟨⟨%f1, %hf1, H1⟩, ⟨%f2, %hf2, H2⟩, ⟨%f3, %hf3, H3⟩, H4, H5, H6, H7, H8, H9, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    isplitl [H6]; · iexists _; iexact H6
    isplitl [H7]; · iexists _; iexact H7
    isplitl [H8]; · iexists _; iexact H8
    iexact H9

end Cert.Rotate.Trip
-- ==== Proof.RotateT.RotateRunB.lean ====
module

public import proofs.«01_k».proof.Proof.RotateT.RotateLoops
public import proofs.«01_k».proof.Proof.Gen.Rotate.Frame

@[expose] public section

set_option maxRecDepth 16384
set_option maxHeartbeats 4000000

noncomputable section

namespace Cert.Rotate.Trip

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
local notation "𝕄G" => MT nD τ sig Unit (Elt F) ℕ (UR sig nD τ) ℕ

/-- The body's run, case B: its inputs at their contents, the outputs and the scratch at the pieces the run writes. -/
@[irreducible] def runB (c : Dev nD) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (hA : ¬ (Scalar.cmpi .ne (Scalar.extui (Scalar.cmpi .eq (BitVec.ofNat 32 (i 0).val) 0#32) : BitVec 32) 0#32 = 1#1)) (hC : ¬ (k0_cond2 i = 1#1))
    (x1 : Vec F S1 .f32) (x2 : Vec F S128x18944 .bf16) (x3 : Vec F S160x160 .bf16) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    Σ' (L4 : List (View.Piece (Elt F) S128x18944 .fp8e4m3)), { L9 : List (View.Piece (Elt F) S8x128 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} (arg4.view.writes (Elt F) f4 L4)) ∗ (arg5.view.loc (c : Thread nD τ) ↦[arg5.view.set]{fullShare} f5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (arg9.view.loc (c : Thread nD τ) ↦[arg9.view.set]{fullShare} (arg9.view.writes (Elt F) f9 L9))) -∗ K ⟨⟩))
          ⊢ wp frame (wpE (defs₀ (F := F)) Variants.none c none) E (cc0_rotate_quantise (F := F) i arg1 harg1 arg2 harg2 arg3 harg3 arg4 harg4 arg5 harg5 arg6 harg6 arg7 harg7 arg8 harg8 arg9 harg9) K } := by
  refine ⟨?_, ?_, fun E K => ?run⟩
  case run =>
    simp only [cc0_rotate_quantise_eq_skeleton]; unfold cc0_rotate_quantise_skel
    simp (config := { zeta := true }) only [hA, hC, ↓reduceDIte]
    unfold owns
    iintro ⟨⟨%f1, %hf1, H1⟩, ⟨%f2, %hf2, H2⟩, ⟨%f3, %hf3, H3⟩, H4, H5, H6, H7, H8, H9, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    isplitl [H6]; · iexists _; iexact H6
    isplitl [H7]; · iexists _; iexact H7
    isplitl [H8]; · iexists _; iexact H8
    iexact H9

end Cert.Rotate.Trip
-- ==== Proof.RotateT.RotateRunC.lean ====
module

public import proofs.«01_k».proof.Proof.RotateT.RotateLoops
public import proofs.«01_k».proof.Proof.Gen.Rotate.Frame

@[expose] public section

set_option maxRecDepth 16384
set_option maxHeartbeats 4000000

noncomputable section

namespace Cert.Rotate.Trip

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
local notation "𝕄G" => MT nD τ sig Unit (Elt F) ℕ (UR sig nD τ) ℕ

/-- The body's run, case C: its inputs at their contents, the outputs and the scratch at the pieces the run writes. -/
@[irreducible] def runC (c : Dev nD) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x128 .i32) (harg6 : arg6.IsWhole) (arg7 : Memref sig .tc .vmem S4872x128 .i32) (harg7 : arg7.IsWhole) (arg8 : Memref sig .tc .vmem S19536x128 .f32) (harg8 : arg8.IsWhole) (arg9 : Memref sig .tc .vmem S8x128 .f32) (harg9 : arg9.IsWhole) (hA : ¬ (Scalar.cmpi .ne (Scalar.extui (Scalar.cmpi .eq (BitVec.ofNat 32 (i 0).val) 0#32) : BitVec 32) 0#32 = 1#1)) (hC : k0_cond2 i = 1#1)
    (x1 : Vec F S1 .f32) (x2 : Vec F S128x18944 .bf16) (x3 : Vec F S160x160 .bf16) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    Σ' (L4 : List (View.Piece (Elt F) S128x18944 .fp8e4m3)) (L9 : List (View.Piece (Elt F) S8x128 .f32)), { L5 : List (View.Piece (Elt F) S1 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} (arg4.view.writes (Elt F) f4 L4)) ∗ (arg5.view.loc (c : Thread nD τ) ↦[arg5.view.set]{fullShare} (arg5.view.writes (Elt F) f5 L5)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (arg9.view.loc (c : Thread nD τ) ↦[arg9.view.set]{fullShare} (arg9.view.writes (Elt F) f9 L9))) -∗ K ⟨⟩))
          ⊢ wp frame (wpE (defs₀ (F := F)) Variants.none c none) E (cc0_rotate_quantise (F := F) i arg1 harg1 arg2 harg2 arg3 harg3 arg4 harg4 arg5 harg5 arg6 harg6 arg7 harg7 arg8 harg8 arg9 harg9) K } := by
  refine ⟨?_, ?_, ?_, fun E K => ?run⟩
  case run =>
    simp only [cc0_rotate_quantise_eq_skeleton]; unfold cc0_rotate_quantise_skel
    simp (config := { zeta := true }) only [hA, hC, ↓reduceDIte]
    unfold owns
    iintro ⟨⟨%f1, %hf1, H1⟩, ⟨%f2, %hf2, H2⟩, ⟨%f3, %hf3, H3⟩, H4, H5, H6, H7, H8, H9, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    isplitl [H6]; · iexists _; iexact H6
    isplitl [H7]; · iexists _; iexact H7
    isplitl [H8]; · iexists _; iexact H8
    iexact H9

end Cert.Rotate.Trip
-- ==== Proof.RotateT.RotateFrame.lean ====
module

public import proofs.«01_k».proof.Proof.RotateT.RotateRunA
public import proofs.«01_k».proof.Proof.RotateT.RotateRunB
public import proofs.«01_k».proof.Proof.RotateT.RotateRunC
public import proofs.«01_k».proof.Proof.Gen.Rotate.Frame
public import Idealize.ShloMosaic.Lib.Claim

@[expose] public section

set_option maxRecDepth 16384
set_option maxHeartbeats 1000000

noncomputable section

namespace Cert.Rotate.Trip

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

theorem sepAssoc {M : Type _} [RA M] (P Q R : sProp M) : iprop((P ∗ Q) ∗ R) = iprop(P ∗ Q ∗ R) := equiv_iff.mp ⟨Idealize.SL.BI.sep_assoc, Idealize.SL.BI.sep_assoc'⟩

/-- The first condition of the body holds at the first step only, the last at the last step only. -/
theorem condA_iff : ∀ t : Fin cfg0.N, (Scalar.cmpi .ne (Scalar.extui (Scalar.cmpi .eq (BitVec.ofNat 32 ((grid0.coords t) 0).val) 0#32) : BitVec 32) 0#32 = 1#1) ↔ t.val = 0 := by decide +kernel
theorem condC_iff : ∀ t : Fin cfg0.N, (k0_cond2 (grid0.coords t) = 1#1) ↔ t.val = 35 := by decide +kernel

/-- The scratch memrefs. -/
abbrev sc0 : Memref sig .tc .vmem S4872x128 .i32 := Memref.whole cc0_scratch0
abbrev sc1 : Memref sig .tc .vmem S4872x128 .i32 := Memref.whole cc0_scratch1
abbrev sc2 : Memref sig .tc .vmem S19536x128 .f32 := Memref.whole cc0_scratch2
abbrev sc3 : Memref sig .tc .vmem S8x128 .f32 := Memref.whole cc0_scratch3

/-- The proof data: the inputs' buffers at their blocks, the results' not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Scalar.ofBits (F := F) (φ := .fp8e4m3) 0#8
    | ⟨4, _⟩ => fun _ => Scalar.ofBits (F := F) (φ := .f32) 0#32
  Φ _ := Pipeline.ΦA spec0 c
  q _ := fullShare
  owed _ := 0

/-- The results' windows, which the frame does not describe. -/
def fgt : Fin cfg0.W → Bool := fun w => w == 3 || w == 4

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant, the scratch buffer by buffer. -/
theorem Φ_eq (c : Dev nD) (t) : (dats m 0 c).Φ t = (iprop((∃ f, (sc0.view.loc (c : Thread nD τ) ↦[sc0.view.set]{fullShare} f)) ∗ (∃ f, (sc1.view.loc (c : Thread nD τ) ↦[sc1.view.set]{fullShare} f)) ∗ (∃ f, (sc2.view.loc (c : Thread nD τ) ↦[sc2.view.set]{fullShare} f)) ∗ (∃ f, (sc3.view.loc (c : Thread nD τ) ↦[sc3.view.set]{fullShare} f)) ∗ ∃ r, prngReg c r) : sProp 𝕄) := by
  show Pipeline.ΦA spec0 c = _
  unfold Pipeline.ΦA
  rw [scopedRest0_eq]
  simp only [Memref.view_whole, View.set_whole]
  rw [sepAssoc, sepAssoc, sepAssoc]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare (X))
    ∗ (∃ X, owns (c : Thread nD τ) (st0_4 t) fullShare (X)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare (X))
    ∗ (∃ X, owns (c : Thread nD τ) (st0_4 t) fullShare (X)))

theorem sound_A (c : Dev nD) (t : Fin cfg0.N) (hA : Scalar.cmpi .ne (Scalar.extui (Scalar.cmpi .eq (BitVec.ofNat 32 ((grid0.coords t) 0).val) 0#32) : BitVec 32) 0#32 = 1#1) (hC : ¬ (k0_cond2 (grid0.coords t) = 1#1)) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl, Φ_eq]
  unfold owns
  iintro ⟨⟨⟨%g6, S6⟩, ⟨%g7, S7⟩, ⟨%g8, S8⟩, ⟨%g9, S9⟩, HR⟩, Ho, ⟨%d0, %f0, %h0, H0⟩, ⟨%d1, %f1, %h1, H1⟩, ⟨%d2, %f2, %h2, H2⟩, ⟨%d3, %f3, %h3, H3⟩, ⟨%d4, %f4, %h4, H4⟩⟩
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.2 Set.univ _)
  unfold owns
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]; · iexact H3
  isplitl [H4]; · iexact H4
  isplitl [S6]; · iexact S6
  isplitl [S7]; · iexact S7
  isplitl [S8]; · iexact S8
  isplitl [S9]; · iexact S9
  iintro ⟨⟨%e0, %k0, H0⟩, ⟨%e1, %k1, H1⟩, ⟨%e2, %k2, H2⟩, H3, H4, S6, S7, S8, S9⟩
  isplitl [S6 S7 S8 S9 HR]
  · isplitl [S6]; · iexact S6
    isplitl [S7]; · iexact S7
    isplitl [S8]; · iexact S8
    isplitl [S9]; · iexists _; iexact S9
    iexact HR
  isplitl [Ho]; · iexact Ho
  isplitl [H0]
  · iexists _; isplitr; · ipureintro; exact k0
    iexact H0
  isplitl [H1]
  · iexists _; isplitr; · ipureintro; exact k1
    iexact H1
  isplitl [H2]
  · iexists _; isplitr; · ipureintro; exact k2
    iexact H2
  isplitl [H3]
  · iexists _; iexists _; isplitr
    swap; · iexact H3
    ipureintro; rfl
  iexists _; iexists _; isplitr
  swap; · iexact H4
  ipureintro; rfl

theorem sound_B (c : Dev nD) (t : Fin cfg0.N) (hA : ¬ (Scalar.cmpi .ne (Scalar.extui (Scalar.cmpi .eq (BitVec.ofNat 32 ((grid0.coords t) 0).val) 0#32) : BitVec 32) 0#32 = 1#1)) (hC : ¬ (k0_cond2 (grid0.coords t) = 1#1)) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl, Φ_eq]
  unfold owns
  iintro ⟨⟨⟨%g6, S6⟩, ⟨%g7, S7⟩, ⟨%g8, S8⟩, ⟨%g9, S9⟩, HR⟩, Ho, ⟨%d0, %f0, %h0, H0⟩, ⟨%d1, %f1, %h1, H1⟩, ⟨%d2, %f2, %h2, H2⟩, ⟨%d3, %f3, %h3, H3⟩, ⟨%d4, %f4, %h4, H4⟩⟩
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.2 Set.univ _)
  unfold owns
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]; · iexact H3
  isplitl [H4]; · iexact H4
  isplitl [S6]; · iexact S6
  isplitl [S7]; · iexact S7
  isplitl [S8]; · iexact S8
  isplitl [S9]; · iexact S9
  iintro ⟨⟨%e0, %k0, H0⟩, ⟨%e1, %k1, H1⟩, ⟨%e2, %k2, H2⟩, H3, H4, S6, S7, S8, S9⟩
  isplitl [S6 S7 S8 S9 HR]
  · isplitl [S6]; · iexact S6
    isplitl [S7]; · iexact S7
    isplitl [S8]; · iexact S8
    isplitl [S9]; · iexists _; iexact S9
    iexact HR
  isplitl [Ho]; · iexact Ho
  isplitl [H0]
  · iexists _; isplitr; · ipureintro; exact k0
    iexact H0
  isplitl [H1]
  · iexists _; isplitr; · ipureintro; exact k1
    iexact H1
  isplitl [H2]
  · iexists _; isplitr; · ipureintro; exact k2
    iexact H2
  isplitl [H3]
  · iexists _; iexists _; isplitr
    swap; · iexact H3
    ipureintro; rfl
  iexists _; iexists _; isplitr
  swap; · iexact H4
  ipureintro; rfl

theorem sound_C (c : Dev nD) (t : Fin cfg0.N) (hA : ¬ (Scalar.cmpi .ne (Scalar.extui (Scalar.cmpi .eq (BitVec.ofNat 32 ((grid0.coords t) 0).val) 0#32) : BitVec 32) 0#32 = 1#1)) (hC : k0_cond2 (grid0.coords t) = 1#1) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl, Φ_eq]
  unfold owns
  iintro ⟨⟨⟨%g6, S6⟩, ⟨%g7, S7⟩, ⟨%g8, S8⟩, ⟨%g9, S9⟩, HR⟩, Ho, ⟨%d0, %f0, %h0, H0⟩, ⟨%d1, %f1, %h1, H1⟩, ⟨%d2, %f2, %h2, H2⟩, ⟨%d3, %f3, %h3, H3⟩, ⟨%d4, %f4, %h4, H4⟩⟩
  iapply ((runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.2.2 Set.univ _)
  unfold owns
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]; · iexact H3
  isplitl [H4]; · iexact H4
  isplitl [S6]; · iexact S6
  isplitl [S7]; · iexact S7
  isplitl [S8]; · iexact S8
  isplitl [S9]; · iexact S9
  iintro ⟨⟨%e0, %k0, H0⟩, ⟨%e1, %k1, H1⟩, ⟨%e2, %k2, H2⟩, H3, H4, S6, S7, S8, S9⟩
  isplitl [S6 S7 S8 S9 HR]
  · isplitl [S6]; · iexact S6
    isplitl [S7]; · iexact S7
    isplitl [S8]; · iexact S8
    isplitl [S9]; · iexists _; iexact S9
    iexact HR
  isplitl [Ho]; · iexact Ho
  isplitl [H0]
  · iexists _; isplitr; · ipureintro; exact k0
    iexact H0
  isplitl [H1]
  · iexists _; isplitr; · ipureintro; exact k1
    iexact H1
  isplitl [H2]
  · iexists _; isplitr; · ipureintro; exact k2
    iexact H2
  isplitl [H3]
  · iexists _; iexists _; isplitr
    swap; · iexact H3
    ipureintro; rfl
  iexists _; iexists _; isplitr
  swap; · iexact H4
  ipureintro; rfl

theorem sound_body (c : Dev nD) (t : Fin cfg0.N) :
    bodyPre m c t ⊢ wp frame (wpE (defs₀ (F := F)) Variants.none c none) Set.univ (bodyAt0 t) (fun _ => bodyPost m c t) := by
  by_cases hA : Scalar.cmpi .ne (Scalar.extui (Scalar.cmpi .eq (BitVec.ofNat 32 ((grid0.coords t) 0).val) 0#32) : BitVec 32) 0#32 = 1#1
  · exact sound_A m c t hA (fun h => by have := (condA_iff t).mp hA; have := (condC_iff t).mp h; omega)
  · by_cases hC : k0_cond2 (grid0.coords t) = 1#1
    · exact sound_C m c t hA hC
    · exact sound_B m c t hA hC

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.Rotate.Trip
-- ==== Proof.RotateT.RotateIdealT1.lean ====
module

public import proofs.«01_k».proof.Proof.Gen.RotateIdeal.Skeleton
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.RotateIdeal.Trip

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- One trip's resources of the transposing loop: the tile it reads at its contents, the two scratch
   buffers it writes at any. -/
abbrev Trip1 (c : Dev nD) (arg2 : Memref sig .tc .vmem S128x18944 .bf16) (arg6 : Memref sig .tc .vmem S4872x2x128 .bf16) (arg7 : Memref sig .tc .vmem S4872x2x128 .bf16) (X2 : BufTy.Contents (Elt F) arg2.view.ty) (f6 : BufTy.Contents (Elt F) arg6.view.ty) (f7 : BufTy.Contents (Elt F) arg7.view.ty) : sProp 𝕄G :=
  iprop((arg2.view.loc (c : Thread nD τ) ↦[arg2.view.set]{fullShare} X2) ∗ (arg6.view.loc (c : Thread nD τ) ↦[arg6.view.set]{fullShare} f6) ∗ (arg7.view.loc (c : Thread nD τ) ↦[arg7.view.set]{fullShare} f7))

/-- One trip of the transposing loop at a symbolic trip number: the pieces it writes. -/
@[irreducible] def trip1 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (k : Fin k0_t1_loop.trips) :
    Σ' (L6 : List (View.Piece (Elt F) S4872x2x128 .bf16)), { L7 : List (View.Piece (Elt F) S4872x2x128 .bf16) // ∀ (E : Set ℕ) (f6 : BufTy.Contents (Elt F) arg6.view.ty) (f7 : BufTy.Contents (Elt F) arg7.view.ty),
      Trip1 (F := F) c arg2 arg6 arg7 X2 f6 f7
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 k PUnit.unit)
          (fun _ => Trip1 (F := F) c arg2 arg6 arg7 X2 (arg6.view.writes (Elt F) f6 L6) (arg7.view.writes (Elt F) f7 L7)) } := by
  have hk : k.val < 37 := Nat.lt_of_lt_of_le k.isLt k0_t1_abs.2.1
  refine ⟨?_, ?_, fun E f6 f7 => ?run⟩
  case run =>
    unfold k0_t1_body
    iintro ⟨H2, H6, H7⟩
    sl_exec
    sl_step
    sl_close

end Cert.RotateIdeal.Trip
-- ==== Proof.RotateT.RotateIdealT2.lean ====
module

public import proofs.«01_k».proof.Proof.RotateT.RotateIdealT1

@[expose] public section

set_option maxRecDepth 16384
set_option maxHeartbeats 4000000

noncomputable section

namespace Cert.RotateIdeal.Trip

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- One trip's resources of the loop of the dense factor: the matrix and the two transposed tiles at
   their contents, the array of partial transforms at any. -/
abbrev Trip2 (c : Dev nD) (arg3 : Memref sig .tc .vmem S160x160 .bf16) (arg6 : Memref sig .tc .vmem S4872x2x128 .bf16) (arg7 : Memref sig .tc .vmem S4872x2x128 .bf16) (arg8 : Memref sig .tc .vmem S19536x128 .f32) (X3 : BufTy.Contents (Elt F) arg3.view.ty) (X6 : BufTy.Contents (Elt F) arg6.view.ty) (X7 : BufTy.Contents (Elt F) arg7.view.ty) (f8 : BufTy.Contents (Elt F) arg8.view.ty) : sProp 𝕄G :=
  iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8))

/-- One trip of the loop of the dense factor at a symbolic trip number: the pieces it writes. -/
@[irreducible] def trip2 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (k : Fin k0_t2_loop.trips) :
    { L8 : List (View.Piece (Elt F) S19536x128 .f32) // ∀ (E : Set ℕ) (f8 : BufTy.Contents (Elt F) arg8.view.ty),
      Trip2 (F := F) c arg3 arg6 arg7 arg8 X3 X6 X7 f8
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 k PUnit.unit)
          (fun _ => Trip2 (F := F) c arg3 arg6 arg7 arg8 X3 X6 X7 (arg8.view.writes (Elt F) f8 L8)) } := by
  have hk : k.val < 16 := Nat.lt_of_lt_of_le k.isLt k0_t2_abs.2.1
  refine ⟨?_, fun E f8 => ?run⟩
  case run =>
    unfold k0_t2_body
    iintro ⟨H3, H6, H7, H8⟩
    sl_exec
    sl_step
    sl_close

end Cert.RotateIdeal.Trip
-- ==== Proof.RotateT.RotateIdealLoops.lean ====
module

public import proofs.«01_k».proof.Proof.RotateT.RotateIdealT1
public import proofs.«01_k».proof.Proof.RotateT.RotateIdealT2
public import proofs.«01_k».proof.Proof.Gen.RotateIdeal.Loops

@[expose] public section

set_option maxRecDepth 16384
set_option maxHeartbeats 4000000

noncomputable section

namespace Cert.RotateIdeal.Trip

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- Trip `k`'s pieces of the transposing loop in front of the earlier ones. -/
@[irreducible] def pb1Step (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (k : ℕ) (prev : List (View.Piece (Elt F) S4872x2x128 .bf16) × List (View.Piece (Elt F) S4872x2x128 .bf16)) : List (View.Piece (Elt F) S4872x2x128 .bf16) × List (View.Piece (Elt F) S4872x2x128 .bf16) :=
  if h : k < k0_t1_loop.trips then
    ((trip1 (F := F) 𝒱 c bd i arg1 harg1 arg2 harg2 arg3 harg3 arg4 harg4 arg5 harg5 arg6 harg6 arg7 harg7 arg8 harg8 arg9 harg9 X2 ⟨k, h⟩).1 ++ prev.1, (trip1 (F := F) 𝒱 c bd i arg1 harg1 arg2 harg2 arg3 harg3 arg4 harg4 arg5 harg5 arg6 harg6 arg7 harg7 arg8 harg8 arg9 harg9 X2 ⟨k, h⟩).2.1 ++ prev.2)
  else prev

/-- The pieces of the transposing loop's trips before `k`, last first. -/
def pb1 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) : ℕ → List (View.Piece (Elt F) S4872x2x128 .bf16) × List (View.Piece (Elt F) S4872x2x128 .bf16)
  | 0 => ([], [])
  | k + 1 => pb1Step 𝒱 c bd i arg1 harg1 arg2 harg2 arg3 harg3 arg4 harg4 arg5 harg5 arg6 harg6 arg7 harg7 arg8 harg8 arg9 harg9 X2 k (pb1 𝒱 c bd i arg1 harg1 arg2 harg2 arg3 harg3 arg4 harg4 arg5 harg5 arg6 harg6 arg7 harg7 arg8 harg8 arg9 harg9 X2 k)

theorem pb1_succ (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (k : Fin k0_t1_loop.trips) :
    pb1 (F := F) 𝒱 c bd i arg1 harg1 arg2 harg2 arg3 harg3 arg4 harg4 arg5 harg5 arg6 harg6 arg7 harg7 arg8 harg8 arg9 harg9 X2 (k.val + 1)
      = ((trip1 (F := F) 𝒱 c bd i arg1 harg1 arg2 harg2 arg3 harg3 arg4 harg4 arg5 harg5 arg6 harg6 arg7 harg7 arg8 harg8 arg9 harg9 X2 k).1 ++ (pb1 (F := F) 𝒱 c bd i arg1 harg1 arg2 harg2 arg3 harg3 arg4 harg4 arg5 harg5 arg6 harg6 arg7 harg7 arg8 harg8 arg9 harg9 X2 k.val).1, (trip1 (F := F) 𝒱 c bd i arg1 harg1 arg2 harg2 arg3 harg3 arg4 harg4 arg5 harg5 arg6 harg6 arg7 harg7 arg8 harg8 arg9 harg9 X2 k).2.1 ++ (pb1 (F := F) 𝒱 c bd i arg1 harg1 arg2 harg2 arg3 harg3 arg4 harg4 arg5 harg5 arg6 harg6 arg7 harg7 arg8 harg8 arg9 harg9 X2 k.val).2) := by
  rw [pb1.eq_2]; unfold pb1Step; exact dif_pos k.isLt

/-- Before trip `k`: the tile at its contents, both scratch buffers at the pieces of the trips before `k` over
   what they held. -/
abbrev inv1 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (G6 : BufTy.Contents (Elt F) arg6.view.ty) (G7 : BufTy.Contents (Elt F) arg7.view.ty) (k : ℕ) (acc : Unit) : sProp 𝕄G :=
  iprop((arg2.view.loc (c : Thread nD τ) ↦[arg2.view.set]{fullShare} X2) ∗ (∃ f, (arg6.view.loc (c : Thread nD τ) ↦[arg6.view.set]{fullShare} f) ∗ ⌜f = arg6.view.writes (Elt F) G6 (pb1 (F := F) 𝒱 c bd i arg1 harg1 arg2 harg2 arg3 harg3 arg4 harg4 arg5 harg5 arg6 harg6 arg7 harg7 arg8 harg8 arg9 harg9 X2 k).1⌝) ∗ (∃ f, (arg7.view.loc (c : Thread nD τ) ↦[arg7.view.set]{fullShare} f) ∗ ⌜f = arg7.view.writes (Elt F) G7 (pb1 (F := F) 𝒱 c bd i arg1 harg1 arg2 harg2 arg3 harg3 arg4 harg4 arg5 harg5 arg6 harg6 arg7 harg7 arg8 harg8 arg9 harg9 X2 k).2⌝))

set_option warn.classDefReducibility false in
/-- The transposing loop by its invariant. -/
@[sl_loop] def loopInv1 (𝒱 : Variants) (c : Dev nD) (bd : Option 𝒱.V) (E : Set ℕ) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X2 : BufTy.Contents (Elt F) arg2.view.ty) (G6 : BufTy.Contents (Elt F) arg6.view.ty) (G7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 where
  inv := inv1 (F := F) 𝒱 c bd i arg1 harg1 arg2 harg2 arg3 harg3 arg4 harg4 arg5 harg5 arg6 harg6 arg7 harg7 arg8 harg8 arg9 harg9 X2 G6 G7
  step k acc := by
    iintro ⟨H2, ⟨%f6, H6, %h6⟩, ⟨%f7, H7, %h7⟩⟩
    iapply (wp_wand_r Idealize.ShloMosaic.frame (wpE (defs₀ (F := F)) 𝒱 (c : Thread nD τ) bd) E)
    isplitl [H2 H6 H7]
    · iapply ((trip1 (F := F) 𝒱 c bd i arg1 harg1 arg2 harg2 arg3 harg3 arg4 harg4 arg5 harg5 arg6 harg6 arg7 harg7 arg8 harg8 arg9 harg9 X2 k).2.2 E f6 f7)
      isplitl [H2]; · iexact H2
      isplitl [H6]; · iexact H6
      iexact H7
    · iintro %_ ⟨H2, H6, H7⟩
      isplitl [H2]; · iexact H2
      rw [pb1_succ]
      isplitl [H6]
      · iexists _; isplitl [H6]; · iexact H6
        ipureintro; rw [h6, ← View.writes_append]
      iexists _; isplitl [H7]; · iexact H7
      ipureintro; rw [h7, ← View.writes_append]

/-- Trip `k`'s pieces of the loop of the dense factor in front of the earlier ones. -/
@[irreducible] def pb2Step (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (k : ℕ) (prev : List (View.Piece (Elt F) S19536x128 .f32)) : List (View.Piece (Elt F) S19536x128 .f32) :=
  if h : k < k0_t2_loop.trips then (trip2 (F := F) 𝒱 c bd i arg1 harg1 arg2 harg2 arg3 harg3 arg4 harg4 arg5 harg5 arg6 harg6 arg7 harg7 arg8 harg8 arg9 harg9 X3 X6 X7 ⟨k, h⟩).1 ++ prev else prev

/-- The pieces of the dense factor's trips before `k`, last first. -/
def pb2 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) : ℕ → List (View.Piece (Elt F) S19536x128 .f32)
  | 0 => []
  | k + 1 => pb2Step 𝒱 c bd i arg1 harg1 arg2 harg2 arg3 harg3 arg4 harg4 arg5 harg5 arg6 harg6 arg7 harg7 arg8 harg8 arg9 harg9 X3 X6 X7 k (pb2 𝒱 c bd i arg1 harg1 arg2 harg2 arg3 harg3 arg4 harg4 arg5 harg5 arg6 harg6 arg7 harg7 arg8 harg8 arg9 harg9 X3 X6 X7 k)

theorem pb2_succ (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (k : Fin k0_t2_loop.trips) :
    pb2 (F := F) 𝒱 c bd i arg1 harg1 arg2 harg2 arg3 harg3 arg4 harg4 arg5 harg5 arg6 harg6 arg7 harg7 arg8 harg8 arg9 harg9 X3 X6 X7 (k.val + 1)
      = (trip2 (F := F) 𝒱 c bd i arg1 harg1 arg2 harg2 arg3 harg3 arg4 harg4 arg5 harg5 arg6 harg6 arg7 harg7 arg8 harg8 arg9 harg9 X3 X6 X7 k).1 ++ pb2 (F := F) 𝒱 c bd i arg1 harg1 arg2 harg2 arg3 harg3 arg4 harg4 arg5 harg5 arg6 harg6 arg7 harg7 arg8 harg8 arg9 harg9 X3 X6 X7 k.val := by
  rw [pb2.eq_2]; unfold pb2Step; exact dif_pos k.isLt

/-- Before trip `k`: the matrix and both tiles at their contents, the partial transforms at the pieces of the trips
   before `k` over what the array held. -/
abbrev inv2 (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (G8 : BufTy.Contents (Elt F) arg8.view.ty) (k : ℕ) (acc : Unit) : sProp 𝕄G :=
  iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f) ∗ ⌜f = arg8.view.writes (Elt F) G8 (pb2 (F := F) 𝒱 c bd i arg1 harg1 arg2 harg2 arg3 harg3 arg4 harg4 arg5 harg5 arg6 harg6 arg7 harg7 arg8 harg8 arg9 harg9 X3 X6 X7 k)⌝))

set_option warn.classDefReducibility false in
/-- The loop of the dense factor by its invariant. -/
@[sl_loop] def loopInv2 (𝒱 : Variants) (c : Dev nD) (bd : Option 𝒱.V) (E : Set ℕ) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (X3 : BufTy.Contents (Elt F) arg3.view.ty) (X6 : BufTy.Contents (Elt F) arg6.view.ty) (X7 : BufTy.Contents (Elt F) arg7.view.ty) (G8 : BufTy.Contents (Elt F) arg8.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 where
  inv := inv2 (F := F) 𝒱 c bd i arg1 harg1 arg2 harg2 arg3 harg3 arg4 harg4 arg5 harg5 arg6 harg6 arg7 harg7 arg8 harg8 arg9 harg9 X3 X6 X7 G8
  step k acc := by
    iintro ⟨H3, H6, H7, ⟨%f8, H8, %h8⟩⟩
    iapply (wp_wand_r Idealize.ShloMosaic.frame (wpE (defs₀ (F := F)) 𝒱 (c : Thread nD τ) bd) E)
    isplitl [H3 H6 H7 H8]
    · iapply ((trip2 (F := F) 𝒱 c bd i arg1 harg1 arg2 harg2 arg3 harg3 arg4 harg4 arg5 harg5 arg6 harg6 arg7 harg7 arg8 harg8 arg9 harg9 X3 X6 X7 k).2 E f8)
      isplitl [H3]; · iexact H3
      isplitl [H6]; · iexact H6
      isplitl [H7]; · iexact H7
      iexact H8
    · iintro %_ ⟨H3, H6, H7, H8⟩
      isplitl [H3]; · iexact H3
      isplitl [H6]; · iexact H6
      isplitl [H7]; · iexact H7
      rw [pb2_succ]
      iexists _; isplitl [H8]; · iexact H8
      ipureintro; rw [h8, ← View.writes_append]

end Cert.RotateIdeal.Trip
-- ==== Proof.RotateT.RotateIdealRunA.lean ====
module

public import proofs.«01_k».proof.Proof.RotateT.RotateIdealLoops
public import proofs.«01_k».proof.Proof.Gen.RotateIdeal.Frame

@[expose] public section

set_option maxRecDepth 16384
set_option maxHeartbeats 4000000

noncomputable section

namespace Cert.RotateIdeal.Trip

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The body's run, case A: its inputs at their contents, the outputs and the scratch at the pieces the run writes. -/
@[irreducible] def runA (c : Dev nD) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (hA : Scalar.cmpi .ne (Scalar.extui (Scalar.cmpi .eq (BitVec.ofNat 32 (i 0).val) 0#32) : BitVec 32) 0#32 = 1#1) (hC : ¬ (k0_cond2 i = 1#1))
    (x1 : Vec F S1 .f32) (x2 : Vec F S128x18944 .bf16) (x3 : Vec F S160x160 .bf16) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    Σ' (L4 : List (View.Piece (Elt F) S128x18944 .fp8e4m3)), { L9 : List (View.Piece (Elt F) S8x128 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} (arg4.view.writes (Elt F) f4 L4)) ∗ (arg5.view.loc (c : Thread nD τ) ↦[arg5.view.set]{fullShare} f5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (arg9.view.loc (c : Thread nD τ) ↦[arg9.view.set]{fullShare} (arg9.view.writes (Elt F) arg9.view.junk L9))) -∗ K ⟨⟩))
          ⊢ wp frame (wpE (defs₀ (F := F)) Variants.none c none) E (cc0_rotate_quantise (F := F) i arg1 harg1 arg2 harg2 arg3 harg3 arg4 harg4 arg5 harg5 arg6 harg6 arg7 harg7 arg8 harg8 arg9 harg9) K } := by
  refine ⟨?_, ?_, fun E K => ?run⟩
  case run =>
    simp only [cc0_rotate_quantise_eq_skeleton]; unfold cc0_rotate_quantise_skel
    simp (config := { zeta := true }) only [hA, hC, ↓reduceDIte]
    unfold owns
    iintro ⟨⟨%f1, %hf1, H1⟩, ⟨%f2, %hf2, H2⟩, ⟨%f3, %hf3, H3⟩, H4, H5, H6, H7, H8, H9, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    isplitl [H6]; · iexists _; iexact H6
    isplitl [H7]; · iexists _; iexact H7
    isplitl [H8]; · iexists _; iexact H8
    iexact H9

end Cert.RotateIdeal.Trip
-- ==== Proof.RotateT.RotateIdealRunB.lean ====
module

public import proofs.«01_k».proof.Proof.RotateT.RotateIdealLoops
public import proofs.«01_k».proof.Proof.Gen.RotateIdeal.Frame

@[expose] public section

set_option maxRecDepth 16384
set_option maxHeartbeats 4000000

noncomputable section

namespace Cert.RotateIdeal.Trip

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The body's run, case B: its inputs at their contents, the outputs and the scratch at the pieces the run writes. -/
@[irreducible] def runB (c : Dev nD) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (hA : ¬ (Scalar.cmpi .ne (Scalar.extui (Scalar.cmpi .eq (BitVec.ofNat 32 (i 0).val) 0#32) : BitVec 32) 0#32 = 1#1)) (hC : ¬ (k0_cond2 i = 1#1))
    (x1 : Vec F S1 .f32) (x2 : Vec F S128x18944 .bf16) (x3 : Vec F S160x160 .bf16) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    Σ' (L4 : List (View.Piece (Elt F) S128x18944 .fp8e4m3)), { L9 : List (View.Piece (Elt F) S8x128 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} (arg4.view.writes (Elt F) f4 L4)) ∗ (arg5.view.loc (c : Thread nD τ) ↦[arg5.view.set]{fullShare} f5) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (arg9.view.loc (c : Thread nD τ) ↦[arg9.view.set]{fullShare} (arg9.view.writes (Elt F) f9 L9))) -∗ K ⟨⟩))
          ⊢ wp frame (wpE (defs₀ (F := F)) Variants.none c none) E (cc0_rotate_quantise (F := F) i arg1 harg1 arg2 harg2 arg3 harg3 arg4 harg4 arg5 harg5 arg6 harg6 arg7 harg7 arg8 harg8 arg9 harg9) K } := by
  refine ⟨?_, ?_, fun E K => ?run⟩
  case run =>
    simp only [cc0_rotate_quantise_eq_skeleton]; unfold cc0_rotate_quantise_skel
    simp (config := { zeta := true }) only [hA, hC, ↓reduceDIte]
    unfold owns
    iintro ⟨⟨%f1, %hf1, H1⟩, ⟨%f2, %hf2, H2⟩, ⟨%f3, %hf3, H3⟩, H4, H5, H6, H7, H8, H9, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    isplitl [H6]; · iexists _; iexact H6
    isplitl [H7]; · iexists _; iexact H7
    isplitl [H8]; · iexists _; iexact H8
    iexact H9

end Cert.RotateIdeal.Trip
-- ==== Proof.RotateT.RotateIdealRunC.lean ====
module

public import proofs.«01_k».proof.Proof.RotateT.RotateIdealLoops
public import proofs.«01_k».proof.Proof.Gen.RotateIdeal.Frame

@[expose] public section

set_option maxRecDepth 16384
set_option maxHeartbeats 4000000

noncomputable section

namespace Cert.RotateIdeal.Trip

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The body's run, case C: its inputs at their contents, the outputs and the scratch at the pieces the run writes. -/
@[irreducible] def runC (c : Dev nD) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole) (hA : ¬ (Scalar.cmpi .ne (Scalar.extui (Scalar.cmpi .eq (BitVec.ofNat 32 (i 0).val) 0#32) : BitVec 32) 0#32 = 1#1)) (hC : k0_cond2 i = 1#1)
    (x1 : Vec F S1 .f32) (x2 : Vec F S128x18944 .bf16) (x3 : Vec F S160x160 .bf16) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    Σ' (L4 : List (View.Piece (Elt F) S128x18944 .fp8e4m3)) (L9 : List (View.Piece (Elt F) S8x128 .f32)), { L5 : List (View.Piece (Elt F) S1 .f32) //
      ∀ (E : Set ℕ) (K : PUnit → sProp 𝕄G),
        iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (iprop(owns (c : Thread nD τ) arg1 fullShare x1 ∗ owns (c : Thread nD τ) arg2 fullShare x2 ∗ owns (c : Thread nD τ) arg3 fullShare x3 ∗ (arg4.view.loc (c : Thread nD τ) ↦[arg4.view.set]{fullShare} (arg4.view.writes (Elt F) f4 L4)) ∗ (arg5.view.loc (c : Thread nD τ) ↦[arg5.view.set]{fullShare} (arg5.view.writes (Elt F) f5 L5)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (arg9.view.loc (c : Thread nD τ) ↦[arg9.view.set]{fullShare} (arg9.view.writes (Elt F) f9 L9))) -∗ K ⟨⟩))
          ⊢ wp frame (wpE (defs₀ (F := F)) Variants.none c none) E (cc0_rotate_quantise (F := F) i arg1 harg1 arg2 harg2 arg3 harg3 arg4 harg4 arg5 harg5 arg6 harg6 arg7 harg7 arg8 harg8 arg9 harg9) K } := by
  refine ⟨?_, ?_, ?_, fun E K => ?run⟩
  case run =>
    simp only [cc0_rotate_quantise_eq_skeleton]; unfold cc0_rotate_quantise_skel
    simp (config := { zeta := true }) only [hA, hC, ↓reduceDIte]
    unfold owns
    iintro ⟨⟨%f1, %hf1, H1⟩, ⟨%f2, %hf2, H2⟩, ⟨%f3, %hf3, H3⟩, H4, H5, H6, H7, H8, H9, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexact H4
    isplitl [H5]; · iexact H5
    isplitl [H6]; · iexists _; iexact H6
    isplitl [H7]; · iexists _; iexact H7
    isplitl [H8]; · iexists _; iexact H8
    iexact H9

end Cert.RotateIdeal.Trip
-- ==== Proof.RotateT.ValLists.lean ====
module

public import proofs.«01_k».proof.Proof.RotateT.RotateIdealLoops
public import proofs.«01_k».proof.Proof.Gen.RotateIdeal.Frame
public import Idealize.ShloMosaic.Lib.Pipeline.ValueKit
public import Idealize.ShloMosaic.Lib.WholeRead
public import Idealize.ShloMosaic.Lib.Pointwise

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

/-- Every piece of the list holds, at each of its indices, what `G` holds at the index of the buffer. -/
def Agree {S : Shape} {e : EltTy} (G : S.Idx → Elt Ideal e) (L : List (View.Piece (Elt Ideal) S e)) : Prop :=
  ∀ p ∈ L, ∀ x, p.2 x = G (p.1.emb x)

/-- Some piece of the list writes the index `y`. -/
def Hits {S : Shape} {e : EltTy} (L : List (View.Piece (Elt Ideal) S e)) (y : S.Idx) : Prop :=
  ∃ p ∈ L, ∃ x, p.1.emb x = y

section Lists
variable {S : Shape} {e : EltTy} {G : S.Idx → Elt Ideal e} {p : View.Piece (Elt Ideal) S e}
  {L M : List (View.Piece (Elt Ideal) S e)} {y : S.Idx}

theorem agree_nil (G : S.Idx → Elt Ideal e) : Agree G [] := fun _ h => (List.not_mem_nil h).elim

theorem agree_cons (h : ∀ x, p.2 x = G (p.1.emb x)) (hL : Agree G L) : Agree G (p :: L) :=
  fun q hq => by
    rcases List.mem_cons.mp hq with rfl | hq
    · exact h
    · exact hL q hq

theorem agree_append (hL : Agree G L) (hM : Agree G M) : Agree G (L ++ M) :=
  fun q hq => (List.mem_append.mp hq).elim (hL q) (hM q)

theorem hits_head (h : ∃ x, p.1.emb x = y) : Hits (p :: L) y := ⟨p, List.mem_cons_self, h⟩

theorem hits_tail (h : Hits L y) : Hits (p :: L) y :=
  let ⟨q, hq, hx⟩ := h; ⟨q, List.mem_cons_of_mem _ hq, hx⟩

theorem hits_left (h : Hits L y) : Hits (L ++ M) y :=
  let ⟨q, hq, hx⟩ := h; ⟨q, List.mem_append_left _ hq, hx⟩

theorem hits_right (h : Hits M y) : Hits (L ++ M) y :=
  let ⟨q, hq, hx⟩ := h; ⟨q, List.mem_append_right _ hq, hx⟩

/-- An index some piece writes reads what all the pieces agree with. -/
theorem read_of_agree {κ : Kind} {sp : Space} (v : View sig κ sp S e) (f : v.ty.Contents (Elt Ideal)) :
    ∀ L : List (View.Piece (Elt Ideal) S e), Agree G L → Hits L y → v.read (Elt Ideal) (v.writes (Elt Ideal) f L) y = G y
  | [], _, h => by obtain ⟨_, hm, _⟩ := h; exact absurd hm List.not_mem_nil
  | p :: L, hG, h => by
    by_cases hy : y ∈ p.1.set
    · obtain ⟨x, rfl⟩ : ∃ x, p.1.emb x = y := p.1.exists_idx_of_mem hy
      rw [View.read_writes_cons_emb]
      exact hG p List.mem_cons_self x
    · have hy' : y ∉ Finset.univ.map p.1.emb := by rwa [Rect.map_emb_univ]
      rw [View.writes_cons, View.read_slice_write_of_not_mem p.1 _ _ _ hy']
      refine read_of_agree v f L (fun q hq => hG q (List.mem_cons_of_mem _ hq)) ?_
      obtain ⟨q, hq, x, hx⟩ := h
      rcases List.mem_cons.mp hq with rfl | hq'
      · exact absurd (by rw [← Rect.map_emb_univ, ← hx]; exact Finset.mem_map_of_mem _ (Finset.mem_univ x)) hy
      · exact ⟨q, hq', x, hx⟩

end Lists

end Cert.RotateIdeal.Trip
-- ==== Proof.RotateT.Val1.lean ====
module

public import proofs.«01_k».proof.Proof.RotateT.ValLists

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

/-- The tile at token `a` and column `n` (zero past the tile). -/
def xat (x2 : Vec Ideal S128x18944 .bf16) (a : Fin 128) (n : ℕ) : EReal :=
  if h : n < 18944 then x2 (ix2 a ⟨n, h⟩) else 0

/-- What the first (`q = 0`) or second (`q = 1`) transposed tile holds. -/
def XG (q : ℕ) (x2 : Vec Ideal S128x18944 .bf16) (y : S4872x2x128.Idx) : EReal :=
  xat x2 (y 2) (((y 0).val % 76 * 2 + (y 1).val) * 128 + 2 * ((y 0).val / 76) + q)

variable (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

theorem t1_read (x2 : Vec Ideal S128x18944 .bf16) (o : Fin 2 → ℕ) (m : ℕ) (ho : o = ![0, m]) (h) (a n : Fin 128) :
    View.readAt (Elt Ideal) arg2.view (Rect.unit (s := S128x18944) o ![128, 128] h).toLoadRect (harg2.unread x2) (ix2 a n)
      = xat x2 a (m + n.val) := by
  subst ho
  rw [Memref.IsWhole.readAt_unread]
  have hm : m + 128 ≤ 18944 := h 1
  unfold xat
  rw [dif_pos (by have := n.isLt; omega)]
  congr 1
  idx_ext

theorem t1_piece (x2 : Vec Ideal S128x18944 .bf16) (k : Fin k0_t1_loop.trips) (r1 : Fin 2) (r2 : Fin 8) (q : Fin 2)
    (o1 o2 : Fin 2 → ℕ) (o3 : Fin 3 → ℕ) (h1 : o1 = ![0, 512 * k.val + 256 * r1.val])
    (h2 : o2 = ![0, 512 * k.val + 256 * r1.val + 128]) (h3 : o3 = ![2 * k.val + r1.val + 608 * r2.val, 0, 0])
    (x0 : Fin 8) (x1 : Fin 2) (a n : Fin 128) (i1) (i2) (i3) (i4) (hn : n.val = 2 * (8 * r2.val + x0.val) + q.val) :
    (if x1.val % 2 = 0 then
        View.readAt (Elt Ideal) arg2.view (Rect.unit (s := S128x18944) o1 ![128, 128] i1).toLoadRect (harg2.unread x2) (ix2 a n)
      else
        View.readAt (Elt Ideal) arg2.view (Rect.unit (s := S128x18944) o2 ![128, 128] i2).toLoadRect (harg2.unread x2) (ix2 a n))
      = XG q.val x2 (({ off := o3, size := ![8, 2, 128], stride := ![76, 1, 1], inb := i3, stride_pos := i4 } : Rect S4872x2x128).emb (ix3 x0 x1 a)) := by
  rw [t1_read arg2 harg2 x2 o1 _ h1, t1_read arg2 harg2 x2 o2 _ h2]
  subst h3
  have hk : k.val < 37 := Nat.lt_of_lt_of_le k.isLt k0_t1_abs.2.1
  have e0 : ((({ off := ![2 * k.val + r1.val + 608 * r2.val, 0, 0], size := ![8, 2, 128], stride := ![76, 1, 1], inb := i3, stride_pos := i4 } : Rect S4872x2x128).emb (ix3 x0 x1 a)) 0).val = 2 * k.val + r1.val + 608 * r2.val + 76 * x0.val := rfl
  have e1 : ((({ off := ![2 * k.val + r1.val + 608 * r2.val, 0, 0], size := ![8, 2, 128], stride := ![76, 1, 1], inb := i3, stride_pos := i4 } : Rect S4872x2x128).emb (ix3 x0 x1 a)) 1).val = 0 + 1 * x1.val := rfl
  have e2 : (({ off := ![2 * k.val + r1.val + 608 * r2.val, 0, 0], size := ![8, 2, 128], stride := ![76, 1, 1], inb := i3, stride_pos := i4 } : Rect S4872x2x128).emb (ix3 x0 x1 a)) 2 = a := Fin.ext (by show 0 + 1 * a.val = a.val; omega)
  unfold XG
  rw [e0, e1, e2]
  have d1 : (2 * k.val + r1.val + 608 * r2.val + 76 * x0.val) % 76 = 2 * k.val + r1.val := by omega
  have d2 : (2 * k.val + r1.val + 608 * r2.val + 76 * x0.val) / 76 = 8 * r2.val + x0.val := by omega
  rw [d1, d2]
  split
  · congr 1; omega
  · congr 1; omega

/-- A 128×128 block of the tile, transposed, its rows of parity `q`, eight of them from row `8 r2`. -/
abbrev rows8 (q : Fin 2) (r2 : Fin 8) (v : Vec Ideal S128x128 .bf16) (h : S64x128.Slices ![8 * r2.val, 0] S8x128) : FVec Ideal S8x128 .bf16 :=
  extractStridedSlice S8x128 ![8 * r2.val, 0]
    (rowsOfParity q S64x128 (transpose S128x128 [1, 0] (shapeCast S128x128 v shapeCasts_S128x128_S128x128) transposes_S128x128_p1_0_S128x128) bitcasts_S128x128_w16_S64x128_w32) h

theorem rows8_apply (q : Fin 2) (r2 : Fin 8) (v : Vec Ideal S128x128 .bf16) (h) (x0 : Fin 8) (a : Fin 128) (n : Fin 128)
    (hn : n.val = 2 * (8 * r2.val + x0.val) + q.val) : rows8 q r2 v h (ix2 x0 a) = v (ix2 a n) := by
  obtain ⟨n, hn'⟩ := n
  obtain rfl : n = _ := hn
  unfold rows8
  pointwise []

theorem t1_pay (X : Vec Ideal S128x18944 .bf16) (k : Fin k0_t1_loop.trips) (r1 : Fin 2) (r2 : Fin 8) (q : Fin 2)
    (o1 o2 : Fin 2 → ℕ) (o3 : Fin 3 → ℕ) (h1 : o1 = ![0, 512 * k.val + 256 * r1.val])
    (h2 : o2 = ![0, 512 * k.val + 256 * r1.val + 128]) (h3 : o3 = ![2 * k.val + r1.val + 608 * r2.val, 0, 0])
    (i1) (i2) (i3) (i4) (h) (x : S8x2x128.Idx) :
    interleaveRows S8x2x128
        (shapeCast S8x1x128 (rows8 q r2 (View.readAt (Elt Ideal) arg2.view (Rect.unit (s := S128x18944) o1 ![128, 128] i1).toLoadRect (harg2.unread X)) h) shapeCasts_S8x128_S8x1x128)
        (shapeCast S8x1x128 (rows8 q r2 (View.readAt (Elt Ideal) arg2.view (Rect.unit (s := S128x18944) o2 ![128, 128] i2).toLoadRect (harg2.unread X)) h) shapeCasts_S8x128_S8x1x128)
        bitcasts_S8x2x128_w16_S8x1x128_w32 x
      = XG q.val X (({ off := o3, size := ![8, 2, 128], stride := ![76, 1, 1], inb := i3, stride_pos := i4 } : Rect S4872x2x128).emb x) := by
  idx_vars x
  have hr := r2.isLt
  have hq := q.isLt
  have hx := x0.isLt
  have hn : 2 * (8 * r2.val + x0.val) + q.val < 128 := by omega
  refine Eq.trans ?_ (t1_piece arg2 harg2 X k r1 r2 q o1 o2 o3 h1 h2 h3 x0 x1 x2 ⟨_, hn⟩ i1 i2 i3 i4 rfl)
  generalize View.readAt (Elt Ideal) arg2.view (Rect.unit (s := S128x18944) o1 ![128, 128] i1).toLoadRect (harg2.unread X) = V1
  generalize View.readAt (Elt Ideal) arg2.view (Rect.unit (s := S128x18944) o2 ![128, 128] i2).toLoadRect (harg2.unread X) = V2
  rw [← rows8_apply q r2 V1 h x0 x2 ⟨_, hn⟩ rfl, ← rows8_apply q r2 V2 h x0 x2 ⟨_, hn⟩ rfl]
  generalize rows8 q r2 V1 h = A
  generalize rows8 q r2 V2 h = B
  pointwise []

theorem trip1_agree6 (X : Vec Ideal S128x18944 .bf16) (k : Fin k0_t1_loop.trips) :
    Agree (XG 0 X) (trip1 (F := Ideal) 𝒱 c bd i arg1 harg1 arg2 harg2 arg3 harg3 arg4 harg4 arg5 harg5 arg6 harg6 arg7 harg7 arg8 harg8 arg9 harg9 (harg2.unread X) k).1 := by
  unfold trip1
  dsimp only
  refine agree_cons (fun x => t1_pay arg2 harg2 X k 1 7 0 _ _ _ (k0_off1_eq k 1) (k0_off2_eq k 1) (k0_off3_eq k 1 7) _ _ _ _ _ x) ?_
  refine agree_cons (fun x => t1_pay arg2 harg2 X k 1 6 0 _ _ _ (k0_off1_eq k 1) (k0_off2_eq k 1) (k0_off3_eq k 1 6) _ _ _ _ _ x) ?_
  refine agree_cons (fun x => t1_pay arg2 harg2 X k 1 5 0 _ _ _ (k0_off1_eq k 1) (k0_off2_eq k 1) (k0_off3_eq k 1 5) _ _ _ _ _ x) ?_
  refine agree_cons (fun x => t1_pay arg2 harg2 X k 1 4 0 _ _ _ (k0_off1_eq k 1) (k0_off2_eq k 1) (k0_off3_eq k 1 4) _ _ _ _ _ x) ?_
  refine agree_cons (fun x => t1_pay arg2 harg2 X k 1 3 0 _ _ _ (k0_off1_eq k 1) (k0_off2_eq k 1) (k0_off3_eq k 1 3) _ _ _ _ _ x) ?_
  refine agree_cons (fun x => t1_pay arg2 harg2 X k 1 2 0 _ _ _ (k0_off1_eq k 1) (k0_off2_eq k 1) (k0_off3_eq k 1 2) _ _ _ _ _ x) ?_
  refine agree_cons (fun x => t1_pay arg2 harg2 X k 1 1 0 _ _ _ (k0_off1_eq k 1) (k0_off2_eq k 1) (k0_off3_eq k 1 1) _ _ _ _ _ x) ?_
  refine agree_cons (fun x => t1_pay arg2 harg2 X k 1 0 0 _ _ _ (k0_off1_eq k 1) (k0_off2_eq k 1) (k0_off3_eq k 1 0) _ _ _ _ _ x) ?_
  refine agree_cons (fun x => t1_pay arg2 harg2 X k 0 7 0 _ _ _ (k0_off1_eq k 0) (k0_off2_eq k 0) (k0_off3_eq k 0 7) _ _ _ _ _ x) ?_
  refine agree_cons (fun x => t1_pay arg2 harg2 X k 0 6 0 _ _ _ (k0_off1_eq k 0) (k0_off2_eq k 0) (k0_off3_eq k 0 6) _ _ _ _ _ x) ?_
  refine agree_cons (fun x => t1_pay arg2 harg2 X k 0 5 0 _ _ _ (k0_off1_eq k 0) (k0_off2_eq k 0) (k0_off3_eq k 0 5) _ _ _ _ _ x) ?_
  refine agree_cons (fun x => t1_pay arg2 harg2 X k 0 4 0 _ _ _ (k0_off1_eq k 0) (k0_off2_eq k 0) (k0_off3_eq k 0 4) _ _ _ _ _ x) ?_
  refine agree_cons (fun x => t1_pay arg2 harg2 X k 0 3 0 _ _ _ (k0_off1_eq k 0) (k0_off2_eq k 0) (k0_off3_eq k 0 3) _ _ _ _ _ x) ?_
  refine agree_cons (fun x => t1_pay arg2 harg2 X k 0 2 0 _ _ _ (k0_off1_eq k 0) (k0_off2_eq k 0) (k0_off3_eq k 0 2) _ _ _ _ _ x) ?_
  refine agree_cons (fun x => t1_pay arg2 harg2 X k 0 1 0 _ _ _ (k0_off1_eq k 0) (k0_off2_eq k 0) (k0_off3_eq k 0 1) _ _ _ _ _ x) ?_
  refine agree_cons (fun x => t1_pay arg2 harg2 X k 0 0 0 _ _ _ (k0_off1_eq k 0) (k0_off2_eq k 0) (k0_off3_eq k 0 0) _ _ _ _ _ x) ?_
  exact agree_nil _

theorem trip1_agree7 (X : Vec Ideal S128x18944 .bf16) (k : Fin k0_t1_loop.trips) :
    Agree (XG 1 X) (trip1 (F := Ideal) 𝒱 c bd i arg1 harg1 arg2 harg2 arg3 harg3 arg4 harg4 arg5 harg5 arg6 harg6 arg7 harg7 arg8 harg8 arg9 harg9 (harg2.unread X) k).2.1 := by
  unfold trip1
  dsimp only
  refine agree_cons (fun x => t1_pay arg2 harg2 X k 1 7 1 _ _ _ (k0_off1_eq k 1) (k0_off2_eq k 1) (k0_off3_eq k 1 7) _ _ _ _ _ x) ?_
  refine agree_cons (fun x => t1_pay arg2 harg2 X k 1 6 1 _ _ _ (k0_off1_eq k 1) (k0_off2_eq k 1) (k0_off3_eq k 1 6) _ _ _ _ _ x) ?_
  refine agree_cons (fun x => t1_pay arg2 harg2 X k 1 5 1 _ _ _ (k0_off1_eq k 1) (k0_off2_eq k 1) (k0_off3_eq k 1 5) _ _ _ _ _ x) ?_
  refine agree_cons (fun x => t1_pay arg2 harg2 X k 1 4 1 _ _ _ (k0_off1_eq k 1) (k0_off2_eq k 1) (k0_off3_eq k 1 4) _ _ _ _ _ x) ?_
  refine agree_cons (fun x => t1_pay arg2 harg2 X k 1 3 1 _ _ _ (k0_off1_eq k 1) (k0_off2_eq k 1) (k0_off3_eq k 1 3) _ _ _ _ _ x) ?_
  refine agree_cons (fun x => t1_pay arg2 harg2 X k 1 2 1 _ _ _ (k0_off1_eq k 1) (k0_off2_eq k 1) (k0_off3_eq k 1 2) _ _ _ _ _ x) ?_
  refine agree_cons (fun x => t1_pay arg2 harg2 X k 1 1 1 _ _ _ (k0_off1_eq k 1) (k0_off2_eq k 1) (k0_off3_eq k 1 1) _ _ _ _ _ x) ?_
  refine agree_cons (fun x => t1_pay arg2 harg2 X k 1 0 1 _ _ _ (k0_off1_eq k 1) (k0_off2_eq k 1) (k0_off3_eq k 1 0) _ _ _ _ _ x) ?_
  refine agree_cons (fun x => t1_pay arg2 harg2 X k 0 7 1 _ _ _ (k0_off1_eq k 0) (k0_off2_eq k 0) (k0_off3_eq k 0 7) _ _ _ _ _ x) ?_
  refine agree_cons (fun x => t1_pay arg2 harg2 X k 0 6 1 _ _ _ (k0_off1_eq k 0) (k0_off2_eq k 0) (k0_off3_eq k 0 6) _ _ _ _ _ x) ?_
  refine agree_cons (fun x => t1_pay arg2 harg2 X k 0 5 1 _ _ _ (k0_off1_eq k 0) (k0_off2_eq k 0) (k0_off3_eq k 0 5) _ _ _ _ _ x) ?_
  refine agree_cons (fun x => t1_pay arg2 harg2 X k 0 4 1 _ _ _ (k0_off1_eq k 0) (k0_off2_eq k 0) (k0_off3_eq k 0 4) _ _ _ _ _ x) ?_
  refine agree_cons (fun x => t1_pay arg2 harg2 X k 0 3 1 _ _ _ (k0_off1_eq k 0) (k0_off2_eq k 0) (k0_off3_eq k 0 3) _ _ _ _ _ x) ?_
  refine agree_cons (fun x => t1_pay arg2 harg2 X k 0 2 1 _ _ _ (k0_off1_eq k 0) (k0_off2_eq k 0) (k0_off3_eq k 0 2) _ _ _ _ _ x) ?_
  refine agree_cons (fun x => t1_pay arg2 harg2 X k 0 1 1 _ _ _ (k0_off1_eq k 0) (k0_off2_eq k 0) (k0_off3_eq k 0 1) _ _ _ _ _ x) ?_
  refine agree_cons (fun x => t1_pay arg2 harg2 X k 0 0 1 _ _ _ (k0_off1_eq k 0) (k0_off2_eq k 0) (k0_off3_eq k 0 0) _ _ _ _ _ x) ?_
  exact agree_nil _

theorem t1_geo (o3 : Fin 3 → ℕ) (m : ℕ) (h3 : o3 = ![m, 0, 0]) (i3) (i4) (y : S4872x2x128.Idx) (x0 : Fin 8)
    (hy : (y 0).val = m + 76 * x0.val) :
    ∃ x, ({ off := o3, size := ![8, 2, 128], stride := ![76, 1, 1], inb := i3, stride_pos := i4 } : Rect S4872x2x128).emb x = y := by
  subst h3
  refine ⟨ix3 x0 (y 1) (y 2), funext fun d => Fin.ext ?_⟩
  match d with
  | 0 => exact hy.symm
  | 1 => show 0 + 1 * (y 1).val = (y 1).val; omega
  | 2 => show 0 + 1 * (y 2).val = (y 2).val; omega

theorem trip1_hits6 (X2) (k : Fin k0_t1_loop.trips) (y : S4872x2x128.Idx) (r1 : Fin 2) (r2 x0 : Fin 8)
    (hy : (y 0).val = 2 * k.val + r1.val + 608 * r2.val + 76 * x0.val) :
    Hits (trip1 (F := Ideal) 𝒱 c bd i arg1 harg1 arg2 harg2 arg3 harg3 arg4 harg4 arg5 harg5 arg6 harg6 arg7 harg7 arg8 harg8 arg9 harg9 X2 k).1 y := by
  unfold trip1
  dsimp only
  match r1, r2 with
  | 0, 0 => exact hits_tail (hits_tail (hits_tail (hits_tail (hits_tail (hits_tail (hits_tail (hits_tail (hits_tail (hits_tail (hits_tail (hits_tail (hits_tail (hits_tail (hits_tail (hits_head (t1_geo _ _ (k0_off3_eq k 0 0) _ _ y x0 hy))))))))))))))))
  | 0, 1 => exact hits_tail (hits_tail (hits_tail (hits_tail (hits_tail (hits_tail (hits_tail (hits_tail (hits_tail (hits_tail (hits_tail (hits_tail (hits_tail (hits_tail (hits_head (t1_geo _ _ (k0_off3_eq k 0 1) _ _ y x0 hy)))))))))))))))
  | 0, 2 => exact hits_tail (hits_tail (hits_tail (hits_tail (hits_tail (hits_tail (hits_tail (hits_tail (hits_tail (hits_tail (hits_tail (hits_tail (hits_tail (hits_head (t1_geo _ _ (k0_off3_eq k 0 2) _ _ y x0 hy))))))))))))))
  | 0, 3 => exact hits_tail (hits_tail (hits_tail (hits_tail (hits_tail (hits_tail (hits_tail (hits_tail (hits_tail (hits_tail (hits_tail (hits_tail (hits_head (t1_geo _ _ (k0_off3_eq k 0 3) _ _ y x0 hy)))))))))))))
  | 0, 4 => exact hits_tail (hits_tail (hits_tail (hits_tail (hits_tail (hits_tail (hits_tail (hits_tail (hits_tail (hits_tail (hits_tail (hits_head (t1_geo _ _ (k0_off3_eq k 0 4) _ _ y x0 hy))))))))))))
  | 0, 5 => exact hits_tail (hits_tail (hits_tail (hits_tail (hits_tail (hits_tail (hits_tail (hits_tail (hits_tail (hits_tail (hits_head (t1_geo _ _ (k0_off3_eq k 0 5) _ _ y x0 hy)))))))))))
  | 0, 6 => exact hits_tail (hits_tail (hits_tail (hits_tail (hits_tail (hits_tail (hits_tail (hits_tail (hits_tail (hits_head (t1_geo _ _ (k0_off3_eq k 0 6) _ _ y x0 hy))))))))))
  | 0, 7 => exact hits_tail (hits_tail (hits_tail (hits_tail (hits_tail (hits_tail (hits_tail (hits_tail (hits_head (t1_geo _ _ (k0_off3_eq k 0 7) _ _ y x0 hy)))))))))
  | 1, 0 => exact hits_tail (hits_tail (hits_tail (hits_tail (hits_tail (hits_tail (hits_tail (hits_head (t1_geo _ _ (k0_off3_eq k 1 0) _ _ y x0 hy))))))))
  | 1, 1 => exact hits_tail (hits_tail (hits_tail (hits_tail (hits_tail (hits_tail (hits_head (t1_geo _ _ (k0_off3_eq k 1 1) _ _ y x0 hy)))))))
  | 1, 2 => exact hits_tail (hits_tail (hits_tail (hits_tail (hits_tail (hits_head (t1_geo _ _ (k0_off3_eq k 1 2) _ _ y x0 hy))))))
  | 1, 3 => exact hits_tail (hits_tail (hits_tail (hits_tail (hits_head (t1_geo _ _ (k0_off3_eq k 1 3) _ _ y x0 hy)))))
  | 1, 4 => exact hits_tail (hits_tail (hits_tail (hits_head (t1_geo _ _ (k0_off3_eq k 1 4) _ _ y x0 hy))))
  | 1, 5 => exact hits_tail (hits_tail (hits_head (t1_geo _ _ (k0_off3_eq k 1 5) _ _ y x0 hy)))
  | 1, 6 => exact hits_tail (hits_head (t1_geo _ _ (k0_off3_eq k 1 6) _ _ y x0 hy))
  | 1, 7 => exact hits_head (t1_geo _ _ (k0_off3_eq k 1 7) _ _ y x0 hy)

theorem trip1_hits7 (X2) (k : Fin k0_t1_loop.trips) (y : S4872x2x128.Idx) (r1 : Fin 2) (r2 x0 : Fin 8)
    (hy : (y 0).val = 2 * k.val + r1.val + 608 * r2.val + 76 * x0.val) :
    Hits (trip1 (F := Ideal) 𝒱 c bd i arg1 harg1 arg2 harg2 arg3 harg3 arg4 harg4 arg5 harg5 arg6 harg6 arg7 harg7 arg8 harg8 arg9 harg9 X2 k).2.1 y := by
  unfold trip1
  dsimp only
  match r1, r2 with
  | 0, 0 => exact hits_tail (hits_tail (hits_tail (hits_tail (hits_tail (hits_tail (hits_tail (hits_tail (hits_tail (hits_tail (hits_tail (hits_tail (hits_tail (hits_tail (hits_tail (hits_head (t1_geo _ _ (k0_off3_eq k 0 0) _ _ y x0 hy))))))))))))))))
  | 0, 1 => exact hits_tail (hits_tail (hits_tail (hits_tail (hits_tail (hits_tail (hits_tail (hits_tail (hits_tail (hits_tail (hits_tail (hits_tail (hits_tail (hits_tail (hits_head (t1_geo _ _ (k0_off3_eq k 0 1) _ _ y x0 hy)))))))))))))))
  | 0, 2 => exact hits_tail (hits_tail (hits_tail (hits_tail (hits_tail (hits_tail (hits_tail (hits_tail (hits_tail (hits_tail (hits_tail (hits_tail (hits_tail (hits_head (t1_geo _ _ (k0_off3_eq k 0 2) _ _ y x0 hy))))))))))))))
  | 0, 3 => exact hits_tail (hits_tail (hits_tail (hits_tail (hits_tail (hits_tail (hits_tail (hits_tail (hits_tail (hits_tail (hits_tail (hits_tail (hits_head (t1_geo _ _ (k0_off3_eq k 0 3) _ _ y x0 hy)))))))))))))
  | 0, 4 => exact hits_tail (hits_tail (hits_tail (hits_tail (hits_tail (hits_tail (hits_tail (hits_tail (hits_tail (hits_tail (hits_tail (hits_head (t1_geo _ _ (k0_off3_eq k 0 4) _ _ y x0 hy))))))))))))
  | 0, 5 => exact hits_tail (hits_tail (hits_tail (hits_tail (hits_tail (hits_tail (hits_tail (hits_tail (hits_tail (hits_tail (hits_head (t1_geo _ _ (k0_off3_eq k 0 5) _ _ y x0 hy)))))))))))
  | 0, 6 => exact hits_tail (hits_tail (hits_tail (hits_tail (hits_tail (hits_tail (hits_tail (hits_tail (hits_tail (hits_head (t1_geo _ _ (k0_off3_eq k 0 6) _ _ y x0 hy))))))))))
  | 0, 7 => exact hits_tail (hits_tail (hits_tail (hits_tail (hits_tail (hits_tail (hits_tail (hits_tail (hits_head (t1_geo _ _ (k0_off3_eq k 0 7) _ _ y x0 hy)))))))))
  | 1, 0 => exact hits_tail (hits_tail (hits_tail (hits_tail (hits_tail (hits_tail (hits_tail (hits_head (t1_geo _ _ (k0_off3_eq k 1 0) _ _ y x0 hy))))))))
  | 1, 1 => exact hits_tail (hits_tail (hits_tail (hits_tail (hits_tail (hits_tail (hits_head (t1_geo _ _ (k0_off3_eq k 1 1) _ _ y x0 hy)))))))
  | 1, 2 => exact hits_tail (hits_tail (hits_tail (hits_tail (hits_tail (hits_head (t1_geo _ _ (k0_off3_eq k 1 2) _ _ y x0 hy))))))
  | 1, 3 => exact hits_tail (hits_tail (hits_tail (hits_tail (hits_head (t1_geo _ _ (k0_off3_eq k 1 3) _ _ y x0 hy)))))
  | 1, 4 => exact hits_tail (hits_tail (hits_tail (hits_head (t1_geo _ _ (k0_off3_eq k 1 4) _ _ y x0 hy))))
  | 1, 5 => exact hits_tail (hits_tail (hits_head (t1_geo _ _ (k0_off3_eq k 1 5) _ _ y x0 hy)))
  | 1, 6 => exact hits_tail (hits_head (t1_geo _ _ (k0_off3_eq k 1 6) _ _ y x0 hy))
  | 1, 7 => exact hits_head (t1_geo _ _ (k0_off3_eq k 1 7) _ _ y x0 hy)

end Cert.RotateIdeal.Trip
-- ==== Proof.RotateT.Val1b.lean ====
module

public import proofs.«01_k».proof.Proof.RotateT.Val1

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

variable (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

theorem t1_trips : k0_t1_loop.trips = 37 := by decide +kernel
theorem t2_trips : k0_t2_loop.trips = 16 := by decide +kernel
theorem t3_trips : k0_t3_loop.trips = 37 := by decide +kernel

theorem pb1_agree (X : Vec Ideal S128x18944 .bf16) (n : ℕ) (hn : n ≤ k0_t1_loop.trips) :
    Agree (XG 0 X) (pb1 (F := Ideal) 𝒱 c bd i arg1 harg1 arg2 harg2 arg3 harg3 arg4 harg4 arg5 harg5 arg6 harg6 arg7 harg7 arg8 harg8 arg9 harg9 (harg2.unread X) n).1 ∧ Agree (XG 1 X) (pb1 (F := Ideal) 𝒱 c bd i arg1 harg1 arg2 harg2 arg3 harg3 arg4 harg4 arg5 harg5 arg6 harg6 arg7 harg7 arg8 harg8 arg9 harg9 (harg2.unread X) n).2 := by
  induction n with
  | zero => exact ⟨agree_nil _, agree_nil _⟩
  | succ n ih =>
    have e := pb1_succ (F := Ideal) 𝒱 c bd i arg1 harg1 arg2 harg2 arg3 harg3 arg4 harg4 arg5 harg5 arg6 harg6 arg7 harg7 arg8 harg8 arg9 harg9 (harg2.unread X) ⟨n, hn⟩
    dsimp only at e
    rw [e]
    have ih := ih (by omega)
    exact ⟨agree_append (trip1_agree6 𝒱 c bd i arg1 harg1 arg2 harg2 arg3 harg3 arg4 harg4 arg5 harg5 arg6 harg6 arg7 harg7 arg8 harg8 arg9 harg9 X _) ih.1, agree_append (trip1_agree7 𝒱 c bd i arg1 harg1 arg2 harg2 arg3 harg3 arg4 harg4 arg5 harg5 arg6 harg6 arg7 harg7 arg8 harg8 arg9 harg9 X _) ih.2⟩

theorem pb1_hits (X2) (n : ℕ) (hn : n ≤ k0_t1_loop.trips) (k : ℕ) (hk : k < n) (y : S4872x2x128.Idx) (r1 : Fin 2) (r2 x0 : Fin 8)
    (hy : (y 0).val = 2 * k + r1.val + 608 * r2.val + 76 * x0.val) :
    Hits (pb1 (F := Ideal) 𝒱 c bd i arg1 harg1 arg2 harg2 arg3 harg3 arg4 harg4 arg5 harg5 arg6 harg6 arg7 harg7 arg8 harg8 arg9 harg9 X2 n).1 y ∧ Hits (pb1 (F := Ideal) 𝒱 c bd i arg1 harg1 arg2 harg2 arg3 harg3 arg4 harg4 arg5 harg5 arg6 harg6 arg7 harg7 arg8 harg8 arg9 harg9 X2 n).2 y := by
  induction n with
  | zero => omega
  | succ n ih =>
    have e := pb1_succ (F := Ideal) 𝒱 c bd i arg1 harg1 arg2 harg2 arg3 harg3 arg4 harg4 arg5 harg5 arg6 harg6 arg7 harg7 arg8 harg8 arg9 harg9 X2 ⟨n, hn⟩
    dsimp only at e
    rw [e]
    by_cases h : k = n
    · subst h
      exact ⟨hits_left (trip1_hits6 𝒱 c bd i arg1 harg1 arg2 harg2 arg3 harg3 arg4 harg4 arg5 harg5 arg6 harg6 arg7 harg7 arg8 harg8 arg9 harg9 X2 _ y r1 r2 x0 hy), hits_left (trip1_hits7 𝒱 c bd i arg1 harg1 arg2 harg2 arg3 harg3 arg4 harg4 arg5 harg5 arg6 harg6 arg7 harg7 arg8 harg8 arg9 harg9 X2 _ y r1 r2 x0 hy)⟩
    · have ih := ih (by omega) (by omega)
      exact ⟨hits_right ih.1, hits_right ih.2⟩

/-- What the two transposed tiles read after the loop, at the word rows that belong to the tile. -/
theorem tiles_read (X : Vec Ideal S128x18944 .bf16) (f6) (f7) (y : S4872x2x128.Idx) (r kp : ℕ) (hr : r < 64) (hkp : kp < 74)
    (hy : (y 0).val = r * 76 + kp) :
    arg6.view.read (Elt Ideal) (arg6.view.writes (Elt Ideal) f6 (pb1 (F := Ideal) 𝒱 c bd i arg1 harg1 arg2 harg2 arg3 harg3 arg4 harg4 arg5 harg5 arg6 harg6 arg7 harg7 arg8 harg8 arg9 harg9 (harg2.unread X) k0_t1_loop.trips).1) y
        = xat X (y 2) ((kp * 2 + (y 1).val) * 128 + 2 * r)
    ∧ arg7.view.read (Elt Ideal) (arg7.view.writes (Elt Ideal) f7 (pb1 (F := Ideal) 𝒱 c bd i arg1 harg1 arg2 harg2 arg3 harg3 arg4 harg4 arg5 harg5 arg6 harg6 arg7 harg7 arg8 harg8 arg9 harg9 (harg2.unread X) k0_t1_loop.trips).2) y
        = xat X (y 2) ((kp * 2 + (y 1).val) * 128 + 2 * r + 1) := by
  have hA := pb1_agree 𝒱 c bd i arg1 harg1 arg2 harg2 arg3 harg3 arg4 harg4 arg5 harg5 arg6 harg6 arg7 harg7 arg8 harg8 arg9 harg9 X k0_t1_loop.trips le_rfl
  have hH := pb1_hits 𝒱 c bd i arg1 harg1 arg2 harg2 arg3 harg3 arg4 harg4 arg5 harg5 arg6 harg6 arg7 harg7 arg8 harg8 arg9 harg9 (harg2.unread X) k0_t1_loop.trips le_rfl (kp / 2) (by rw [t1_trips]; omega) y
    ⟨kp % 2, by omega⟩ ⟨r / 8, by omega⟩ ⟨r % 8, by omega⟩ (by rw [hy]; dsimp only; omega)
  have d1 : (y 0).val % 76 = kp := by rw [hy]; omega
  have d2 : (y 0).val / 76 = r := by rw [hy]; omega
  rw [read_of_agree _ _ _ hA.1 hH.1, read_of_agree _ _ _ hA.2 hH.2]
  unfold XG
  rw [d1, d2]
  exact ⟨rfl, rfl⟩

end Cert.RotateIdeal.Trip
-- ==== Proof.RotateT.Val2a.lean ====
module

public import proofs.«01_k».proof.Proof.RotateT.Val1b

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

/-- One stage of the transform over the positions: the pairs at distance `h` by their sum and difference. -/
def st (h : ℕ) (v : ℕ → EReal) (p : ℕ) : EReal :=
  if p / h % 2 = 0 then v p + v (p + h) else v (p - h) - v p

theorem st_lo {h : ℕ} {v : ℕ → EReal} {p q : ℕ} (hp : p / h % 2 = 0) (hq : p + h = q) : st h v p = v p + v q := by
  unfold st; rw [if_pos hp, hq]

theorem st_hi {h : ℕ} {v : ℕ → EReal} {p q : ℕ} (hp : p / h % 2 ≠ 0) (hq : q + h = p) : st h v p = v q - v p := by
  unfold st; rw [if_neg hp, ← hq, Nat.add_sub_cancel]

theorem st1_0 (v : ℕ → EReal) (m : ℕ) : st 1 v (8 * m) = v (8 * m) + v (8 * m + 1) := st_lo (by omega) (by omega)
theorem st1_1 (v : ℕ → EReal) (m : ℕ) : st 1 v (8 * m + 1) = v (8 * m) - v (8 * m + 1) := st_hi (by omega) (by omega)
theorem st1_2 (v : ℕ → EReal) (m : ℕ) : st 1 v (8 * m + 2) = v (8 * m + 2) + v (8 * m + 3) := st_lo (by omega) (by omega)
theorem st1_3 (v : ℕ → EReal) (m : ℕ) : st 1 v (8 * m + 3) = v (8 * m + 2) - v (8 * m + 3) := st_hi (by omega) (by omega)
theorem st1_4 (v : ℕ → EReal) (m : ℕ) : st 1 v (8 * m + 4) = v (8 * m + 4) + v (8 * m + 5) := st_lo (by omega) (by omega)
theorem st1_5 (v : ℕ → EReal) (m : ℕ) : st 1 v (8 * m + 5) = v (8 * m + 4) - v (8 * m + 5) := st_hi (by omega) (by omega)
theorem st1_6 (v : ℕ → EReal) (m : ℕ) : st 1 v (8 * m + 6) = v (8 * m + 6) + v (8 * m + 7) := st_lo (by omega) (by omega)
theorem st1_7 (v : ℕ → EReal) (m : ℕ) : st 1 v (8 * m + 7) = v (8 * m + 6) - v (8 * m + 7) := st_hi (by omega) (by omega)
theorem st2_0 (v : ℕ → EReal) (m : ℕ) : st 2 v (8 * m) = v (8 * m) + v (8 * m + 2) := st_lo (by omega) (by omega)
theorem st2_1 (v : ℕ → EReal) (m : ℕ) : st 2 v (8 * m + 1) = v (8 * m + 1) + v (8 * m + 3) := st_lo (by omega) (by omega)
theorem st2_2 (v : ℕ → EReal) (m : ℕ) : st 2 v (8 * m + 2) = v (8 * m) - v (8 * m + 2) := st_hi (by omega) (by omega)
theorem st2_3 (v : ℕ → EReal) (m : ℕ) : st 2 v (8 * m + 3) = v (8 * m + 1) - v (8 * m + 3) := st_hi (by omega) (by omega)
theorem st2_4 (v : ℕ → EReal) (m : ℕ) : st 2 v (8 * m + 4) = v (8 * m + 4) + v (8 * m + 6) := st_lo (by omega) (by omega)
theorem st2_5 (v : ℕ → EReal) (m : ℕ) : st 2 v (8 * m + 5) = v (8 * m + 5) + v (8 * m + 7) := st_lo (by omega) (by omega)
theorem st2_6 (v : ℕ → EReal) (m : ℕ) : st 2 v (8 * m + 6) = v (8 * m + 4) - v (8 * m + 6) := st_hi (by omega) (by omega)
theorem st2_7 (v : ℕ → EReal) (m : ℕ) : st 2 v (8 * m + 7) = v (8 * m + 5) - v (8 * m + 7) := st_hi (by omega) (by omega)
theorem st4_0 (v : ℕ → EReal) (m : ℕ) : st 4 v (8 * m) = v (8 * m) + v (8 * m + 4) := st_lo (by omega) (by omega)
theorem st4_1 (v : ℕ → EReal) (m : ℕ) : st 4 v (8 * m + 1) = v (8 * m + 1) + v (8 * m + 5) := st_lo (by omega) (by omega)
theorem st4_2 (v : ℕ → EReal) (m : ℕ) : st 4 v (8 * m + 2) = v (8 * m + 2) + v (8 * m + 6) := st_lo (by omega) (by omega)
theorem st4_3 (v : ℕ → EReal) (m : ℕ) : st 4 v (8 * m + 3) = v (8 * m + 3) + v (8 * m + 7) := st_lo (by omega) (by omega)
theorem st4_4 (v : ℕ → EReal) (m : ℕ) : st 4 v (8 * m + 4) = v (8 * m) - v (8 * m + 4) := st_hi (by omega) (by omega)
theorem st4_5 (v : ℕ → EReal) (m : ℕ) : st 4 v (8 * m + 5) = v (8 * m + 1) - v (8 * m + 5) := st_hi (by omega) (by omega)
theorem st4_6 (v : ℕ → EReal) (m : ℕ) : st 4 v (8 * m + 6) = v (8 * m + 2) - v (8 * m + 6) := st_hi (by omega) (by omega)
theorem st4_7 (v : ℕ → EReal) (m : ℕ) : st 4 v (8 * m + 7) = v (8 * m + 3) - v (8 * m + 7) := st_hi (by omega) (by omega)

/-- The matrix at `(a, k)`, zero outside. -/
def hat (x3 : Vec Ideal S160x160 .bf16) (a k : ℕ) : EReal :=
  if h : a < 160 ∧ k < 160 then x3 (ix2 ⟨a, h.1⟩ ⟨k, h.2⟩) else 0

/-- The dense factor: row `a` of the matrix against the blocks of the token at position `p`. -/
def dense (x3 : Vec Ideal S160x160 .bf16) (X : Vec Ideal S128x18944 .bf16) (a : ℕ) (tok : Fin 128) (p : ℕ) : EReal :=
  ∑ k : Fin 148, hat x3 a k.val * xat X tok (k.val * 128 + p)

/-- What the array of partial transforms holds: three stages of the butterfly over the dense factor. -/
def ZG (x3 : Vec Ideal S160x160 .bf16) (X : Vec Ideal S128x18944 .bf16) (y : S19536x128.Idx) : EReal :=
  st 4 (st 2 (st 1 (dense x3 X ((y 0).val / 132) (y 1)))) ((y 0).val % 132)

/-- Entry `r` of the three-stage butterfly of eight vectors. -/
abbrev bf8 {S : Shape} (z : Fin 8 → FVec Ideal S .f32) (r : Fin 8) : FVec Ideal S .f32 :=
  match r with
  | 0 => (addf (addf (addf (z 0) (z 1)) (addf (z 2) (z 3))) (addf (addf (z 4) (z 5)) (addf (z 6) (z 7))))
  | 1 => (addf (addf (subf (z 0) (z 1)) (subf (z 2) (z 3))) (addf (subf (z 4) (z 5)) (subf (z 6) (z 7))))
  | 2 => (addf (subf (addf (z 0) (z 1)) (addf (z 2) (z 3))) (subf (addf (z 4) (z 5)) (addf (z 6) (z 7))))
  | 3 => (addf (subf (subf (z 0) (z 1)) (subf (z 2) (z 3))) (subf (subf (z 4) (z 5)) (subf (z 6) (z 7))))
  | 4 => (subf (addf (addf (z 0) (z 1)) (addf (z 2) (z 3))) (addf (addf (z 4) (z 5)) (addf (z 6) (z 7))))
  | 5 => (subf (addf (subf (z 0) (z 1)) (subf (z 2) (z 3))) (addf (subf (z 4) (z 5)) (subf (z 6) (z 7))))
  | 6 => (subf (subf (addf (z 0) (z 1)) (addf (z 2) (z 3))) (subf (addf (z 4) (z 5)) (addf (z 6) (z 7))))
  | 7 => (subf (subf (subf (z 0) (z 1)) (subf (z 2) (z 3))) (subf (subf (z 4) (z 5)) (subf (z 6) (z 7))))

theorem bf8_apply {S : Shape} (z : Fin 8 → FVec Ideal S .f32) (x : S.Idx) (m : ℕ) (v : ℕ → EReal)
    (hz : ∀ j : Fin 8, z j x = v (8 * m + j.val)) (r : Fin 8) :
    bf8 z r x = st 4 (st 2 (st 1 v)) (8 * m + r.val) := by
  have hz0 := hz 0
  have hz1 := hz 1
  have hz2 := hz 2
  have hz3 := hz 3
  have hz4 := hz 4
  have hz5 := hz 5
  have hz6 := hz 6
  have hz7 := hz 7
  match r with
  | 0 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)
  | 1 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)
  | 2 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)
  | 3 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)
  | 4 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)
  | 5 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)
  | 6 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)
  | 7 => first | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; done) | (pointwise [bf8, hz0, hz1, hz2, hz3, hz4, hz5, hz6, hz7, st1_0, st1_1, st1_2, st1_3, st1_4, st1_5, st1_6, st1_7, st2_0, st2_1, st2_2, st2_3, st2_4, st2_5, st2_6, st2_7, st4_0, st4_1, st4_2, st4_3, st4_4, st4_5, st4_6, st4_7]; rfl)

/-- The packed words of a load as rows: the two halves of a word in turn. -/
abbrev unpk (A : Vec Ideal S80x2x128 .bf16) : FVec Ideal S160x128 .bf16 :=
  interleaveRows S160x128
    (shapeCast S80x128 (rowsOfParity 0 S80x1x128 A bitcasts_S80x2x128_w16_S80x1x128_w32) shapeCasts_S80x1x128_S80x128)
    (shapeCast S80x128 (rowsOfParity 1 S80x1x128 A bitcasts_S80x2x128_w16_S80x1x128_w32) shapeCasts_S80x1x128_S80x128)
    bitcasts_S160x128_w16_S80x128_w32

/-- The matrix against two unpacked tiles side by side. -/
abbrev prod (M : Vec Ideal S160x160 .bf16) (A B : Vec Ideal S80x2x128 .bf16) : FVec Ideal S160x256 .f32 :=
  matmul (φ₁ := .bf16) (φ₂ := .bf16) dot_S160x160_S160x256_S160x256_1_0_0_1_n_n none (shapeCast S160x160 M shapeCasts_S160x160_S160x160)
    (concatenate S160x256 1 [⟨S160x128, unpk A⟩, ⟨S160x128, unpk B⟩] concatenates_S160x128_S160x128_S160x256_d1)
    (constant S160x256 .f32 0x00000000#32)

theorem unpk_apply (A : Vec Ideal S80x2x128 .bf16) (k : Fin 160) (a : Fin 128) :
    unpk A (ix2 k a) = A (ix3 ⟨k.val / 2, by omega⟩ ⟨k.val % 2, by omega⟩ a) := by
  unfold unpk
  pointwise []
  split
  · congr 1; idx_ext
  · congr 1; idx_ext

theorem prod_lo (M : Vec Ideal S160x160 .bf16) (A B : Vec Ideal S80x2x128 .bf16) (g : Fin 19) (x0 : Fin 8) (a : Fin 128) (h) :
    extractStridedSlice S8x128 ![8 * g.val, 0] (prod M A B) h (ix2 x0 a)
      = ∑ k : Fin 160, M (ix2 ⟨8 * g.val + x0.val, by omega⟩ k) * unpk A (ix2 k a) := by
  unfold prod
  generalize unpk A = UA
  generalize unpk B = UB
  pointwise []
  done

theorem prod_hi (M : Vec Ideal S160x160 .bf16) (A B : Vec Ideal S80x2x128 .bf16) (g : Fin 19) (x0 : Fin 8) (a : Fin 128) (h) :
    extractStridedSlice S8x128 ![8 * g.val, 128] (prod M A B) h (ix2 x0 a)
      = ∑ k : Fin 160, M (ix2 ⟨8 * g.val + x0.val, by omega⟩ k) * unpk B (ix2 k a) := by
  unfold prod
  generalize unpk A = UA
  generalize unpk B = UB
  pointwise []
  done

end Cert.RotateIdeal.Trip
-- ==== Proof.RotateT.Val2b.lean ====
module

public import proofs.«01_k».proof.Proof.RotateT.Val2a

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

variable (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

/-- The load of the matrix. -/
abbrev ld3 (x3 : Vec Ideal S160x160 .bf16) : Vec Ideal S160x160 .bf16 :=
  View.readAt (Elt Ideal) arg3.view (Rect.unit (s := S160x160) ![0, 0] ![160, 160] inb_S160x160_S160x160_0_0).toLoadRect (harg3.unread x3)

/-- The load of the first transposed tile for the block of positions `i` of trip `k`. -/
abbrev ld6 (X6 : BufTy.Contents (Elt Ideal) arg6.view.ty) (k : Fin k0_t2_loop.trips) (i : Fin 4) : Vec Ideal S80x2x128 .bf16 :=
  View.readAt (Elt Ideal) arg6.view (Rect.unit (s := S4872x2x128) (k0_off4 k (BitVec.ofNat 32 i.val)) ![80, 2, 128] (k0_off4_inb k i)).toLoadRect X6

/-- The load of the second transposed tile. -/
abbrev ld7 (X7 : BufTy.Contents (Elt Ideal) arg7.view.ty) (k : Fin k0_t2_loop.trips) (i : Fin 4) : Vec Ideal S80x2x128 .bf16 :=
  View.readAt (Elt Ideal) arg7.view (Rect.unit (s := S4872x2x128) (k0_off4 k (BitVec.ofNat 32 i.val)) ![80, 2, 128] (k0_off4_inb k i)).toLoadRect X7

/-- The eight vectors of group `g`. -/
abbrev leaf8 (g : Fin 19) (P : Fin 4 → FVec Ideal S160x256 .f32) (h0 : S160x256.Slices ![8 * g.val, 0] S8x128)
    (h1 : S160x256.Slices ![8 * g.val, 128] S8x128) (j : Fin 8) : FVec Ideal S8x128 .f32 :=
  match j with
  | 0 => extractStridedSlice S8x128 ![8 * g.val, 0] (P 0) h0
  | 1 => extractStridedSlice S8x128 ![8 * g.val, 128] (P 0) h1
  | 2 => extractStridedSlice S8x128 ![8 * g.val, 0] (P 1) h0
  | 3 => extractStridedSlice S8x128 ![8 * g.val, 128] (P 1) h1
  | 4 => extractStridedSlice S8x128 ![8 * g.val, 0] (P 2) h0
  | 5 => extractStridedSlice S8x128 ![8 * g.val, 128] (P 2) h1
  | 6 => extractStridedSlice S8x128 ![8 * g.val, 0] (P 3) h0
  | 7 => extractStridedSlice S8x128 ![8 * g.val, 128] (P 3) h1

theorem sum_dense (x3 : Vec Ideal S160x160 .bf16) (X : Vec Ideal S128x18944 .bf16)
    (hz : ∀ (a k : Fin 160), 148 ≤ k.val → x3 (ix2 a k) = 0) (a : Fin 160) (tok : Fin 128) (p : ℕ) (w : Fin 160 → EReal)
    (hw : ∀ k : Fin 160, k.val < 148 → w k = xat X tok (k.val * 128 + p)) :
    ∑ k : Fin 160, x3 (ix2 a k) * w k = dense x3 X a.val tok p := by
  have e := Fin.sum_univ_add (a := 148) (b := 12) (fun k : Fin (148 + 12) => (x3 (ix2 a k) * w k : EReal))
  refine e.trans ?_
  have z : ∑ k : Fin 12, (x3 (ix2 a (Fin.natAdd 148 k)) * w (Fin.natAdd 148 k) : EReal) = 0 :=
    Finset.sum_eq_zero fun k _ => by rw [hz a _ (Nat.le_add_right _ _), zero_mul]
  rw [z, add_zero]
  unfold dense
  refine Finset.sum_congr rfl fun k _ => ?_
  have hk := k.isLt
  rw [hw (Fin.castAdd 12 k) hk]
  unfold hat
  rw [dif_pos ⟨a.isLt, by omega⟩]
  rfl

theorem ld3_apply (x3 : Vec Ideal S160x160 .bf16) (a k : Fin 160) : ld3 arg3 harg3 x3 (ix2 a k) = x3 (ix2 a k) := by
  unfold ld3
  rw [Memref.IsWhole.readAt_unread]
  congr 1
  idx_ext

theorem leaf8_apply (x3 : Vec Ideal S160x160 .bf16) (X6 : BufTy.Contents (Elt Ideal) arg6.view.ty) (X7 : BufTy.Contents (Elt Ideal) arg7.view.ty)
    (X : Vec Ideal S128x18944 .bf16) (hz : ∀ (a k : Fin 160), 148 ≤ k.val → x3 (ix2 a k) = 0)
    (h6 : ∀ (y : S4872x2x128.Idx) (r kp : ℕ), r < 64 → kp < 74 → (y 0).val = r * 76 + kp →
      arg6.view.read (Elt Ideal) X6 y = xat X (y 2) ((kp * 2 + (y 1).val) * 128 + 2 * r))
    (h7 : ∀ (y : S4872x2x128.Idx) (r kp : ℕ), r < 64 → kp < 74 → (y 0).val = r * 76 + kp →
      arg7.view.read (Elt Ideal) X7 y = xat X (y 2) ((kp * 2 + (y 1).val) * 128 + 2 * r + 1)) (k : Fin k0_t2_loop.trips) (g : Fin 19) (h0) (h1) (x0 : Fin 8) (a : Fin 128) (j : Fin 8) :
    leaf8 g (fun i => prod (ld3 arg3 harg3 x3) (ld6 arg6 X6 k i) (ld7 arg7 X7 k i)) h0 h1 j (ix2 x0 a)
      = dense x3 X (8 * g.val + x0.val) a (8 * k.val + j.val) := by
  have hk : k.val < 16 := Nat.lt_of_lt_of_le k.isLt k0_t2_abs.2.1
  have lo : ∀ i : Fin 4, extractStridedSlice S8x128 ![8 * g.val, 0] (prod (ld3 arg3 harg3 x3) (ld6 arg6 X6 k i) (ld7 arg7 X7 k i)) h0 (ix2 x0 a)
      = dense x3 X (8 * g.val + x0.val) a (8 * k.val + 2 * i.val) := fun i => by
    rw [prod_lo]
    simp only [ld3_apply]
    refine sum_dense x3 X hz _ a _ _ fun q hq => ?_
    rw [unpk_apply]
    have e := k0_off4_eq k i
    have hi := i.isLt
    unfold ld6
    rw [View.readAt_apply]
    have a0 : (((Rect.unit (s := S4872x2x128) (k0_off4 k (BitVec.ofNat 32 i.val)) ![80, 2, 128] (k0_off4_inb k i)).toLoadRect.idx
        (ix3 ⟨q.val / 2, by omega⟩ ⟨q.val % 2, by omega⟩ a)) 0).val = k0_off4 k (BitVec.ofNat 32 i.val) 0 + 1 * (q.val / 2) := rfl
    have a1 : (((Rect.unit (s := S4872x2x128) (k0_off4 k (BitVec.ofNat 32 i.val)) ![80, 2, 128] (k0_off4_inb k i)).toLoadRect.idx
        (ix3 ⟨q.val / 2, by omega⟩ ⟨q.val % 2, by omega⟩ a)) 1).val = k0_off4 k (BitVec.ofNat 32 i.val) 1 + 1 * (q.val % 2) := rfl
    have a2 : (((Rect.unit (s := S4872x2x128) (k0_off4 k (BitVec.ofNat 32 i.val)) ![80, 2, 128] (k0_off4_inb k i)).toLoadRect.idx
        (ix3 ⟨q.val / 2, by omega⟩ ⟨q.val % 2, by omega⟩ a)) 2).val = k0_off4 k (BitVec.ofNat 32 i.val) 2 + 1 * a.val := rfl
    have e0 : k0_off4 k (BitVec.ofNat 32 i.val) 0 = 304 * k.val + 76 * i.val := by rw [e]; rfl
    have e1 : k0_off4 k (BitVec.ofNat 32 i.val) 1 = 0 := by rw [e]; rfl
    have e2 : k0_off4 k (BitVec.ofNat 32 i.val) 2 = 0 := by rw [e]; rfl
    rw [e0] at a0; rw [e1] at a1; rw [e2] at a2
    rw [h6 _ (4 * k.val + i.val) (q.val / 2) (by omega) (by omega) (by rw [a0]; omega), a1]
    have a2' : (Rect.unit (s := S4872x2x128) (k0_off4 k (BitVec.ofNat 32 i.val)) ![80, 2, 128] (k0_off4_inb k i)).toLoadRect.idx
        (ix3 ⟨q.val / 2, by omega⟩ ⟨q.val % 2, by omega⟩ a) 2 = a := Fin.ext (by rw [a2]; omega)
    rw [a2']
    congr 1
    omega
  have hi : ∀ i : Fin 4, extractStridedSlice S8x128 ![8 * g.val, 128] (prod (ld3 arg3 harg3 x3) (ld6 arg6 X6 k i) (ld7 arg7 X7 k i)) h1 (ix2 x0 a)
      = dense x3 X (8 * g.val + x0.val) a (8 * k.val + (2 * i.val + 1)) := fun i => by
    rw [prod_hi]
    simp only [ld3_apply]
    refine sum_dense x3 X hz _ a _ _ fun q hq => ?_
    rw [unpk_apply]
    have e := k0_off4_eq k i
    have hi := i.isLt
    unfold ld7
    rw [View.readAt_apply]
    have a0 : (((Rect.unit (s := S4872x2x128) (k0_off4 k (BitVec.ofNat 32 i.val)) ![80, 2, 128] (k0_off4_inb k i)).toLoadRect.idx
        (ix3 ⟨q.val / 2, by omega⟩ ⟨q.val % 2, by omega⟩ a)) 0).val = k0_off4 k (BitVec.ofNat 32 i.val) 0 + 1 * (q.val / 2) := rfl
    have a1 : (((Rect.unit (s := S4872x2x128) (k0_off4 k (BitVec.ofNat 32 i.val)) ![80, 2, 128] (k0_off4_inb k i)).toLoadRect.idx
        (ix3 ⟨q.val / 2, by omega⟩ ⟨q.val % 2, by omega⟩ a)) 1).val = k0_off4 k (BitVec.ofNat 32 i.val) 1 + 1 * (q.val % 2) := rfl
    have a2 : (((Rect.unit (s := S4872x2x128) (k0_off4 k (BitVec.ofNat 32 i.val)) ![80, 2, 128] (k0_off4_inb k i)).toLoadRect.idx
        (ix3 ⟨q.val / 2, by omega⟩ ⟨q.val % 2, by omega⟩ a)) 2).val = k0_off4 k (BitVec.ofNat 32 i.val) 2 + 1 * a.val := rfl
    have e0 : k0_off4 k (BitVec.ofNat 32 i.val) 0 = 304 * k.val + 76 * i.val := by rw [e]; rfl
    have e1 : k0_off4 k (BitVec.ofNat 32 i.val) 1 = 0 := by rw [e]; rfl
    have e2 : k0_off4 k (BitVec.ofNat 32 i.val) 2 = 0 := by rw [e]; rfl
    rw [e0] at a0; rw [e1] at a1; rw [e2] at a2
    rw [h7 _ (4 * k.val + i.val) (q.val / 2) (by omega) (by omega) (by rw [a0]; omega), a1]
    have a2' : (Rect.unit (s := S4872x2x128) (k0_off4 k (BitVec.ofNat 32 i.val)) ![80, 2, 128] (k0_off4_inb k i)).toLoadRect.idx
        (ix3 ⟨q.val / 2, by omega⟩ ⟨q.val % 2, by omega⟩ a) 2 = a := Fin.ext (by rw [a2]; omega)
    rw [a2']
    congr 1
    omega
  match j with
  | 0 => exact lo 0
  | 1 => exact hi 0
  | 2 => exact lo 1
  | 3 => exact hi 1
  | 4 => exact lo 2
  | 5 => exact hi 2
  | 6 => exact lo 3
  | 7 => exact hi 3

theorem t2_pay8 (x3 : Vec Ideal S160x160 .bf16) (X6 : BufTy.Contents (Elt Ideal) arg6.view.ty) (X7 : BufTy.Contents (Elt Ideal) arg7.view.ty)
    (X : Vec Ideal S128x18944 .bf16) (hz : ∀ (a k : Fin 160), 148 ≤ k.val → x3 (ix2 a k) = 0)
    (h6 : ∀ (y : S4872x2x128.Idx) (r kp : ℕ), r < 64 → kp < 74 → (y 0).val = r * 76 + kp →
      arg6.view.read (Elt Ideal) X6 y = xat X (y 2) ((kp * 2 + (y 1).val) * 128 + 2 * r))
    (h7 : ∀ (y : S4872x2x128.Idx) (r kp : ℕ), r < 64 → kp < 74 → (y 0).val = r * 76 + kp →
      arg7.view.read (Elt Ideal) X7 y = xat X (y 2) ((kp * 2 + (y 1).val) * 128 + 2 * r + 1)) (k : Fin k0_t2_loop.trips) (g : Fin 18) (r : Fin 8) (o : Fin 2 → ℕ) (ho : o = ![1056 * g.val + 8 * k.val + r.val, 0])
    (i3) (i4) (h0) (h1) (x : S8x128.Idx) :
    shapeCast S8x128 (bf8 (leaf8 (g.castSucc) (fun i => prod (ld3 arg3 harg3 x3) (ld6 arg6 X6 k i) (ld7 arg7 X7 k i)) h0 h1) r) shapeCasts_S8x128_S8x128 x
      = ZG x3 X (({ off := o, size := ![8, 128], stride := ![132, 1], inb := i3, stride_pos := i4 } : Rect S19536x128).emb x) := by
  idx_vars x
  subst ho
  have hk : k.val < 16 := Nat.lt_of_lt_of_le k.isLt k0_t2_abs.2.1
  have hr := r.isLt
  have hg := g.isLt
  have hx := x0.isLt
  have e0 : ((({ off := ![1056 * g.val + 8 * k.val + r.val, 0], size := ![8, 128], stride := ![132, 1], inb := i3, stride_pos := i4 } : Rect S19536x128).emb (ix2 x0 x1)) 0).val = 1056 * g.val + 8 * k.val + r.val + 132 * x0.val := rfl
  have e1 : (({ off := ![1056 * g.val + 8 * k.val + r.val, 0], size := ![8, 128], stride := ![132, 1], inb := i3, stride_pos := i4 } : Rect S19536x128).emb (ix2 x0 x1)) 1 = x1 := Fin.ext (by show 0 + 1 * x1.val = x1.val; omega)
  have d1 : (1056 * g.val + 8 * k.val + r.val + 132 * x0.val) / 132 = 8 * g.val + x0.val := by omega
  have d2 : (1056 * g.val + 8 * k.val + r.val + 132 * x0.val) % 132 = 8 * k.val + r.val := by omega
  unfold ZG
  rw [e0, e1, d1, d2, shapeCast_id]
  exact bf8_apply _ _ k.val _ (fun j => leaf8_apply arg3 harg3 arg6 arg7 x3 X6 X7 X hz h6 h7 k g.castSucc h0 h1 x0 x1 j) r

theorem t2_pay4 (x3 : Vec Ideal S160x160 .bf16) (X6 : BufTy.Contents (Elt Ideal) arg6.view.ty) (X7 : BufTy.Contents (Elt Ideal) arg7.view.ty)
    (X : Vec Ideal S128x18944 .bf16) (hz : ∀ (a k : Fin 160), 148 ≤ k.val → x3 (ix2 a k) = 0)
    (h6 : ∀ (y : S4872x2x128.Idx) (r kp : ℕ), r < 64 → kp < 74 → (y 0).val = r * 76 + kp →
      arg6.view.read (Elt Ideal) X6 y = xat X (y 2) ((kp * 2 + (y 1).val) * 128 + 2 * r))
    (h7 : ∀ (y : S4872x2x128.Idx) (r kp : ℕ), r < 64 → kp < 74 → (y 0).val = r * 76 + kp →
      arg7.view.read (Elt Ideal) X7 y = xat X (y 2) ((kp * 2 + (y 1).val) * 128 + 2 * r + 1)) (k : Fin k0_t2_loop.trips) (r : Fin 8) (o : Fin 2 → ℕ) (ho : o = ![8 * k.val + r.val + 19008, 0])
    (i3) (i4) (h0) (h1) (h2) (x : S4x128.Idx) :
    shapeCast S4x128 (extractStridedSlice S4x128 ![0, 0] (bf8 (leaf8 18 (fun i => prod (ld3 arg3 harg3 x3) (ld6 arg6 X6 k i) (ld7 arg7 X7 k i)) h0 h1) r) h2) shapeCasts_S4x128_S4x128 x
      = ZG x3 X (({ off := o, size := ![4, 128], stride := ![132, 1], inb := i3, stride_pos := i4 } : Rect S19536x128).emb x) := by
  idx_vars x
  subst ho
  have hk : k.val < 16 := Nat.lt_of_lt_of_le k.isLt k0_t2_abs.2.1
  have hr := r.isLt
  have hx := x0.isLt
  have e0 : ((({ off := ![8 * k.val + r.val + 19008, 0], size := ![4, 128], stride := ![132, 1], inb := i3, stride_pos := i4 } : Rect S19536x128).emb (ix2 x0 x1)) 0).val = 8 * k.val + r.val + 19008 + 132 * x0.val := rfl
  have e1 : (({ off := ![8 * k.val + r.val + 19008, 0], size := ![4, 128], stride := ![132, 1], inb := i3, stride_pos := i4 } : Rect S19536x128).emb (ix2 x0 x1)) 1 = x1 := Fin.ext (by show 0 + 1 * x1.val = x1.val; omega)
  have d1 : (8 * k.val + r.val + 19008 + 132 * x0.val) / 132 = 8 * 18 + x0.val := by omega
  have d2 : (8 * k.val + r.val + 19008 + 132 * x0.val) % 132 = 8 * k.val + r.val := by omega
  unfold ZG
  rw [e0, e1, d1, d2, shapeCast_id]
  have e := bf8_apply _ _ k.val _ (fun j => leaf8_apply arg3 harg3 arg6 arg7 x3 X6 X7 X hz h6 h7 k 18 h0 h1 ⟨x0.val, by omega⟩ x1 j) r
  refine Eq.trans ?_ e
  generalize bf8 _ r = W
  pointwise []

end Cert.RotateIdeal.Trip
-- ==== Proof.RotateT.Val2c.lean ====
module

public import proofs.«01_k».proof.Proof.RotateT.Val2b

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

variable (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

theorem slc0 : ∀ g : Fin 19, S160x256.Slices ![8 * g.val, 0] S8x128 := by decide
theorem slc1 : ∀ g : Fin 19, S160x256.Slices ![8 * g.val, 128] S8x128 := by decide
theorem slc2 : S8x128.Slices ![0, 0] S4x128 := by decide

theorem trip2_agree (x3 : Vec Ideal S160x160 .bf16) (X6 : BufTy.Contents (Elt Ideal) arg6.view.ty) (X7 : BufTy.Contents (Elt Ideal) arg7.view.ty)
    (X : Vec Ideal S128x18944 .bf16) (hz : ∀ (a k : Fin 160), 148 ≤ k.val → x3 (ix2 a k) = 0)
    (h6 : ∀ (y : S4872x2x128.Idx) (r kp : ℕ), r < 64 → kp < 74 → (y 0).val = r * 76 + kp →
      arg6.view.read (Elt Ideal) X6 y = xat X (y 2) ((kp * 2 + (y 1).val) * 128 + 2 * r))
    (h7 : ∀ (y : S4872x2x128.Idx) (r kp : ℕ), r < 64 → kp < 74 → (y 0).val = r * 76 + kp →
      arg7.view.read (Elt Ideal) X7 y = xat X (y 2) ((kp * 2 + (y 1).val) * 128 + 2 * r + 1)) (k : Fin k0_t2_loop.trips) :
    Agree (ZG x3 X) (trip2 (F := Ideal) 𝒱 c bd i arg1 harg1 arg2 harg2 arg3 harg3 arg4 harg4 arg5 harg5 arg6 harg6 arg7 harg7 arg8 harg8 arg9 harg9 (harg3.unread x3) X6 X7 k).1 := by
  unfold trip2
  dsimp only
  refine agree_cons (fun x => t2_pay4 arg3 harg3 arg6 arg7 x3 X6 X7 X hz h6 h7 k 7 _ (k0_off6_eq k 7) _ _ (slc0 18) (slc1 18) slc2 x) ?_
  refine agree_cons (fun x => t2_pay4 arg3 harg3 arg6 arg7 x3 X6 X7 X hz h6 h7 k 6 _ (k0_off6_eq k 6) _ _ (slc0 18) (slc1 18) slc2 x) ?_
  refine agree_cons (fun x => t2_pay4 arg3 harg3 arg6 arg7 x3 X6 X7 X hz h6 h7 k 5 _ (k0_off6_eq k 5) _ _ (slc0 18) (slc1 18) slc2 x) ?_
  refine agree_cons (fun x => t2_pay4 arg3 harg3 arg6 arg7 x3 X6 X7 X hz h6 h7 k 4 _ (k0_off6_eq k 4) _ _ (slc0 18) (slc1 18) slc2 x) ?_
  refine agree_cons (fun x => t2_pay4 arg3 harg3 arg6 arg7 x3 X6 X7 X hz h6 h7 k 3 _ (k0_off6_eq k 3) _ _ (slc0 18) (slc1 18) slc2 x) ?_
  refine agree_cons (fun x => t2_pay4 arg3 harg3 arg6 arg7 x3 X6 X7 X hz h6 h7 k 2 _ (k0_off6_eq k 2) _ _ (slc0 18) (slc1 18) slc2 x) ?_
  refine agree_cons (fun x => t2_pay4 arg3 harg3 arg6 arg7 x3 X6 X7 X hz h6 h7 k 1 _ (k0_off6_eq k 1) _ _ (slc0 18) (slc1 18) slc2 x) ?_
  refine agree_cons (fun x => t2_pay4 arg3 harg3 arg6 arg7 x3 X6 X7 X hz h6 h7 k 0 _ (k0_off6_eq k 0) _ _ (slc0 18) (slc1 18) slc2 x) ?_
  refine agree_cons (fun x => t2_pay8 arg3 harg3 arg6 arg7 x3 X6 X7 X hz h6 h7 k 17 7 _ (k0_off5_eq k 17 7) _ _ (slc0 (Fin.castSucc 17)) (slc1 (Fin.castSucc 17)) x) ?_
  refine agree_cons (fun x => t2_pay8 arg3 harg3 arg6 arg7 x3 X6 X7 X hz h6 h7 k 17 6 _ (k0_off5_eq k 17 6) _ _ (slc0 (Fin.castSucc 17)) (slc1 (Fin.castSucc 17)) x) ?_
  refine agree_cons (fun x => t2_pay8 arg3 harg3 arg6 arg7 x3 X6 X7 X hz h6 h7 k 17 5 _ (k0_off5_eq k 17 5) _ _ (slc0 (Fin.castSucc 17)) (slc1 (Fin.castSucc 17)) x) ?_
  refine agree_cons (fun x => t2_pay8 arg3 harg3 arg6 arg7 x3 X6 X7 X hz h6 h7 k 17 4 _ (k0_off5_eq k 17 4) _ _ (slc0 (Fin.castSucc 17)) (slc1 (Fin.castSucc 17)) x) ?_
  refine agree_cons (fun x => t2_pay8 arg3 harg3 arg6 arg7 x3 X6 X7 X hz h6 h7 k 17 3 _ (k0_off5_eq k 17 3) _ _ (slc0 (Fin.castSucc 17)) (slc1 (Fin.castSucc 17)) x) ?_
  refine agree_cons (fun x => t2_pay8 arg3 harg3 arg6 arg7 x3 X6 X7 X hz h6 h7 k 17 2 _ (k0_off5_eq k 17 2) _ _ (slc0 (Fin.castSucc 17)) (slc1 (Fin.castSucc 17)) x) ?_
  refine agree_cons (fun x => t2_pay8 arg3 harg3 arg6 arg7 x3 X6 X7 X hz h6 h7 k 17 1 _ (k0_off5_eq k 17 1) _ _ (slc0 (Fin.castSucc 17)) (slc1 (Fin.castSucc 17)) x) ?_
  refine agree_cons (fun x => t2_pay8 arg3 harg3 arg6 arg7 x3 X6 X7 X hz h6 h7 k 17 0 _ (k0_off5_eq k 17 0) _ _ (slc0 (Fin.castSucc 17)) (slc1 (Fin.castSucc 17)) x) ?_
  refine agree_cons (fun x => t2_pay8 arg3 harg3 arg6 arg7 x3 X6 X7 X hz h6 h7 k 16 7 _ (k0_off5_eq k 16 7) _ _ (slc0 (Fin.castSucc 16)) (slc1 (Fin.castSucc 16)) x) ?_
  refine agree_cons (fun x => t2_pay8 arg3 harg3 arg6 arg7 x3 X6 X7 X hz h6 h7 k 16 6 _ (k0_off5_eq k 16 6) _ _ (slc0 (Fin.castSucc 16)) (slc1 (Fin.castSucc 16)) x) ?_
  refine agree_cons (fun x => t2_pay8 arg3 harg3 arg6 arg7 x3 X6 X7 X hz h6 h7 k 16 5 _ (k0_off5_eq k 16 5) _ _ (slc0 (Fin.castSucc 16)) (slc1 (Fin.castSucc 16)) x) ?_
  refine agree_cons (fun x => t2_pay8 arg3 harg3 arg6 arg7 x3 X6 X7 X hz h6 h7 k 16 4 _ (k0_off5_eq k 16 4) _ _ (slc0 (Fin.castSucc 16)) (slc1 (Fin.castSucc 16)) x) ?_
  refine agree_cons (fun x => t2_pay8 arg3 harg3 arg6 arg7 x3 X6 X7 X hz h6 h7 k 16 3 _ (k0_off5_eq k 16 3) _ _ (slc0 (Fin.castSucc 16)) (slc1 (Fin.castSucc 16)) x) ?_
  refine agree_cons (fun x => t2_pay8 arg3 harg3 arg6 arg7 x3 X6 X7 X hz h6 h7 k 16 2 _ (k0_off5_eq k 16 2) _ _ (slc0 (Fin.castSucc 16)) (slc1 (Fin.castSucc 16)) x) ?_
  refine agree_cons (fun x => t2_pay8 arg3 harg3 arg6 arg7 x3 X6 X7 X hz h6 h7 k 16 1 _ (k0_off5_eq k 16 1) _ _ (slc0 (Fin.castSucc 16)) (slc1 (Fin.castSucc 16)) x) ?_
  refine agree_cons (fun x => t2_pay8 arg3 harg3 arg6 arg7 x3 X6 X7 X hz h6 h7 k 16 0 _ (k0_off5_eq k 16 0) _ _ (slc0 (Fin.castSucc 16)) (slc1 (Fin.castSucc 16)) x) ?_
  refine agree_cons (fun x => t2_pay8 arg3 harg3 arg6 arg7 x3 X6 X7 X hz h6 h7 k 15 7 _ (k0_off5_eq k 15 7) _ _ (slc0 (Fin.castSucc 15)) (slc1 (Fin.castSucc 15)) x) ?_
  refine agree_cons (fun x => t2_pay8 arg3 harg3 arg6 arg7 x3 X6 X7 X hz h6 h7 k 15 6 _ (k0_off5_eq k 15 6) _ _ (slc0 (Fin.castSucc 15)) (slc1 (Fin.castSucc 15)) x) ?_
  refine agree_cons (fun x => t2_pay8 arg3 harg3 arg6 arg7 x3 X6 X7 X hz h6 h7 k 15 5 _ (k0_off5_eq k 15 5) _ _ (slc0 (Fin.castSucc 15)) (slc1 (Fin.castSucc 15)) x) ?_
  refine agree_cons (fun x => t2_pay8 arg3 harg3 arg6 arg7 x3 X6 X7 X hz h6 h7 k 15 4 _ (k0_off5_eq k 15 4) _ _ (slc0 (Fin.castSucc 15)) (slc1 (Fin.castSucc 15)) x) ?_
  refine agree_cons (fun x => t2_pay8 arg3 harg3 arg6 arg7 x3 X6 X7 X hz h6 h7 k 15 3 _ (k0_off5_eq k 15 3) _ _ (slc0 (Fin.castSucc 15)) (slc1 (Fin.castSucc 15)) x) ?_
  refine agree_cons (fun x => t2_pay8 arg3 harg3 arg6 arg7 x3 X6 X7 X hz h6 h7 k 15 2 _ (k0_off5_eq k 15 2) _ _ (slc0 (Fin.castSucc 15)) (slc1 (Fin.castSucc 15)) x) ?_
  refine agree_cons (fun x => t2_pay8 arg3 harg3 arg6 arg7 x3 X6 X7 X hz h6 h7 k 15 1 _ (k0_off5_eq k 15 1) _ _ (slc0 (Fin.castSucc 15)) (slc1 (Fin.castSucc 15)) x) ?_
  refine agree_cons (fun x => t2_pay8 arg3 harg3 arg6 arg7 x3 X6 X7 X hz h6 h7 k 15 0 _ (k0_off5_eq k 15 0) _ _ (slc0 (Fin.castSucc 15)) (slc1 (Fin.castSucc 15)) x) ?_
  refine agree_cons (fun x => t2_pay8 arg3 harg3 arg6 arg7 x3 X6 X7 X hz h6 h7 k 14 7 _ (k0_off5_eq k 14 7) _ _ (slc0 (Fin.castSucc 14)) (slc1 (Fin.castSucc 14)) x) ?_
  refine agree_cons (fun x => t2_pay8 arg3 harg3 arg6 arg7 x3 X6 X7 X hz h6 h7 k 14 6 _ (k0_off5_eq k 14 6) _ _ (slc0 (Fin.castSucc 14)) (slc1 (Fin.castSucc 14)) x) ?_
  refine agree_cons (fun x => t2_pay8 arg3 harg3 arg6 arg7 x3 X6 X7 X hz h6 h7 k 14 5 _ (k0_off5_eq k 14 5) _ _ (slc0 (Fin.castSucc 14)) (slc1 (Fin.castSucc 14)) x) ?_
  refine agree_cons (fun x => t2_pay8 arg3 harg3 arg6 arg7 x3 X6 X7 X hz h6 h7 k 14 4 _ (k0_off5_eq k 14 4) _ _ (slc0 (Fin.castSucc 14)) (slc1 (Fin.castSucc 14)) x) ?_
  refine agree_cons (fun x => t2_pay8 arg3 harg3 arg6 arg7 x3 X6 X7 X hz h6 h7 k 14 3 _ (k0_off5_eq k 14 3) _ _ (slc0 (Fin.castSucc 14)) (slc1 (Fin.castSucc 14)) x) ?_
  refine agree_cons (fun x => t2_pay8 arg3 harg3 arg6 arg7 x3 X6 X7 X hz h6 h7 k 14 2 _ (k0_off5_eq k 14 2) _ _ (slc0 (Fin.castSucc 14)) (slc1 (Fin.castSucc 14)) x) ?_
  refine agree_cons (fun x => t2_pay8 arg3 harg3 arg6 arg7 x3 X6 X7 X hz h6 h7 k 14 1 _ (k0_off5_eq k 14 1) _ _ (slc0 (Fin.castSucc 14)) (slc1 (Fin.castSucc 14)) x) ?_
  refine agree_cons (fun x => t2_pay8 arg3 harg3 arg6 arg7 x3 X6 X7 X hz h6 h7 k 14 0 _ (k0_off5_eq k 14 0) _ _ (slc0 (Fin.castSucc 14)) (slc1 (Fin.castSucc 14)) x) ?_
  refine agree_cons (fun x => t2_pay8 arg3 harg3 arg6 arg7 x3 X6 X7 X hz h6 h7 k 13 7 _ (k0_off5_eq k 13 7) _ _ (slc0 (Fin.castSucc 13)) (slc1 (Fin.castSucc 13)) x) ?_
  refine agree_cons (fun x => t2_pay8 arg3 harg3 arg6 arg7 x3 X6 X7 X hz h6 h7 k 13 6 _ (k0_off5_eq k 13 6) _ _ (slc0 (Fin.castSucc 13)) (slc1 (Fin.castSucc 13)) x) ?_
  refine agree_cons (fun x => t2_pay8 arg3 harg3 arg6 arg7 x3 X6 X7 X hz h6 h7 k 13 5 _ (k0_off5_eq k 13 5) _ _ (slc0 (Fin.castSucc 13)) (slc1 (Fin.castSucc 13)) x) ?_
  refine agree_cons (fun x => t2_pay8 arg3 harg3 arg6 arg7 x3 X6 X7 X hz h6 h7 k 13 4 _ (k0_off5_eq k 13 4) _ _ (slc0 (Fin.castSucc 13)) (slc1 (Fin.castSucc 13)) x) ?_
  refine agree_cons (fun x => t2_pay8 arg3 harg3 arg6 arg7 x3 X6 X7 X hz h6 h7 k 13 3 _ (k0_off5_eq k 13 3) _ _ (slc0 (Fin.castSucc 13)) (slc1 (Fin.castSucc 13)) x) ?_
  refine agree_cons (fun x => t2_pay8 arg3 harg3 arg6 arg7 x3 X6 X7 X hz h6 h7 k 13 2 _ (k0_off5_eq k 13 2) _ _ (slc0 (Fin.castSucc 13)) (slc1 (Fin.castSucc 13)) x) ?_
  refine agree_cons (fun x => t2_pay8 arg3 harg3 arg6 arg7 x3 X6 X7 X hz h6 h7 k 13 1 _ (k0_off5_eq k 13 1) _ _ (slc0 (Fin.castSucc 13)) (slc1 (Fin.castSucc 13)) x) ?_
  refine agree_cons (fun x => t2_pay8 arg3 harg3 arg6 arg7 x3 X6 X7 X hz h6 h7 k 13 0 _ (k0_off5_eq k 13 0) _ _ (slc0 (Fin.castSucc 13)) (slc1 (Fin.castSucc 13)) x) ?_
  refine agree_cons (fun x => t2_pay8 arg3 harg3 arg6 arg7 x3 X6 X7 X hz h6 h7 k 12 7 _ (k0_off5_eq k 12 7) _ _ (slc0 (Fin.castSucc 12)) (slc1 (Fin.castSucc 12)) x) ?_
  refine agree_cons (fun x => t2_pay8 arg3 harg3 arg6 arg7 x3 X6 X7 X hz h6 h7 k 12 6 _ (k0_off5_eq k 12 6) _ _ (slc0 (Fin.castSucc 12)) (slc1 (Fin.castSucc 12)) x) ?_
  refine agree_cons (fun x => t2_pay8 arg3 harg3 arg6 arg7 x3 X6 X7 X hz h6 h7 k 12 5 _ (k0_off5_eq k 12 5) _ _ (slc0 (Fin.castSucc 12)) (slc1 (Fin.castSucc 12)) x) ?_
  refine agree_cons (fun x => t2_pay8 arg3 harg3 arg6 arg7 x3 X6 X7 X hz h6 h7 k 12 4 _ (k0_off5_eq k 12 4) _ _ (slc0 (Fin.castSucc 12)) (slc1 (Fin.castSucc 12)) x) ?_
  refine agree_cons (fun x => t2_pay8 arg3 harg3 arg6 arg7 x3 X6 X7 X hz h6 h7 k 12 3 _ (k0_off5_eq k 12 3) _ _ (slc0 (Fin.castSucc 12)) (slc1 (Fin.castSucc 12)) x) ?_
  refine agree_cons (fun x => t2_pay8 arg3 harg3 arg6 arg7 x3 X6 X7 X hz h6 h7 k 12 2 _ (k0_off5_eq k 12 2) _ _ (slc0 (Fin.castSucc 12)) (slc1 (Fin.castSucc 12)) x) ?_
  refine agree_cons (fun x => t2_pay8 arg3 harg3 arg6 arg7 x3 X6 X7 X hz h6 h7 k 12 1 _ (k0_off5_eq k 12 1) _ _ (slc0 (Fin.castSucc 12)) (slc1 (Fin.castSucc 12)) x) ?_
  refine agree_cons (fun x => t2_pay8 arg3 harg3 arg6 arg7 x3 X6 X7 X hz h6 h7 k 12 0 _ (k0_off5_eq k 12 0) _ _ (slc0 (Fin.castSucc 12)) (slc1 (Fin.castSucc 12)) x) ?_
  refine agree_cons (fun x => t2_pay8 arg3 harg3 arg6 arg7 x3 X6 X7 X hz h6 h7 k 11 7 _ (k0_off5_eq k 11 7) _ _ (slc0 (Fin.castSucc 11)) (slc1 (Fin.castSucc 11)) x) ?_
  refine agree_cons (fun x => t2_pay8 arg3 harg3 arg6 arg7 x3 X6 X7 X hz h6 h7 k 11 6 _ (k0_off5_eq k 11 6) _ _ (slc0 (Fin.castSucc 11)) (slc1 (Fin.castSucc 11)) x) ?_
  refine agree_cons (fun x => t2_pay8 arg3 harg3 arg6 arg7 x3 X6 X7 X hz h6 h7 k 11 5 _ (k0_off5_eq k 11 5) _ _ (slc0 (Fin.castSucc 11)) (slc1 (Fin.castSucc 11)) x) ?_
  refine agree_cons (fun x => t2_pay8 arg3 harg3 arg6 arg7 x3 X6 X7 X hz h6 h7 k 11 4 _ (k0_off5_eq k 11 4) _ _ (slc0 (Fin.castSucc 11)) (slc1 (Fin.castSucc 11)) x) ?_
  refine agree_cons (fun x => t2_pay8 arg3 harg3 arg6 arg7 x3 X6 X7 X hz h6 h7 k 11 3 _ (k0_off5_eq k 11 3) _ _ (slc0 (Fin.castSucc 11)) (slc1 (Fin.castSucc 11)) x) ?_
  refine agree_cons (fun x => t2_pay8 arg3 harg3 arg6 arg7 x3 X6 X7 X hz h6 h7 k 11 2 _ (k0_off5_eq k 11 2) _ _ (slc0 (Fin.castSucc 11)) (slc1 (Fin.castSucc 11)) x) ?_
  refine agree_cons (fun x => t2_pay8 arg3 harg3 arg6 arg7 x3 X6 X7 X hz h6 h7 k 11 1 _ (k0_off5_eq k 11 1) _ _ (slc0 (Fin.castSucc 11)) (slc1 (Fin.castSucc 11)) x) ?_
  refine agree_cons (fun x => t2_pay8 arg3 harg3 arg6 arg7 x3 X6 X7 X hz h6 h7 k 11 0 _ (k0_off5_eq k 11 0) _ _ (slc0 (Fin.castSucc 11)) (slc1 (Fin.castSucc 11)) x) ?_
  refine agree_cons (fun x => t2_pay8 arg3 harg3 arg6 arg7 x3 X6 X7 X hz h6 h7 k 10 7 _ (k0_off5_eq k 10 7) _ _ (slc0 (Fin.castSucc 10)) (slc1 (Fin.castSucc 10)) x) ?_
  refine agree_cons (fun x => t2_pay8 arg3 harg3 arg6 arg7 x3 X6 X7 X hz h6 h7 k 10 6 _ (k0_off5_eq k 10 6) _ _ (slc0 (Fin.castSucc 10)) (slc1 (Fin.castSucc 10)) x) ?_
  refine agree_cons (fun x => t2_pay8 arg3 harg3 arg6 arg7 x3 X6 X7 X hz h6 h7 k 10 5 _ (k0_off5_eq k 10 5) _ _ (slc0 (Fin.castSucc 10)) (slc1 (Fin.castSucc 10)) x) ?_
  refine agree_cons (fun x => t2_pay8 arg3 harg3 arg6 arg7 x3 X6 X7 X hz h6 h7 k 10 4 _ (k0_off5_eq k 10 4) _ _ (slc0 (Fin.castSucc 10)) (slc1 (Fin.castSucc 10)) x) ?_
  refine agree_cons (fun x => t2_pay8 arg3 harg3 arg6 arg7 x3 X6 X7 X hz h6 h7 k 10 3 _ (k0_off5_eq k 10 3) _ _ (slc0 (Fin.castSucc 10)) (slc1 (Fin.castSucc 10)) x) ?_
  refine agree_cons (fun x => t2_pay8 arg3 harg3 arg6 arg7 x3 X6 X7 X hz h6 h7 k 10 2 _ (k0_off5_eq k 10 2) _ _ (slc0 (Fin.castSucc 10)) (slc1 (Fin.castSucc 10)) x) ?_
  refine agree_cons (fun x => t2_pay8 arg3 harg3 arg6 arg7 x3 X6 X7 X hz h6 h7 k 10 1 _ (k0_off5_eq k 10 1) _ _ (slc0 (Fin.castSucc 10)) (slc1 (Fin.castSucc 10)) x) ?_
  refine agree_cons (fun x => t2_pay8 arg3 harg3 arg6 arg7 x3 X6 X7 X hz h6 h7 k 10 0 _ (k0_off5_eq k 10 0) _ _ (slc0 (Fin.castSucc 10)) (slc1 (Fin.castSucc 10)) x) ?_
  refine agree_cons (fun x => t2_pay8 arg3 harg3 arg6 arg7 x3 X6 X7 X hz h6 h7 k 9 7 _ (k0_off5_eq k 9 7) _ _ (slc0 (Fin.castSucc 9)) (slc1 (Fin.castSucc 9)) x) ?_
  refine agree_cons (fun x => t2_pay8 arg3 harg3 arg6 arg7 x3 X6 X7 X hz h6 h7 k 9 6 _ (k0_off5_eq k 9 6) _ _ (slc0 (Fin.castSucc 9)) (slc1 (Fin.castSucc 9)) x) ?_
  refine agree_cons (fun x => t2_pay8 arg3 harg3 arg6 arg7 x3 X6 X7 X hz h6 h7 k 9 5 _ (k0_off5_eq k 9 5) _ _ (slc0 (Fin.castSucc 9)) (slc1 (Fin.castSucc 9)) x) ?_
  refine agree_cons (fun x => t2_pay8 arg3 harg3 arg6 arg7 x3 X6 X7 X hz h6 h7 k 9 4 _ (k0_off5_eq k 9 4) _ _ (slc0 (Fin.castSucc 9)) (slc1 (Fin.castSucc 9)) x) ?_
  refine agree_cons (fun x => t2_pay8 arg3 harg3 arg6 arg7 x3 X6 X7 X hz h6 h7 k 9 3 _ (k0_off5_eq k 9 3) _ _ (slc0 (Fin.castSucc 9)) (slc1 (Fin.castSucc 9)) x) ?_
  refine agree_cons (fun x => t2_pay8 arg3 harg3 arg6 arg7 x3 X6 X7 X hz h6 h7 k 9 2 _ (k0_off5_eq k 9 2) _ _ (slc0 (Fin.castSucc 9)) (slc1 (Fin.castSucc 9)) x) ?_
  refine agree_cons (fun x => t2_pay8 arg3 harg3 arg6 arg7 x3 X6 X7 X hz h6 h7 k 9 1 _ (k0_off5_eq k 9 1) _ _ (slc0 (Fin.castSucc 9)) (slc1 (Fin.castSucc 9)) x) ?_
  refine agree_cons (fun x => t2_pay8 arg3 harg3 arg6 arg7 x3 X6 X7 X hz h6 h7 k 9 0 _ (k0_off5_eq k 9 0) _ _ (slc0 (Fin.castSucc 9)) (slc1 (Fin.castSucc 9)) x) ?_
  refine agree_cons (fun x => t2_pay8 arg3 harg3 arg6 arg7 x3 X6 X7 X hz h6 h7 k 8 7 _ (k0_off5_eq k 8 7) _ _ (slc0 (Fin.castSucc 8)) (slc1 (Fin.castSucc 8)) x) ?_
  refine agree_cons (fun x => t2_pay8 arg3 harg3 arg6 arg7 x3 X6 X7 X hz h6 h7 k 8 6 _ (k0_off5_eq k 8 6) _ _ (slc0 (Fin.castSucc 8)) (slc1 (Fin.castSucc 8)) x) ?_
  refine agree_cons (fun x => t2_pay8 arg3 harg3 arg6 arg7 x3 X6 X7 X hz h6 h7 k 8 5 _ (k0_off5_eq k 8 5) _ _ (slc0 (Fin.castSucc 8)) (slc1 (Fin.castSucc 8)) x) ?_
  refine agree_cons (fun x => t2_pay8 arg3 harg3 arg6 arg7 x3 X6 X7 X hz h6 h7 k 8 4 _ (k0_off5_eq k 8 4) _ _ (slc0 (Fin.castSucc 8)) (slc1 (Fin.castSucc 8)) x) ?_
  refine agree_cons (fun x => t2_pay8 arg3 harg3 arg6 arg7 x3 X6 X7 X hz h6 h7 k 8 3 _ (k0_off5_eq k 8 3) _ _ (slc0 (Fin.castSucc 8)) (slc1 (Fin.castSucc 8)) x) ?_
  refine agree_cons (fun x => t2_pay8 arg3 harg3 arg6 arg7 x3 X6 X7 X hz h6 h7 k 8 2 _ (k0_off5_eq k 8 2) _ _ (slc0 (Fin.castSucc 8)) (slc1 (Fin.castSucc 8)) x) ?_
  refine agree_cons (fun x => t2_pay8 arg3 harg3 arg6 arg7 x3 X6 X7 X hz h6 h7 k 8 1 _ (k0_off5_eq k 8 1) _ _ (slc0 (Fin.castSucc 8)) (slc1 (Fin.castSucc 8)) x) ?_
  refine agree_cons (fun x => t2_pay8 arg3 harg3 arg6 arg7 x3 X6 X7 X hz h6 h7 k 8 0 _ (k0_off5_eq k 8 0) _ _ (slc0 (Fin.castSucc 8)) (slc1 (Fin.castSucc 8)) x) ?_
  refine agree_cons (fun x => t2_pay8 arg3 harg3 arg6 arg7 x3 X6 X7 X hz h6 h7 k 7 7 _ (k0_off5_eq k 7 7) _ _ (slc0 (Fin.castSucc 7)) (slc1 (Fin.castSucc 7)) x) ?_
  refine agree_cons (fun x => t2_pay8 arg3 harg3 arg6 arg7 x3 X6 X7 X hz h6 h7 k 7 6 _ (k0_off5_eq k 7 6) _ _ (slc0 (Fin.castSucc 7)) (slc1 (Fin.castSucc 7)) x) ?_
  refine agree_cons (fun x => t2_pay8 arg3 harg3 arg6 arg7 x3 X6 X7 X hz h6 h7 k 7 5 _ (k0_off5_eq k 7 5) _ _ (slc0 (Fin.castSucc 7)) (slc1 (Fin.castSucc 7)) x) ?_
  refine agree_cons (fun x => t2_pay8 arg3 harg3 arg6 arg7 x3 X6 X7 X hz h6 h7 k 7 4 _ (k0_off5_eq k 7 4) _ _ (slc0 (Fin.castSucc 7)) (slc1 (Fin.castSucc 7)) x) ?_
  refine agree_cons (fun x => t2_pay8 arg3 harg3 arg6 arg7 x3 X6 X7 X hz h6 h7 k 7 3 _ (k0_off5_eq k 7 3) _ _ (slc0 (Fin.castSucc 7)) (slc1 (Fin.castSucc 7)) x) ?_
  refine agree_cons (fun x => t2_pay8 arg3 harg3 arg6 arg7 x3 X6 X7 X hz h6 h7 k 7 2 _ (k0_off5_eq k 7 2) _ _ (slc0 (Fin.castSucc 7)) (slc1 (Fin.castSucc 7)) x) ?_
  refine agree_cons (fun x => t2_pay8 arg3 harg3 arg6 arg7 x3 X6 X7 X hz h6 h7 k 7 1 _ (k0_off5_eq k 7 1) _ _ (slc0 (Fin.castSucc 7)) (slc1 (Fin.castSucc 7)) x) ?_
  refine agree_cons (fun x => t2_pay8 arg3 harg3 arg6 arg7 x3 X6 X7 X hz h6 h7 k 7 0 _ (k0_off5_eq k 7 0) _ _ (slc0 (Fin.castSucc 7)) (slc1 (Fin.castSucc 7)) x) ?_
  refine agree_cons (fun x => t2_pay8 arg3 harg3 arg6 arg7 x3 X6 X7 X hz h6 h7 k 6 7 _ (k0_off5_eq k 6 7) _ _ (slc0 (Fin.castSucc 6)) (slc1 (Fin.castSucc 6)) x) ?_
  refine agree_cons (fun x => t2_pay8 arg3 harg3 arg6 arg7 x3 X6 X7 X hz h6 h7 k 6 6 _ (k0_off5_eq k 6 6) _ _ (slc0 (Fin.castSucc 6)) (slc1 (Fin.castSucc 6)) x) ?_
  refine agree_cons (fun x => t2_pay8 arg3 harg3 arg6 arg7 x3 X6 X7 X hz h6 h7 k 6 5 _ (k0_off5_eq k 6 5) _ _ (slc0 (Fin.castSucc 6)) (slc1 (Fin.castSucc 6)) x) ?_
  refine agree_cons (fun x => t2_pay8 arg3 harg3 arg6 arg7 x3 X6 X7 X hz h6 h7 k 6 4 _ (k0_off5_eq k 6 4) _ _ (slc0 (Fin.castSucc 6)) (slc1 (Fin.castSucc 6)) x) ?_
  refine agree_cons (fun x => t2_pay8 arg3 harg3 arg6 arg7 x3 X6 X7 X hz h6 h7 k 6 3 _ (k0_off5_eq k 6 3) _ _ (slc0 (Fin.castSucc 6)) (slc1 (Fin.castSucc 6)) x) ?_
  refine agree_cons (fun x => t2_pay8 arg3 harg3 arg6 arg7 x3 X6 X7 X hz h6 h7 k 6 2 _ (k0_off5_eq k 6 2) _ _ (slc0 (Fin.castSucc 6)) (slc1 (Fin.castSucc 6)) x) ?_
  refine agree_cons (fun x => t2_pay8 arg3 harg3 arg6 arg7 x3 X6 X7 X hz h6 h7 k 6 1 _ (k0_off5_eq k 6 1) _ _ (slc0 (Fin.castSucc 6)) (slc1 (Fin.castSucc 6)) x) ?_
  refine agree_cons (fun x => t2_pay8 arg3 harg3 arg6 arg7 x3 X6 X7 X hz h6 h7 k 6 0 _ (k0_off5_eq k 6 0) _ _ (slc0 (Fin.castSucc 6)) (slc1 (Fin.castSucc 6)) x) ?_
  refine agree_cons (fun x => t2_pay8 arg3 harg3 arg6 arg7 x3 X6 X7 X hz h6 h7 k 5 7 _ (k0_off5_eq k 5 7) _ _ (slc0 (Fin.castSucc 5)) (slc1 (Fin.castSucc 5)) x) ?_
  refine agree_cons (fun x => t2_pay8 arg3 harg3 arg6 arg7 x3 X6 X7 X hz h6 h7 k 5 6 _ (k0_off5_eq k 5 6) _ _ (slc0 (Fin.castSucc 5)) (slc1 (Fin.castSucc 5)) x) ?_
  refine agree_cons (fun x => t2_pay8 arg3 harg3 arg6 arg7 x3 X6 X7 X hz h6 h7 k 5 5 _ (k0_off5_eq k 5 5) _ _ (slc0 (Fin.castSucc 5)) (slc1 (Fin.castSucc 5)) x) ?_
  refine agree_cons (fun x => t2_pay8 arg3 harg3 arg6 arg7 x3 X6 X7 X hz h6 h7 k 5 4 _ (k0_off5_eq k 5 4) _ _ (slc0 (Fin.castSucc 5)) (slc1 (Fin.castSucc 5)) x) ?_
  refine agree_cons (fun x => t2_pay8 arg3 harg3 arg6 arg7 x3 X6 X7 X hz h6 h7 k 5 3 _ (k0_off5_eq k 5 3) _ _ (slc0 (Fin.castSucc 5)) (slc1 (Fin.castSucc 5)) x) ?_
  refine agree_cons (fun x => t2_pay8 arg3 harg3 arg6 arg7 x3 X6 X7 X hz h6 h7 k 5 2 _ (k0_off5_eq k 5 2) _ _ (slc0 (Fin.castSucc 5)) (slc1 (Fin.castSucc 5)) x) ?_
  refine agree_cons (fun x => t2_pay8 arg3 harg3 arg6 arg7 x3 X6 X7 X hz h6 h7 k 5 1 _ (k0_off5_eq k 5 1) _ _ (slc0 (Fin.castSucc 5)) (slc1 (Fin.castSucc 5)) x) ?_
  refine agree_cons (fun x => t2_pay8 arg3 harg3 arg6 arg7 x3 X6 X7 X hz h6 h7 k 5 0 _ (k0_off5_eq k 5 0) _ _ (slc0 (Fin.castSucc 5)) (slc1 (Fin.castSucc 5)) x) ?_
  refine agree_cons (fun x => t2_pay8 arg3 harg3 arg6 arg7 x3 X6 X7 X hz h6 h7 k 4 7 _ (k0_off5_eq k 4 7) _ _ (slc0 (Fin.castSucc 4)) (slc1 (Fin.castSucc 4)) x) ?_
  refine agree_cons (fun x => t2_pay8 arg3 harg3 arg6 arg7 x3 X6 X7 X hz h6 h7 k 4 6 _ (k0_off5_eq k 4 6) _ _ (slc0 (Fin.castSucc 4)) (slc1 (Fin.castSucc 4)) x) ?_
  refine agree_cons (fun x => t2_pay8 arg3 harg3 arg6 arg7 x3 X6 X7 X hz h6 h7 k 4 5 _ (k0_off5_eq k 4 5) _ _ (slc0 (Fin.castSucc 4)) (slc1 (Fin.castSucc 4)) x) ?_
  refine agree_cons (fun x => t2_pay8 arg3 harg3 arg6 arg7 x3 X6 X7 X hz h6 h7 k 4 4 _ (k0_off5_eq k 4 4) _ _ (slc0 (Fin.castSucc 4)) (slc1 (Fin.castSucc 4)) x) ?_
  refine agree_cons (fun x => t2_pay8 arg3 harg3 arg6 arg7 x3 X6 X7 X hz h6 h7 k 4 3 _ (k0_off5_eq k 4 3) _ _ (slc0 (Fin.castSucc 4)) (slc1 (Fin.castSucc 4)) x) ?_
  refine agree_cons (fun x => t2_pay8 arg3 harg3 arg6 arg7 x3 X6 X7 X hz h6 h7 k 4 2 _ (k0_off5_eq k 4 2) _ _ (slc0 (Fin.castSucc 4)) (slc1 (Fin.castSucc 4)) x) ?_
  refine agree_cons (fun x => t2_pay8 arg3 harg3 arg6 arg7 x3 X6 X7 X hz h6 h7 k 4 1 _ (k0_off5_eq k 4 1) _ _ (slc0 (Fin.castSucc 4)) (slc1 (Fin.castSucc 4)) x) ?_
  refine agree_cons (fun x => t2_pay8 arg3 harg3 arg6 arg7 x3 X6 X7 X hz h6 h7 k 4 0 _ (k0_off5_eq k 4 0) _ _ (slc0 (Fin.castSucc 4)) (slc1 (Fin.castSucc 4)) x) ?_
  refine agree_cons (fun x => t2_pay8 arg3 harg3 arg6 arg7 x3 X6 X7 X hz h6 h7 k 3 7 _ (k0_off5_eq k 3 7) _ _ (slc0 (Fin.castSucc 3)) (slc1 (Fin.castSucc 3)) x) ?_
  refine agree_cons (fun x => t2_pay8 arg3 harg3 arg6 arg7 x3 X6 X7 X hz h6 h7 k 3 6 _ (k0_off5_eq k 3 6) _ _ (slc0 (Fin.castSucc 3)) (slc1 (Fin.castSucc 3)) x) ?_
  refine agree_cons (fun x => t2_pay8 arg3 harg3 arg6 arg7 x3 X6 X7 X hz h6 h7 k 3 5 _ (k0_off5_eq k 3 5) _ _ (slc0 (Fin.castSucc 3)) (slc1 (Fin.castSucc 3)) x) ?_
  refine agree_cons (fun x => t2_pay8 arg3 harg3 arg6 arg7 x3 X6 X7 X hz h6 h7 k 3 4 _ (k0_off5_eq k 3 4) _ _ (slc0 (Fin.castSucc 3)) (slc1 (Fin.castSucc 3)) x) ?_
  refine agree_cons (fun x => t2_pay8 arg3 harg3 arg6 arg7 x3 X6 X7 X hz h6 h7 k 3 3 _ (k0_off5_eq k 3 3) _ _ (slc0 (Fin.castSucc 3)) (slc1 (Fin.castSucc 3)) x) ?_
  refine agree_cons (fun x => t2_pay8 arg3 harg3 arg6 arg7 x3 X6 X7 X hz h6 h7 k 3 2 _ (k0_off5_eq k 3 2) _ _ (slc0 (Fin.castSucc 3)) (slc1 (Fin.castSucc 3)) x) ?_
  refine agree_cons (fun x => t2_pay8 arg3 harg3 arg6 arg7 x3 X6 X7 X hz h6 h7 k 3 1 _ (k0_off5_eq k 3 1) _ _ (slc0 (Fin.castSucc 3)) (slc1 (Fin.castSucc 3)) x) ?_
  refine agree_cons (fun x => t2_pay8 arg3 harg3 arg6 arg7 x3 X6 X7 X hz h6 h7 k 3 0 _ (k0_off5_eq k 3 0) _ _ (slc0 (Fin.castSucc 3)) (slc1 (Fin.castSucc 3)) x) ?_
  refine agree_cons (fun x => t2_pay8 arg3 harg3 arg6 arg7 x3 X6 X7 X hz h6 h7 k 2 7 _ (k0_off5_eq k 2 7) _ _ (slc0 (Fin.castSucc 2)) (slc1 (Fin.castSucc 2)) x) ?_
  refine agree_cons (fun x => t2_pay8 arg3 harg3 arg6 arg7 x3 X6 X7 X hz h6 h7 k 2 6 _ (k0_off5_eq k 2 6) _ _ (slc0 (Fin.castSucc 2)) (slc1 (Fin.castSucc 2)) x) ?_
  refine agree_cons (fun x => t2_pay8 arg3 harg3 arg6 arg7 x3 X6 X7 X hz h6 h7 k 2 5 _ (k0_off5_eq k 2 5) _ _ (slc0 (Fin.castSucc 2)) (slc1 (Fin.castSucc 2)) x) ?_
  refine agree_cons (fun x => t2_pay8 arg3 harg3 arg6 arg7 x3 X6 X7 X hz h6 h7 k 2 4 _ (k0_off5_eq k 2 4) _ _ (slc0 (Fin.castSucc 2)) (slc1 (Fin.castSucc 2)) x) ?_
  refine agree_cons (fun x => t2_pay8 arg3 harg3 arg6 arg7 x3 X6 X7 X hz h6 h7 k 2 3 _ (k0_off5_eq k 2 3) _ _ (slc0 (Fin.castSucc 2)) (slc1 (Fin.castSucc 2)) x) ?_
  refine agree_cons (fun x => t2_pay8 arg3 harg3 arg6 arg7 x3 X6 X7 X hz h6 h7 k 2 2 _ (k0_off5_eq k 2 2) _ _ (slc0 (Fin.castSucc 2)) (slc1 (Fin.castSucc 2)) x) ?_
  refine agree_cons (fun x => t2_pay8 arg3 harg3 arg6 arg7 x3 X6 X7 X hz h6 h7 k 2 1 _ (k0_off5_eq k 2 1) _ _ (slc0 (Fin.castSucc 2)) (slc1 (Fin.castSucc 2)) x) ?_
  refine agree_cons (fun x => t2_pay8 arg3 harg3 arg6 arg7 x3 X6 X7 X hz h6 h7 k 2 0 _ (k0_off5_eq k 2 0) _ _ (slc0 (Fin.castSucc 2)) (slc1 (Fin.castSucc 2)) x) ?_
  refine agree_cons (fun x => t2_pay8 arg3 harg3 arg6 arg7 x3 X6 X7 X hz h6 h7 k 1 7 _ (k0_off5_eq k 1 7) _ _ (slc0 (Fin.castSucc 1)) (slc1 (Fin.castSucc 1)) x) ?_
  refine agree_cons (fun x => t2_pay8 arg3 harg3 arg6 arg7 x3 X6 X7 X hz h6 h7 k 1 6 _ (k0_off5_eq k 1 6) _ _ (slc0 (Fin.castSucc 1)) (slc1 (Fin.castSucc 1)) x) ?_
  refine agree_cons (fun x => t2_pay8 arg3 harg3 arg6 arg7 x3 X6 X7 X hz h6 h7 k 1 5 _ (k0_off5_eq k 1 5) _ _ (slc0 (Fin.castSucc 1)) (slc1 (Fin.castSucc 1)) x) ?_
  refine agree_cons (fun x => t2_pay8 arg3 harg3 arg6 arg7 x3 X6 X7 X hz h6 h7 k 1 4 _ (k0_off5_eq k 1 4) _ _ (slc0 (Fin.castSucc 1)) (slc1 (Fin.castSucc 1)) x) ?_
  refine agree_cons (fun x => t2_pay8 arg3 harg3 arg6 arg7 x3 X6 X7 X hz h6 h7 k 1 3 _ (k0_off5_eq k 1 3) _ _ (slc0 (Fin.castSucc 1)) (slc1 (Fin.castSucc 1)) x) ?_
  refine agree_cons (fun x => t2_pay8 arg3 harg3 arg6 arg7 x3 X6 X7 X hz h6 h7 k 1 2 _ (k0_off5_eq k 1 2) _ _ (slc0 (Fin.castSucc 1)) (slc1 (Fin.castSucc 1)) x) ?_
  refine agree_cons (fun x => t2_pay8 arg3 harg3 arg6 arg7 x3 X6 X7 X hz h6 h7 k 1 1 _ (k0_off5_eq k 1 1) _ _ (slc0 (Fin.castSucc 1)) (slc1 (Fin.castSucc 1)) x) ?_
  refine agree_cons (fun x => t2_pay8 arg3 harg3 arg6 arg7 x3 X6 X7 X hz h6 h7 k 1 0 _ (k0_off5_eq k 1 0) _ _ (slc0 (Fin.castSucc 1)) (slc1 (Fin.castSucc 1)) x) ?_
  refine agree_cons (fun x => t2_pay8 arg3 harg3 arg6 arg7 x3 X6 X7 X hz h6 h7 k 0 7 _ (k0_off5_eq k 0 7) _ _ (slc0 (Fin.castSucc 0)) (slc1 (Fin.castSucc 0)) x) ?_
  refine agree_cons (fun x => t2_pay8 arg3 harg3 arg6 arg7 x3 X6 X7 X hz h6 h7 k 0 6 _ (k0_off5_eq k 0 6) _ _ (slc0 (Fin.castSucc 0)) (slc1 (Fin.castSucc 0)) x) ?_
  refine agree_cons (fun x => t2_pay8 arg3 harg3 arg6 arg7 x3 X6 X7 X hz h6 h7 k 0 5 _ (k0_off5_eq k 0 5) _ _ (slc0 (Fin.castSucc 0)) (slc1 (Fin.castSucc 0)) x) ?_
  refine agree_cons (fun x => t2_pay8 arg3 harg3 arg6 arg7 x3 X6 X7 X hz h6 h7 k 0 4 _ (k0_off5_eq k 0 4) _ _ (slc0 (Fin.castSucc 0)) (slc1 (Fin.castSucc 0)) x) ?_
  refine agree_cons (fun x => t2_pay8 arg3 harg3 arg6 arg7 x3 X6 X7 X hz h6 h7 k 0 3 _ (k0_off5_eq k 0 3) _ _ (slc0 (Fin.castSucc 0)) (slc1 (Fin.castSucc 0)) x) ?_
  refine agree_cons (fun x => t2_pay8 arg3 harg3 arg6 arg7 x3 X6 X7 X hz h6 h7 k 0 2 _ (k0_off5_eq k 0 2) _ _ (slc0 (Fin.castSucc 0)) (slc1 (Fin.castSucc 0)) x) ?_
  refine agree_cons (fun x => t2_pay8 arg3 harg3 arg6 arg7 x3 X6 X7 X hz h6 h7 k 0 1 _ (k0_off5_eq k 0 1) _ _ (slc0 (Fin.castSucc 0)) (slc1 (Fin.castSucc 0)) x) ?_
  refine agree_cons (fun x => t2_pay8 arg3 harg3 arg6 arg7 x3 X6 X7 X hz h6 h7 k 0 0 _ (k0_off5_eq k 0 0) _ _ (slc0 (Fin.castSucc 0)) (slc1 (Fin.castSucc 0)) x) ?_
  exact agree_nil _

end Cert.RotateIdeal.Trip
-- ==== Proof.RotateT.Val2d.lean ====
module

public import proofs.«01_k».proof.Proof.RotateT.Val2c

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

variable (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

/-- Position by position along a list of pieces, from position `n` to position `N`, a property of the piece. -/
def Along (Q : ℕ → View.Piece (Elt Ideal) S19536x128 .f32 → Prop) (n N : ℕ) (L : List (View.Piece (Elt Ideal) S19536x128 .f32)) : Prop :=
  ∀ j, n ≤ j → j < N → ∃ p ∈ L, Q j p

theorem along_cons {Q n N p L} (h : Q n p) (ht : Along Q (n + 1) N L) : Along Q n N (p :: L) := by
  intro j hj hN
  by_cases e : j = n
  · subst e; exact ⟨p, List.mem_cons_self, h⟩
  · obtain ⟨q, hq, hQ⟩ := ht j (by omega) hN
    exact ⟨q, List.mem_cons_of_mem _ hq, hQ⟩

theorem along_done {Q N L} : Along Q N N L := fun j h1 h2 => by omega

/-- The rows the piece at position `j` of trip `k`'s list covers. -/
def Rows (k : ℕ) (j : ℕ) (p : View.Piece (Elt Ideal) S19536x128 .f32) : Prop :=
  ∀ (y : S19536x128.Idx) (x0 : ℕ), x0 < 8 → (j < 8 → x0 < 4) → (y 0).val = 1056 * (18 - j / 8) + 8 * k + (7 - j % 8) + 132 * x0 →
    ∃ x, p.1.emb x = y

theorem t2_geo8 (k : Fin k0_t2_loop.trips) (j : ℕ) (g : ℕ) (r : ℕ) (hg : 18 - j / 8 = g) (hr : 7 - j % 8 = r) (o : Fin 2 → ℕ)
    (ho : o = ![1056 * g + 8 * k.val + r, 0]) (i3) (i4) (y : S19536x128.Idx) (x0 : ℕ) (hx : x0 < 8)
    (hy : (y 0).val = 1056 * (18 - j / 8) + 8 * k.val + (7 - j % 8) + 132 * x0) :
    ∃ x, ({ off := o, size := ![8, 128], stride := ![132, 1], inb := i3, stride_pos := i4 } : Rect S19536x128).emb x = y := by
  subst ho
  rw [hg, hr] at hy
  refine ⟨ix2 ⟨x0, hx⟩ (y 1), funext fun d => Fin.ext ?_⟩
  match d with
  | 0 => exact hy.symm
  | 1 => show 0 + 1 * (y 1).val = (y 1).val; omega

theorem t2_geo4 (k : Fin k0_t2_loop.trips) (j : ℕ) (r : ℕ) (hg : 18 - j / 8 = 18) (hr : 7 - j % 8 = r) (o : Fin 2 → ℕ)
    (ho : o = ![8 * k.val + r + 19008, 0]) (i3) (i4) (y : S19536x128.Idx) (x0 : ℕ) (hx : x0 < 4)
    (hy : (y 0).val = 1056 * (18 - j / 8) + 8 * k.val + (7 - j % 8) + 132 * x0) :
    ∃ x, ({ off := o, size := ![4, 128], stride := ![132, 1], inb := i3, stride_pos := i4 } : Rect S19536x128).emb x = y := by
  subst ho
  rw [hg, hr] at hy
  refine ⟨ix2 ⟨x0, hx⟩ (y 1), funext fun d => Fin.ext ?_⟩
  match d with
  | 0 =>
    show 8 * k.val + r + 19008 + 132 * x0 = (y 0).val
    omega
  | 1 => show 0 + 1 * (y 1).val = (y 1).val; omega

theorem trip2_along (X3) (X6) (X7) (k : Fin k0_t2_loop.trips) :
    Along (Rows k.val) 0 152 (trip2 (F := Ideal) 𝒱 c bd i arg1 harg1 arg2 harg2 arg3 harg3 arg4 harg4 arg5 harg5 arg6 harg6 arg7 harg7 arg8 harg8 arg9 harg9 X3 X6 X7 k).1 := by
  unfold trip2
  dsimp only
  refine along_cons (fun y x0 h0 h1 hy => t2_geo4 k 0 7 rfl rfl _ (k0_off6_eq k 7) _ _ y x0 (h1 (by decide)) hy) ?_
  refine along_cons (fun y x0 h0 h1 hy => t2_geo4 k 1 6 rfl rfl _ (k0_off6_eq k 6) _ _ y x0 (h1 (by decide)) hy) ?_
  refine along_cons (fun y x0 h0 h1 hy => t2_geo4 k 2 5 rfl rfl _ (k0_off6_eq k 5) _ _ y x0 (h1 (by decide)) hy) ?_
  refine along_cons (fun y x0 h0 h1 hy => t2_geo4 k 3 4 rfl rfl _ (k0_off6_eq k 4) _ _ y x0 (h1 (by decide)) hy) ?_
  refine along_cons (fun y x0 h0 h1 hy => t2_geo4 k 4 3 rfl rfl _ (k0_off6_eq k 3) _ _ y x0 (h1 (by decide)) hy) ?_
  refine along_cons (fun y x0 h0 h1 hy => t2_geo4 k 5 2 rfl rfl _ (k0_off6_eq k 2) _ _ y x0 (h1 (by decide)) hy) ?_
  refine along_cons (fun y x0 h0 h1 hy => t2_geo4 k 6 1 rfl rfl _ (k0_off6_eq k 1) _ _ y x0 (h1 (by decide)) hy) ?_
  refine along_cons (fun y x0 h0 h1 hy => t2_geo4 k 7 0 rfl rfl _ (k0_off6_eq k 0) _ _ y x0 (h1 (by decide)) hy) ?_
  refine along_cons (fun y x0 h0 h1 hy => t2_geo8 k 8 17 7 rfl rfl _ (k0_off5_eq k 17 7) _ _ y x0 h0 hy) ?_
  refine along_cons (fun y x0 h0 h1 hy => t2_geo8 k 9 17 6 rfl rfl _ (k0_off5_eq k 17 6) _ _ y x0 h0 hy) ?_
  refine along_cons (fun y x0 h0 h1 hy => t2_geo8 k 10 17 5 rfl rfl _ (k0_off5_eq k 17 5) _ _ y x0 h0 hy) ?_
  refine along_cons (fun y x0 h0 h1 hy => t2_geo8 k 11 17 4 rfl rfl _ (k0_off5_eq k 17 4) _ _ y x0 h0 hy) ?_
  refine along_cons (fun y x0 h0 h1 hy => t2_geo8 k 12 17 3 rfl rfl _ (k0_off5_eq k 17 3) _ _ y x0 h0 hy) ?_
  refine along_cons (fun y x0 h0 h1 hy => t2_geo8 k 13 17 2 rfl rfl _ (k0_off5_eq k 17 2) _ _ y x0 h0 hy) ?_
  refine along_cons (fun y x0 h0 h1 hy => t2_geo8 k 14 17 1 rfl rfl _ (k0_off5_eq k 17 1) _ _ y x0 h0 hy) ?_
  refine along_cons (fun y x0 h0 h1 hy => t2_geo8 k 15 17 0 rfl rfl _ (k0_off5_eq k 17 0) _ _ y x0 h0 hy) ?_
  refine along_cons (fun y x0 h0 h1 hy => t2_geo8 k 16 16 7 rfl rfl _ (k0_off5_eq k 16 7) _ _ y x0 h0 hy) ?_
  refine along_cons (fun y x0 h0 h1 hy => t2_geo8 k 17 16 6 rfl rfl _ (k0_off5_eq k 16 6) _ _ y x0 h0 hy) ?_
  refine along_cons (fun y x0 h0 h1 hy => t2_geo8 k 18 16 5 rfl rfl _ (k0_off5_eq k 16 5) _ _ y x0 h0 hy) ?_
  refine along_cons (fun y x0 h0 h1 hy => t2_geo8 k 19 16 4 rfl rfl _ (k0_off5_eq k 16 4) _ _ y x0 h0 hy) ?_
  refine along_cons (fun y x0 h0 h1 hy => t2_geo8 k 20 16 3 rfl rfl _ (k0_off5_eq k 16 3) _ _ y x0 h0 hy) ?_
  refine along_cons (fun y x0 h0 h1 hy => t2_geo8 k 21 16 2 rfl rfl _ (k0_off5_eq k 16 2) _ _ y x0 h0 hy) ?_
  refine along_cons (fun y x0 h0 h1 hy => t2_geo8 k 22 16 1 rfl rfl _ (k0_off5_eq k 16 1) _ _ y x0 h0 hy) ?_
  refine along_cons (fun y x0 h0 h1 hy => t2_geo8 k 23 16 0 rfl rfl _ (k0_off5_eq k 16 0) _ _ y x0 h0 hy) ?_
  refine along_cons (fun y x0 h0 h1 hy => t2_geo8 k 24 15 7 rfl rfl _ (k0_off5_eq k 15 7) _ _ y x0 h0 hy) ?_
  refine along_cons (fun y x0 h0 h1 hy => t2_geo8 k 25 15 6 rfl rfl _ (k0_off5_eq k 15 6) _ _ y x0 h0 hy) ?_
  refine along_cons (fun y x0 h0 h1 hy => t2_geo8 k 26 15 5 rfl rfl _ (k0_off5_eq k 15 5) _ _ y x0 h0 hy) ?_
  refine along_cons (fun y x0 h0 h1 hy => t2_geo8 k 27 15 4 rfl rfl _ (k0_off5_eq k 15 4) _ _ y x0 h0 hy) ?_
  refine along_cons (fun y x0 h0 h1 hy => t2_geo8 k 28 15 3 rfl rfl _ (k0_off5_eq k 15 3) _ _ y x0 h0 hy) ?_
  refine along_cons (fun y x0 h0 h1 hy => t2_geo8 k 29 15 2 rfl rfl _ (k0_off5_eq k 15 2) _ _ y x0 h0 hy) ?_
  refine along_cons (fun y x0 h0 h1 hy => t2_geo8 k 30 15 1 rfl rfl _ (k0_off5_eq k 15 1) _ _ y x0 h0 hy) ?_
  refine along_cons (fun y x0 h0 h1 hy => t2_geo8 k 31 15 0 rfl rfl _ (k0_off5_eq k 15 0) _ _ y x0 h0 hy) ?_
  refine along_cons (fun y x0 h0 h1 hy => t2_geo8 k 32 14 7 rfl rfl _ (k0_off5_eq k 14 7) _ _ y x0 h0 hy) ?_
  refine along_cons (fun y x0 h0 h1 hy => t2_geo8 k 33 14 6 rfl rfl _ (k0_off5_eq k 14 6) _ _ y x0 h0 hy) ?_
  refine along_cons (fun y x0 h0 h1 hy => t2_geo8 k 34 14 5 rfl rfl _ (k0_off5_eq k 14 5) _ _ y x0 h0 hy) ?_
  refine along_cons (fun y x0 h0 h1 hy => t2_geo8 k 35 14 4 rfl rfl _ (k0_off5_eq k 14 4) _ _ y x0 h0 hy) ?_
  refine along_cons (fun y x0 h0 h1 hy => t2_geo8 k 36 14 3 rfl rfl _ (k0_off5_eq k 14 3) _ _ y x0 h0 hy) ?_
  refine along_cons (fun y x0 h0 h1 hy => t2_geo8 k 37 14 2 rfl rfl _ (k0_off5_eq k 14 2) _ _ y x0 h0 hy) ?_
  refine along_cons (fun y x0 h0 h1 hy => t2_geo8 k 38 14 1 rfl rfl _ (k0_off5_eq k 14 1) _ _ y x0 h0 hy) ?_
  refine along_cons (fun y x0 h0 h1 hy => t2_geo8 k 39 14 0 rfl rfl _ (k0_off5_eq k 14 0) _ _ y x0 h0 hy) ?_
  refine along_cons (fun y x0 h0 h1 hy => t2_geo8 k 40 13 7 rfl rfl _ (k0_off5_eq k 13 7) _ _ y x0 h0 hy) ?_
  refine along_cons (fun y x0 h0 h1 hy => t2_geo8 k 41 13 6 rfl rfl _ (k0_off5_eq k 13 6) _ _ y x0 h0 hy) ?_
  refine along_cons (fun y x0 h0 h1 hy => t2_geo8 k 42 13 5 rfl rfl _ (k0_off5_eq k 13 5) _ _ y x0 h0 hy) ?_
  refine along_cons (fun y x0 h0 h1 hy => t2_geo8 k 43 13 4 rfl rfl _ (k0_off5_eq k 13 4) _ _ y x0 h0 hy) ?_
  refine along_cons (fun y x0 h0 h1 hy => t2_geo8 k 44 13 3 rfl rfl _ (k0_off5_eq k 13 3) _ _ y x0 h0 hy) ?_
  refine along_cons (fun y x0 h0 h1 hy => t2_geo8 k 45 13 2 rfl rfl _ (k0_off5_eq k 13 2) _ _ y x0 h0 hy) ?_
  refine along_cons (fun y x0 h0 h1 hy => t2_geo8 k 46 13 1 rfl rfl _ (k0_off5_eq k 13 1) _ _ y x0 h0 hy) ?_
  refine along_cons (fun y x0 h0 h1 hy => t2_geo8 k 47 13 0 rfl rfl _ (k0_off5_eq k 13 0) _ _ y x0 h0 hy) ?_
  refine along_cons (fun y x0 h0 h1 hy => t2_geo8 k 48 12 7 rfl rfl _ (k0_off5_eq k 12 7) _ _ y x0 h0 hy) ?_
  refine along_cons (fun y x0 h0 h1 hy => t2_geo8 k 49 12 6 rfl rfl _ (k0_off5_eq k 12 6) _ _ y x0 h0 hy) ?_
  refine along_cons (fun y x0 h0 h1 hy => t2_geo8 k 50 12 5 rfl rfl _ (k0_off5_eq k 12 5) _ _ y x0 h0 hy) ?_
  refine along_cons (fun y x0 h0 h1 hy => t2_geo8 k 51 12 4 rfl rfl _ (k0_off5_eq k 12 4) _ _ y x0 h0 hy) ?_
  refine along_cons (fun y x0 h0 h1 hy => t2_geo8 k 52 12 3 rfl rfl _ (k0_off5_eq k 12 3) _ _ y x0 h0 hy) ?_
  refine along_cons (fun y x0 h0 h1 hy => t2_geo8 k 53 12 2 rfl rfl _ (k0_off5_eq k 12 2) _ _ y x0 h0 hy) ?_
  refine along_cons (fun y x0 h0 h1 hy => t2_geo8 k 54 12 1 rfl rfl _ (k0_off5_eq k 12 1) _ _ y x0 h0 hy) ?_
  refine along_cons (fun y x0 h0 h1 hy => t2_geo8 k 55 12 0 rfl rfl _ (k0_off5_eq k 12 0) _ _ y x0 h0 hy) ?_
  refine along_cons (fun y x0 h0 h1 hy => t2_geo8 k 56 11 7 rfl rfl _ (k0_off5_eq k 11 7) _ _ y x0 h0 hy) ?_
  refine along_cons (fun y x0 h0 h1 hy => t2_geo8 k 57 11 6 rfl rfl _ (k0_off5_eq k 11 6) _ _ y x0 h0 hy) ?_
  refine along_cons (fun y x0 h0 h1 hy => t2_geo8 k 58 11 5 rfl rfl _ (k0_off5_eq k 11 5) _ _ y x0 h0 hy) ?_
  refine along_cons (fun y x0 h0 h1 hy => t2_geo8 k 59 11 4 rfl rfl _ (k0_off5_eq k 11 4) _ _ y x0 h0 hy) ?_
  refine along_cons (fun y x0 h0 h1 hy => t2_geo8 k 60 11 3 rfl rfl _ (k0_off5_eq k 11 3) _ _ y x0 h0 hy) ?_
  refine along_cons (fun y x0 h0 h1 hy => t2_geo8 k 61 11 2 rfl rfl _ (k0_off5_eq k 11 2) _ _ y x0 h0 hy) ?_
  refine along_cons (fun y x0 h0 h1 hy => t2_geo8 k 62 11 1 rfl rfl _ (k0_off5_eq k 11 1) _ _ y x0 h0 hy) ?_
  refine along_cons (fun y x0 h0 h1 hy => t2_geo8 k 63 11 0 rfl rfl _ (k0_off5_eq k 11 0) _ _ y x0 h0 hy) ?_
  refine along_cons (fun y x0 h0 h1 hy => t2_geo8 k 64 10 7 rfl rfl _ (k0_off5_eq k 10 7) _ _ y x0 h0 hy) ?_
  refine along_cons (fun y x0 h0 h1 hy => t2_geo8 k 65 10 6 rfl rfl _ (k0_off5_eq k 10 6) _ _ y x0 h0 hy) ?_
  refine along_cons (fun y x0 h0 h1 hy => t2_geo8 k 66 10 5 rfl rfl _ (k0_off5_eq k 10 5) _ _ y x0 h0 hy) ?_
  refine along_cons (fun y x0 h0 h1 hy => t2_geo8 k 67 10 4 rfl rfl _ (k0_off5_eq k 10 4) _ _ y x0 h0 hy) ?_
  refine along_cons (fun y x0 h0 h1 hy => t2_geo8 k 68 10 3 rfl rfl _ (k0_off5_eq k 10 3) _ _ y x0 h0 hy) ?_
  refine along_cons (fun y x0 h0 h1 hy => t2_geo8 k 69 10 2 rfl rfl _ (k0_off5_eq k 10 2) _ _ y x0 h0 hy) ?_
  refine along_cons (fun y x0 h0 h1 hy => t2_geo8 k 70 10 1 rfl rfl _ (k0_off5_eq k 10 1) _ _ y x0 h0 hy) ?_
  refine along_cons (fun y x0 h0 h1 hy => t2_geo8 k 71 10 0 rfl rfl _ (k0_off5_eq k 10 0) _ _ y x0 h0 hy) ?_
  refine along_cons (fun y x0 h0 h1 hy => t2_geo8 k 72 9 7 rfl rfl _ (k0_off5_eq k 9 7) _ _ y x0 h0 hy) ?_
  refine along_cons (fun y x0 h0 h1 hy => t2_geo8 k 73 9 6 rfl rfl _ (k0_off5_eq k 9 6) _ _ y x0 h0 hy) ?_
  refine along_cons (fun y x0 h0 h1 hy => t2_geo8 k 74 9 5 rfl rfl _ (k0_off5_eq k 9 5) _ _ y x0 h0 hy) ?_
  refine along_cons (fun y x0 h0 h1 hy => t2_geo8 k 75 9 4 rfl rfl _ (k0_off5_eq k 9 4) _ _ y x0 h0 hy) ?_
  refine along_cons (fun y x0 h0 h1 hy => t2_geo8 k 76 9 3 rfl rfl _ (k0_off5_eq k 9 3) _ _ y x0 h0 hy) ?_
  refine along_cons (fun y x0 h0 h1 hy => t2_geo8 k 77 9 2 rfl rfl _ (k0_off5_eq k 9 2) _ _ y x0 h0 hy) ?_
  refine along_cons (fun y x0 h0 h1 hy => t2_geo8 k 78 9 1 rfl rfl _ (k0_off5_eq k 9 1) _ _ y x0 h0 hy) ?_
  refine along_cons (fun y x0 h0 h1 hy => t2_geo8 k 79 9 0 rfl rfl _ (k0_off5_eq k 9 0) _ _ y x0 h0 hy) ?_
  refine along_cons (fun y x0 h0 h1 hy => t2_geo8 k 80 8 7 rfl rfl _ (k0_off5_eq k 8 7) _ _ y x0 h0 hy) ?_
  refine along_cons (fun y x0 h0 h1 hy => t2_geo8 k 81 8 6 rfl rfl _ (k0_off5_eq k 8 6) _ _ y x0 h0 hy) ?_
  refine along_cons (fun y x0 h0 h1 hy => t2_geo8 k 82 8 5 rfl rfl _ (k0_off5_eq k 8 5) _ _ y x0 h0 hy) ?_
  refine along_cons (fun y x0 h0 h1 hy => t2_geo8 k 83 8 4 rfl rfl _ (k0_off5_eq k 8 4) _ _ y x0 h0 hy) ?_
  refine along_cons (fun y x0 h0 h1 hy => t2_geo8 k 84 8 3 rfl rfl _ (k0_off5_eq k 8 3) _ _ y x0 h0 hy) ?_
  refine along_cons (fun y x0 h0 h1 hy => t2_geo8 k 85 8 2 rfl rfl _ (k0_off5_eq k 8 2) _ _ y x0 h0 hy) ?_
  refine along_cons (fun y x0 h0 h1 hy => t2_geo8 k 86 8 1 rfl rfl _ (k0_off5_eq k 8 1) _ _ y x0 h0 hy) ?_
  refine along_cons (fun y x0 h0 h1 hy => t2_geo8 k 87 8 0 rfl rfl _ (k0_off5_eq k 8 0) _ _ y x0 h0 hy) ?_
  refine along_cons (fun y x0 h0 h1 hy => t2_geo8 k 88 7 7 rfl rfl _ (k0_off5_eq k 7 7) _ _ y x0 h0 hy) ?_
  refine along_cons (fun y x0 h0 h1 hy => t2_geo8 k 89 7 6 rfl rfl _ (k0_off5_eq k 7 6) _ _ y x0 h0 hy) ?_
  refine along_cons (fun y x0 h0 h1 hy => t2_geo8 k 90 7 5 rfl rfl _ (k0_off5_eq k 7 5) _ _ y x0 h0 hy) ?_
  refine along_cons (fun y x0 h0 h1 hy => t2_geo8 k 91 7 4 rfl rfl _ (k0_off5_eq k 7 4) _ _ y x0 h0 hy) ?_
  refine along_cons (fun y x0 h0 h1 hy => t2_geo8 k 92 7 3 rfl rfl _ (k0_off5_eq k 7 3) _ _ y x0 h0 hy) ?_
  refine along_cons (fun y x0 h0 h1 hy => t2_geo8 k 93 7 2 rfl rfl _ (k0_off5_eq k 7 2) _ _ y x0 h0 hy) ?_
  refine along_cons (fun y x0 h0 h1 hy => t2_geo8 k 94 7 1 rfl rfl _ (k0_off5_eq k 7 1) _ _ y x0 h0 hy) ?_
  refine along_cons (fun y x0 h0 h1 hy => t2_geo8 k 95 7 0 rfl rfl _ (k0_off5_eq k 7 0) _ _ y x0 h0 hy) ?_
  refine along_cons (fun y x0 h0 h1 hy => t2_geo8 k 96 6 7 rfl rfl _ (k0_off5_eq k 6 7) _ _ y x0 h0 hy) ?_
  refine along_cons (fun y x0 h0 h1 hy => t2_geo8 k 97 6 6 rfl rfl _ (k0_off5_eq k 6 6) _ _ y x0 h0 hy) ?_
  refine along_cons (fun y x0 h0 h1 hy => t2_geo8 k 98 6 5 rfl rfl _ (k0_off5_eq k 6 5) _ _ y x0 h0 hy) ?_
  refine along_cons (fun y x0 h0 h1 hy => t2_geo8 k 99 6 4 rfl rfl _ (k0_off5_eq k 6 4) _ _ y x0 h0 hy) ?_
  refine along_cons (fun y x0 h0 h1 hy => t2_geo8 k 100 6 3 rfl rfl _ (k0_off5_eq k 6 3) _ _ y x0 h0 hy) ?_
  refine along_cons (fun y x0 h0 h1 hy => t2_geo8 k 101 6 2 rfl rfl _ (k0_off5_eq k 6 2) _ _ y x0 h0 hy) ?_
  refine along_cons (fun y x0 h0 h1 hy => t2_geo8 k 102 6 1 rfl rfl _ (k0_off5_eq k 6 1) _ _ y x0 h0 hy) ?_
  refine along_cons (fun y x0 h0 h1 hy => t2_geo8 k 103 6 0 rfl rfl _ (k0_off5_eq k 6 0) _ _ y x0 h0 hy) ?_
  refine along_cons (fun y x0 h0 h1 hy => t2_geo8 k 104 5 7 rfl rfl _ (k0_off5_eq k 5 7) _ _ y x0 h0 hy) ?_
  refine along_cons (fun y x0 h0 h1 hy => t2_geo8 k 105 5 6 rfl rfl _ (k0_off5_eq k 5 6) _ _ y x0 h0 hy) ?_
  refine along_cons (fun y x0 h0 h1 hy => t2_geo8 k 106 5 5 rfl rfl _ (k0_off5_eq k 5 5) _ _ y x0 h0 hy) ?_
  refine along_cons (fun y x0 h0 h1 hy => t2_geo8 k 107 5 4 rfl rfl _ (k0_off5_eq k 5 4) _ _ y x0 h0 hy) ?_
  refine along_cons (fun y x0 h0 h1 hy => t2_geo8 k 108 5 3 rfl rfl _ (k0_off5_eq k 5 3) _ _ y x0 h0 hy) ?_
  refine along_cons (fun y x0 h0 h1 hy => t2_geo8 k 109 5 2 rfl rfl _ (k0_off5_eq k 5 2) _ _ y x0 h0 hy) ?_
  refine along_cons (fun y x0 h0 h1 hy => t2_geo8 k 110 5 1 rfl rfl _ (k0_off5_eq k 5 1) _ _ y x0 h0 hy) ?_
  refine along_cons (fun y x0 h0 h1 hy => t2_geo8 k 111 5 0 rfl rfl _ (k0_off5_eq k 5 0) _ _ y x0 h0 hy) ?_
  refine along_cons (fun y x0 h0 h1 hy => t2_geo8 k 112 4 7 rfl rfl _ (k0_off5_eq k 4 7) _ _ y x0 h0 hy) ?_
  refine along_cons (fun y x0 h0 h1 hy => t2_geo8 k 113 4 6 rfl rfl _ (k0_off5_eq k 4 6) _ _ y x0 h0 hy) ?_
  refine along_cons (fun y x0 h0 h1 hy => t2_geo8 k 114 4 5 rfl rfl _ (k0_off5_eq k 4 5) _ _ y x0 h0 hy) ?_
  refine along_cons (fun y x0 h0 h1 hy => t2_geo8 k 115 4 4 rfl rfl _ (k0_off5_eq k 4 4) _ _ y x0 h0 hy) ?_
  refine along_cons (fun y x0 h0 h1 hy => t2_geo8 k 116 4 3 rfl rfl _ (k0_off5_eq k 4 3) _ _ y x0 h0 hy) ?_
  refine along_cons (fun y x0 h0 h1 hy => t2_geo8 k 117 4 2 rfl rfl _ (k0_off5_eq k 4 2) _ _ y x0 h0 hy) ?_
  refine along_cons (fun y x0 h0 h1 hy => t2_geo8 k 118 4 1 rfl rfl _ (k0_off5_eq k 4 1) _ _ y x0 h0 hy) ?_
  refine along_cons (fun y x0 h0 h1 hy => t2_geo8 k 119 4 0 rfl rfl _ (k0_off5_eq k 4 0) _ _ y x0 h0 hy) ?_
  refine along_cons (fun y x0 h0 h1 hy => t2_geo8 k 120 3 7 rfl rfl _ (k0_off5_eq k 3 7) _ _ y x0 h0 hy) ?_
  refine along_cons (fun y x0 h0 h1 hy => t2_geo8 k 121 3 6 rfl rfl _ (k0_off5_eq k 3 6) _ _ y x0 h0 hy) ?_
  refine along_cons (fun y x0 h0 h1 hy => t2_geo8 k 122 3 5 rfl rfl _ (k0_off5_eq k 3 5) _ _ y x0 h0 hy) ?_
  refine along_cons (fun y x0 h0 h1 hy => t2_geo8 k 123 3 4 rfl rfl _ (k0_off5_eq k 3 4) _ _ y x0 h0 hy) ?_
  refine along_cons (fun y x0 h0 h1 hy => t2_geo8 k 124 3 3 rfl rfl _ (k0_off5_eq k 3 3) _ _ y x0 h0 hy) ?_
  refine along_cons (fun y x0 h0 h1 hy => t2_geo8 k 125 3 2 rfl rfl _ (k0_off5_eq k 3 2) _ _ y x0 h0 hy) ?_
  refine along_cons (fun y x0 h0 h1 hy => t2_geo8 k 126 3 1 rfl rfl _ (k0_off5_eq k 3 1) _ _ y x0 h0 hy) ?_
  refine along_cons (fun y x0 h0 h1 hy => t2_geo8 k 127 3 0 rfl rfl _ (k0_off5_eq k 3 0) _ _ y x0 h0 hy) ?_
  refine along_cons (fun y x0 h0 h1 hy => t2_geo8 k 128 2 7 rfl rfl _ (k0_off5_eq k 2 7) _ _ y x0 h0 hy) ?_
  refine along_cons (fun y x0 h0 h1 hy => t2_geo8 k 129 2 6 rfl rfl _ (k0_off5_eq k 2 6) _ _ y x0 h0 hy) ?_
  refine along_cons (fun y x0 h0 h1 hy => t2_geo8 k 130 2 5 rfl rfl _ (k0_off5_eq k 2 5) _ _ y x0 h0 hy) ?_
  refine along_cons (fun y x0 h0 h1 hy => t2_geo8 k 131 2 4 rfl rfl _ (k0_off5_eq k 2 4) _ _ y x0 h0 hy) ?_
  refine along_cons (fun y x0 h0 h1 hy => t2_geo8 k 132 2 3 rfl rfl _ (k0_off5_eq k 2 3) _ _ y x0 h0 hy) ?_
  refine along_cons (fun y x0 h0 h1 hy => t2_geo8 k 133 2 2 rfl rfl _ (k0_off5_eq k 2 2) _ _ y x0 h0 hy) ?_
  refine along_cons (fun y x0 h0 h1 hy => t2_geo8 k 134 2 1 rfl rfl _ (k0_off5_eq k 2 1) _ _ y x0 h0 hy) ?_
  refine along_cons (fun y x0 h0 h1 hy => t2_geo8 k 135 2 0 rfl rfl _ (k0_off5_eq k 2 0) _ _ y x0 h0 hy) ?_
  refine along_cons (fun y x0 h0 h1 hy => t2_geo8 k 136 1 7 rfl rfl _ (k0_off5_eq k 1 7) _ _ y x0 h0 hy) ?_
  refine along_cons (fun y x0 h0 h1 hy => t2_geo8 k 137 1 6 rfl rfl _ (k0_off5_eq k 1 6) _ _ y x0 h0 hy) ?_
  refine along_cons (fun y x0 h0 h1 hy => t2_geo8 k 138 1 5 rfl rfl _ (k0_off5_eq k 1 5) _ _ y x0 h0 hy) ?_
  refine along_cons (fun y x0 h0 h1 hy => t2_geo8 k 139 1 4 rfl rfl _ (k0_off5_eq k 1 4) _ _ y x0 h0 hy) ?_
  refine along_cons (fun y x0 h0 h1 hy => t2_geo8 k 140 1 3 rfl rfl _ (k0_off5_eq k 1 3) _ _ y x0 h0 hy) ?_
  refine along_cons (fun y x0 h0 h1 hy => t2_geo8 k 141 1 2 rfl rfl _ (k0_off5_eq k 1 2) _ _ y x0 h0 hy) ?_
  refine along_cons (fun y x0 h0 h1 hy => t2_geo8 k 142 1 1 rfl rfl _ (k0_off5_eq k 1 1) _ _ y x0 h0 hy) ?_
  refine along_cons (fun y x0 h0 h1 hy => t2_geo8 k 143 1 0 rfl rfl _ (k0_off5_eq k 1 0) _ _ y x0 h0 hy) ?_
  refine along_cons (fun y x0 h0 h1 hy => t2_geo8 k 144 0 7 rfl rfl _ (k0_off5_eq k 0 7) _ _ y x0 h0 hy) ?_
  refine along_cons (fun y x0 h0 h1 hy => t2_geo8 k 145 0 6 rfl rfl _ (k0_off5_eq k 0 6) _ _ y x0 h0 hy) ?_
  refine along_cons (fun y x0 h0 h1 hy => t2_geo8 k 146 0 5 rfl rfl _ (k0_off5_eq k 0 5) _ _ y x0 h0 hy) ?_
  refine along_cons (fun y x0 h0 h1 hy => t2_geo8 k 147 0 4 rfl rfl _ (k0_off5_eq k 0 4) _ _ y x0 h0 hy) ?_
  refine along_cons (fun y x0 h0 h1 hy => t2_geo8 k 148 0 3 rfl rfl _ (k0_off5_eq k 0 3) _ _ y x0 h0 hy) ?_
  refine along_cons (fun y x0 h0 h1 hy => t2_geo8 k 149 0 2 rfl rfl _ (k0_off5_eq k 0 2) _ _ y x0 h0 hy) ?_
  refine along_cons (fun y x0 h0 h1 hy => t2_geo8 k 150 0 1 rfl rfl _ (k0_off5_eq k 0 1) _ _ y x0 h0 hy) ?_
  refine along_cons (fun y x0 h0 h1 hy => t2_geo8 k 151 0 0 rfl rfl _ (k0_off5_eq k 0 0) _ _ y x0 h0 hy) ?_
  exact along_done

theorem trip2_hits (X3) (X6) (X7) (k : Fin k0_t2_loop.trips) (y : S19536x128.Idx) (a r : ℕ) (ha : a < 148) (hr : r < 8)
    (hy : (y 0).val = 132 * a + 8 * k.val + r) : Hits (trip2 (F := Ideal) 𝒱 c bd i arg1 harg1 arg2 harg2 arg3 harg3 arg4 harg4 arg5 harg5 arg6 harg6 arg7 harg7 arg8 harg8 arg9 harg9 X3 X6 X7 k).1 y := by
  obtain ⟨p, hp, hQ⟩ := trip2_along 𝒱 c bd i arg1 harg1 arg2 harg2 arg3 harg3 arg4 harg4 arg5 harg5 arg6 harg6 arg7 harg7 arg8 harg8 arg9 harg9 X3 X6 X7 k (8 * (18 - a / 8) + (7 - r)) (by omega) (by omega)
  exact ⟨p, hp, hQ y (a % 8) (by omega) (by omega) (by omega)⟩

theorem pb2_agree (x3 : Vec Ideal S160x160 .bf16) (X6 : BufTy.Contents (Elt Ideal) arg6.view.ty) (X7 : BufTy.Contents (Elt Ideal) arg7.view.ty)
    (X : Vec Ideal S128x18944 .bf16) (hz : ∀ (a k : Fin 160), 148 ≤ k.val → x3 (ix2 a k) = 0)
    (h6 : ∀ (y : S4872x2x128.Idx) (r kp : ℕ), r < 64 → kp < 74 → (y 0).val = r * 76 + kp →
      arg6.view.read (Elt Ideal) X6 y = xat X (y 2) ((kp * 2 + (y 1).val) * 128 + 2 * r))
    (h7 : ∀ (y : S4872x2x128.Idx) (r kp : ℕ), r < 64 → kp < 74 → (y 0).val = r * 76 + kp →
      arg7.view.read (Elt Ideal) X7 y = xat X (y 2) ((kp * 2 + (y 1).val) * 128 + 2 * r + 1)) (n : ℕ) (hn : n ≤ k0_t2_loop.trips) :
    Agree (ZG x3 X) (pb2 (F := Ideal) 𝒱 c bd i arg1 harg1 arg2 harg2 arg3 harg3 arg4 harg4 arg5 harg5 arg6 harg6 arg7 harg7 arg8 harg8 arg9 harg9 (harg3.unread x3) X6 X7 n) := by
  induction n with
  | zero => exact agree_nil _
  | succ n ih =>
    have e := pb2_succ (F := Ideal) 𝒱 c bd i arg1 harg1 arg2 harg2 arg3 harg3 arg4 harg4 arg5 harg5 arg6 harg6 arg7 harg7 arg8 harg8 arg9 harg9 (harg3.unread x3) X6 X7 ⟨n, hn⟩
    dsimp only at e
    rw [e]
    exact agree_append (trip2_agree 𝒱 c bd i arg1 harg1 arg2 harg2 arg3 harg3 arg4 harg4 arg5 harg5 arg6 harg6 arg7 harg7 arg8 harg8 arg9 harg9 x3 X6 X7 X hz h6 h7 _) (ih (by omega))

theorem pb2_hits (X3) (X6) (X7) (n : ℕ) (hn : n ≤ k0_t2_loop.trips) (k : ℕ) (hk : k < n) (y : S19536x128.Idx) (a r : ℕ)
    (ha : a < 148) (hr : r < 8) (hy : (y 0).val = 132 * a + 8 * k + r) :
    Hits (pb2 (F := Ideal) 𝒱 c bd i arg1 harg1 arg2 harg2 arg3 harg3 arg4 harg4 arg5 harg5 arg6 harg6 arg7 harg7 arg8 harg8 arg9 harg9 X3 X6 X7 n) y := by
  induction n with
  | zero => omega
  | succ n ih =>
    have e := pb2_succ (F := Ideal) 𝒱 c bd i arg1 harg1 arg2 harg2 arg3 harg3 arg4 harg4 arg5 harg5 arg6 harg6 arg7 harg7 arg8 harg8 arg9 harg9 X3 X6 X7 ⟨n, hn⟩
    dsimp only at e
    rw [e]
    by_cases h : k = n
    · subst h
      exact hits_left (trip2_hits 𝒱 c bd i arg1 harg1 arg2 harg2 arg3 harg3 arg4 harg4 arg5 harg5 arg6 harg6 arg7 harg7 arg8 harg8 arg9 harg9 X3 X6 X7 _ y a r ha hr hy)
    · exact hits_right (ih (by omega) (by omega))

/-- What the buffer of partial products reads after the second loop. -/
theorem z_read (x3 : Vec Ideal S160x160 .bf16) (X6 : BufTy.Contents (Elt Ideal) arg6.view.ty) (X7 : BufTy.Contents (Elt Ideal) arg7.view.ty)
    (X : Vec Ideal S128x18944 .bf16) (hz : ∀ (a k : Fin 160), 148 ≤ k.val → x3 (ix2 a k) = 0)
    (h6 : ∀ (y : S4872x2x128.Idx) (r kp : ℕ), r < 64 → kp < 74 → (y 0).val = r * 76 + kp →
      arg6.view.read (Elt Ideal) X6 y = xat X (y 2) ((kp * 2 + (y 1).val) * 128 + 2 * r))
    (h7 : ∀ (y : S4872x2x128.Idx) (r kp : ℕ), r < 64 → kp < 74 → (y 0).val = r * 76 + kp →
      arg7.view.read (Elt Ideal) X7 y = xat X (y 2) ((kp * 2 + (y 1).val) * 128 + 2 * r + 1)) (f8) (y : S19536x128.Idx) (a p : ℕ) (ha : a < 148) (hp : p < 128) (hy : (y 0).val = 132 * a + p) :
    arg8.view.read (Elt Ideal) (arg8.view.writes (Elt Ideal) f8 (pb2 (F := Ideal) 𝒱 c bd i arg1 harg1 arg2 harg2 arg3 harg3 arg4 harg4 arg5 harg5 arg6 harg6 arg7 harg7 arg8 harg8 arg9 harg9 (harg3.unread x3) X6 X7 k0_t2_loop.trips)) y
      = st 4 (st 2 (st 1 (dense x3 X a (y 1)))) p := by
  rw [read_of_agree arg8.view f8 _ (pb2_agree 𝒱 c bd i arg1 harg1 arg2 harg2 arg3 harg3 arg4 harg4 arg5 harg5 arg6 harg6 arg7 harg7 arg8 harg8 arg9 harg9 x3 X6 X7 X hz h6 h7 _ le_rfl)
    (pb2_hits 𝒱 c bd i arg1 harg1 arg2 harg2 arg3 harg3 arg4 harg4 arg5 harg5 arg6 harg6 arg7 harg7 arg8 harg8 arg9 harg9 _ X6 X7 _ le_rfl (p / 8) (by rw [t2_trips]; omega) y a (p % 8) ha (by omega) (by omega))]
  unfold ZG
  rw [show (y 0).val / 132 = a by omega, show (y 0).val % 132 = p by omega]

end Cert.RotateIdeal.Trip
-- ==== Proof.RotateT.Val3a.lean ====
module

public import proofs.«01_k».proof.Proof.RotateT.Val2d

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

/-- One stage of the butterfly of sixteen vectors, between entries 1 apart. -/
abbrev lay1 {S : Shape} (z : Fin 16 → FVec Ideal S .f32) (q : Fin 16) : FVec Ideal S .f32 :=
  match q.val with
  | 0 => addf (z 0) (z 1)
  | 1 => subf (z 0) (z 1)
  | 2 => addf (z 2) (z 3)
  | 3 => subf (z 2) (z 3)
  | 4 => addf (z 4) (z 5)
  | 5 => subf (z 4) (z 5)
  | 6 => addf (z 6) (z 7)
  | 7 => subf (z 6) (z 7)
  | 8 => addf (z 8) (z 9)
  | 9 => subf (z 8) (z 9)
  | 10 => addf (z 10) (z 11)
  | 11 => subf (z 10) (z 11)
  | 12 => addf (z 12) (z 13)
  | 13 => subf (z 12) (z 13)
  | 14 => addf (z 14) (z 15)
  | _ => subf (z 14) (z 15)

theorem lay1_apply {S : Shape} (z : Fin 16 → FVec Ideal S .f32) (x : S.Idx) (r : ℕ) (hr : r < 8) (v : ℕ → EReal)
    (hz : ∀ j : Fin 16, z j x = v (8 * j.val + r)) (q : Fin 16) : lay1 z q x = st 8 v (8 * q.val + r) := by
  match q with
  | ⟨0, _⟩ =>
    have ha : z 0 x = v (8 * 0 + r) := hz 0
    have hb : z 1 x = v (8 * 1 + r) := hz 1
    show (z 0 x + z 1 x : EReal) = st 8 v (8 * 0 + r)
    rw [ha, hb]
    exact (st_lo (by omega) (by omega)).symm
  | ⟨1, _⟩ =>
    have ha : z 0 x = v (8 * 0 + r) := hz 0
    have hb : z 1 x = v (8 * 1 + r) := hz 1
    show (z 0 x - z 1 x : EReal) = st 8 v (8 * 1 + r)
    rw [ha, hb]
    exact (st_hi (by omega) (by omega)).symm
  | ⟨2, _⟩ =>
    have ha : z 2 x = v (8 * 2 + r) := hz 2
    have hb : z 3 x = v (8 * 3 + r) := hz 3
    show (z 2 x + z 3 x : EReal) = st 8 v (8 * 2 + r)
    rw [ha, hb]
    exact (st_lo (by omega) (by omega)).symm
  | ⟨3, _⟩ =>
    have ha : z 2 x = v (8 * 2 + r) := hz 2
    have hb : z 3 x = v (8 * 3 + r) := hz 3
    show (z 2 x - z 3 x : EReal) = st 8 v (8 * 3 + r)
    rw [ha, hb]
    exact (st_hi (by omega) (by omega)).symm
  | ⟨4, _⟩ =>
    have ha : z 4 x = v (8 * 4 + r) := hz 4
    have hb : z 5 x = v (8 * 5 + r) := hz 5
    show (z 4 x + z 5 x : EReal) = st 8 v (8 * 4 + r)
    rw [ha, hb]
    exact (st_lo (by omega) (by omega)).symm
  | ⟨5, _⟩ =>
    have ha : z 4 x = v (8 * 4 + r) := hz 4
    have hb : z 5 x = v (8 * 5 + r) := hz 5
    show (z 4 x - z 5 x : EReal) = st 8 v (8 * 5 + r)
    rw [ha, hb]
    exact (st_hi (by omega) (by omega)).symm
  | ⟨6, _⟩ =>
    have ha : z 6 x = v (8 * 6 + r) := hz 6
    have hb : z 7 x = v (8 * 7 + r) := hz 7
    show (z 6 x + z 7 x : EReal) = st 8 v (8 * 6 + r)
    rw [ha, hb]
    exact (st_lo (by omega) (by omega)).symm
  | ⟨7, _⟩ =>
    have ha : z 6 x = v (8 * 6 + r) := hz 6
    have hb : z 7 x = v (8 * 7 + r) := hz 7
    show (z 6 x - z 7 x : EReal) = st 8 v (8 * 7 + r)
    rw [ha, hb]
    exact (st_hi (by omega) (by omega)).symm
  | ⟨8, _⟩ =>
    have ha : z 8 x = v (8 * 8 + r) := hz 8
    have hb : z 9 x = v (8 * 9 + r) := hz 9
    show (z 8 x + z 9 x : EReal) = st 8 v (8 * 8 + r)
    rw [ha, hb]
    exact (st_lo (by omega) (by omega)).symm
  | ⟨9, _⟩ =>
    have ha : z 8 x = v (8 * 8 + r) := hz 8
    have hb : z 9 x = v (8 * 9 + r) := hz 9
    show (z 8 x - z 9 x : EReal) = st 8 v (8 * 9 + r)
    rw [ha, hb]
    exact (st_hi (by omega) (by omega)).symm
  | ⟨10, _⟩ =>
    have ha : z 10 x = v (8 * 10 + r) := hz 10
    have hb : z 11 x = v (8 * 11 + r) := hz 11
    show (z 10 x + z 11 x : EReal) = st 8 v (8 * 10 + r)
    rw [ha, hb]
    exact (st_lo (by omega) (by omega)).symm
  | ⟨11, _⟩ =>
    have ha : z 10 x = v (8 * 10 + r) := hz 10
    have hb : z 11 x = v (8 * 11 + r) := hz 11
    show (z 10 x - z 11 x : EReal) = st 8 v (8 * 11 + r)
    rw [ha, hb]
    exact (st_hi (by omega) (by omega)).symm
  | ⟨12, _⟩ =>
    have ha : z 12 x = v (8 * 12 + r) := hz 12
    have hb : z 13 x = v (8 * 13 + r) := hz 13
    show (z 12 x + z 13 x : EReal) = st 8 v (8 * 12 + r)
    rw [ha, hb]
    exact (st_lo (by omega) (by omega)).symm
  | ⟨13, _⟩ =>
    have ha : z 12 x = v (8 * 12 + r) := hz 12
    have hb : z 13 x = v (8 * 13 + r) := hz 13
    show (z 12 x - z 13 x : EReal) = st 8 v (8 * 13 + r)
    rw [ha, hb]
    exact (st_hi (by omega) (by omega)).symm
  | ⟨14, _⟩ =>
    have ha : z 14 x = v (8 * 14 + r) := hz 14
    have hb : z 15 x = v (8 * 15 + r) := hz 15
    show (z 14 x + z 15 x : EReal) = st 8 v (8 * 14 + r)
    rw [ha, hb]
    exact (st_lo (by omega) (by omega)).symm
  | ⟨15, _⟩ =>
    have ha : z 14 x = v (8 * 14 + r) := hz 14
    have hb : z 15 x = v (8 * 15 + r) := hz 15
    show (z 14 x - z 15 x : EReal) = st 8 v (8 * 15 + r)
    rw [ha, hb]
    exact (st_hi (by omega) (by omega)).symm
  | ⟨m + 16, hm⟩ => exact absurd hm (by omega)

/-- One stage of the butterfly of sixteen vectors, between entries 2 apart. -/
abbrev lay2 {S : Shape} (z : Fin 16 → FVec Ideal S .f32) (q : Fin 16) : FVec Ideal S .f32 :=
  match q.val with
  | 0 => addf (z 0) (z 2)
  | 1 => addf (z 1) (z 3)
  | 2 => subf (z 0) (z 2)
  | 3 => subf (z 1) (z 3)
  | 4 => addf (z 4) (z 6)
  | 5 => addf (z 5) (z 7)
  | 6 => subf (z 4) (z 6)
  | 7 => subf (z 5) (z 7)
  | 8 => addf (z 8) (z 10)
  | 9 => addf (z 9) (z 11)
  | 10 => subf (z 8) (z 10)
  | 11 => subf (z 9) (z 11)
  | 12 => addf (z 12) (z 14)
  | 13 => addf (z 13) (z 15)
  | 14 => subf (z 12) (z 14)
  | _ => subf (z 13) (z 15)

theorem lay2_apply {S : Shape} (z : Fin 16 → FVec Ideal S .f32) (x : S.Idx) (r : ℕ) (hr : r < 8) (v : ℕ → EReal)
    (hz : ∀ j : Fin 16, z j x = v (8 * j.val + r)) (q : Fin 16) : lay2 z q x = st 16 v (8 * q.val + r) := by
  match q with
  | ⟨0, _⟩ =>
    have ha : z 0 x = v (8 * 0 + r) := hz 0
    have hb : z 2 x = v (8 * 2 + r) := hz 2
    show (z 0 x + z 2 x : EReal) = st 16 v (8 * 0 + r)
    rw [ha, hb]
    exact (st_lo (by omega) (by omega)).symm
  | ⟨1, _⟩ =>
    have ha : z 1 x = v (8 * 1 + r) := hz 1
    have hb : z 3 x = v (8 * 3 + r) := hz 3
    show (z 1 x + z 3 x : EReal) = st 16 v (8 * 1 + r)
    rw [ha, hb]
    exact (st_lo (by omega) (by omega)).symm
  | ⟨2, _⟩ =>
    have ha : z 0 x = v (8 * 0 + r) := hz 0
    have hb : z 2 x = v (8 * 2 + r) := hz 2
    show (z 0 x - z 2 x : EReal) = st 16 v (8 * 2 + r)
    rw [ha, hb]
    exact (st_hi (by omega) (by omega)).symm
  | ⟨3, _⟩ =>
    have ha : z 1 x = v (8 * 1 + r) := hz 1
    have hb : z 3 x = v (8 * 3 + r) := hz 3
    show (z 1 x - z 3 x : EReal) = st 16 v (8 * 3 + r)
    rw [ha, hb]
    exact (st_hi (by omega) (by omega)).symm
  | ⟨4, _⟩ =>
    have ha : z 4 x = v (8 * 4 + r) := hz 4
    have hb : z 6 x = v (8 * 6 + r) := hz 6
    show (z 4 x + z 6 x : EReal) = st 16 v (8 * 4 + r)
    rw [ha, hb]
    exact (st_lo (by omega) (by omega)).symm
  | ⟨5, _⟩ =>
    have ha : z 5 x = v (8 * 5 + r) := hz 5
    have hb : z 7 x = v (8 * 7 + r) := hz 7
    show (z 5 x + z 7 x : EReal) = st 16 v (8 * 5 + r)
    rw [ha, hb]
    exact (st_lo (by omega) (by omega)).symm
  | ⟨6, _⟩ =>
    have ha : z 4 x = v (8 * 4 + r) := hz 4
    have hb : z 6 x = v (8 * 6 + r) := hz 6
    show (z 4 x - z 6 x : EReal) = st 16 v (8 * 6 + r)
    rw [ha, hb]
    exact (st_hi (by omega) (by omega)).symm
  | ⟨7, _⟩ =>
    have ha : z 5 x = v (8 * 5 + r) := hz 5
    have hb : z 7 x = v (8 * 7 + r) := hz 7
    show (z 5 x - z 7 x : EReal) = st 16 v (8 * 7 + r)
    rw [ha, hb]
    exact (st_hi (by omega) (by omega)).symm
  | ⟨8, _⟩ =>
    have ha : z 8 x = v (8 * 8 + r) := hz 8
    have hb : z 10 x = v (8 * 10 + r) := hz 10
    show (z 8 x + z 10 x : EReal) = st 16 v (8 * 8 + r)
    rw [ha, hb]
    exact (st_lo (by omega) (by omega)).symm
  | ⟨9, _⟩ =>
    have ha : z 9 x = v (8 * 9 + r) := hz 9
    have hb : z 11 x = v (8 * 11 + r) := hz 11
    show (z 9 x + z 11 x : EReal) = st 16 v (8 * 9 + r)
    rw [ha, hb]
    exact (st_lo (by omega) (by omega)).symm
  | ⟨10, _⟩ =>
    have ha : z 8 x = v (8 * 8 + r) := hz 8
    have hb : z 10 x = v (8 * 10 + r) := hz 10
    show (z 8 x - z 10 x : EReal) = st 16 v (8 * 10 + r)
    rw [ha, hb]
    exact (st_hi (by omega) (by omega)).symm
  | ⟨11, _⟩ =>
    have ha : z 9 x = v (8 * 9 + r) := hz 9
    have hb : z 11 x = v (8 * 11 + r) := hz 11
    show (z 9 x - z 11 x : EReal) = st 16 v (8 * 11 + r)
    rw [ha, hb]
    exact (st_hi (by omega) (by omega)).symm
  | ⟨12, _⟩ =>
    have ha : z 12 x = v (8 * 12 + r) := hz 12
    have hb : z 14 x = v (8 * 14 + r) := hz 14
    show (z 12 x + z 14 x : EReal) = st 16 v (8 * 12 + r)
    rw [ha, hb]
    exact (st_lo (by omega) (by omega)).symm
  | ⟨13, _⟩ =>
    have ha : z 13 x = v (8 * 13 + r) := hz 13
    have hb : z 15 x = v (8 * 15 + r) := hz 15
    show (z 13 x + z 15 x : EReal) = st 16 v (8 * 13 + r)
    rw [ha, hb]
    exact (st_lo (by omega) (by omega)).symm
  | ⟨14, _⟩ =>
    have ha : z 12 x = v (8 * 12 + r) := hz 12
    have hb : z 14 x = v (8 * 14 + r) := hz 14
    show (z 12 x - z 14 x : EReal) = st 16 v (8 * 14 + r)
    rw [ha, hb]
    exact (st_hi (by omega) (by omega)).symm
  | ⟨15, _⟩ =>
    have ha : z 13 x = v (8 * 13 + r) := hz 13
    have hb : z 15 x = v (8 * 15 + r) := hz 15
    show (z 13 x - z 15 x : EReal) = st 16 v (8 * 15 + r)
    rw [ha, hb]
    exact (st_hi (by omega) (by omega)).symm
  | ⟨m + 16, hm⟩ => exact absurd hm (by omega)

/-- One stage of the butterfly of sixteen vectors, between entries 4 apart. -/
abbrev lay4 {S : Shape} (z : Fin 16 → FVec Ideal S .f32) (q : Fin 16) : FVec Ideal S .f32 :=
  match q.val with
  | 0 => addf (z 0) (z 4)
  | 1 => addf (z 1) (z 5)
  | 2 => addf (z 2) (z 6)
  | 3 => addf (z 3) (z 7)
  | 4 => subf (z 0) (z 4)
  | 5 => subf (z 1) (z 5)
  | 6 => subf (z 2) (z 6)
  | 7 => subf (z 3) (z 7)
  | 8 => addf (z 8) (z 12)
  | 9 => addf (z 9) (z 13)
  | 10 => addf (z 10) (z 14)
  | 11 => addf (z 11) (z 15)
  | 12 => subf (z 8) (z 12)
  | 13 => subf (z 9) (z 13)
  | 14 => subf (z 10) (z 14)
  | _ => subf (z 11) (z 15)

theorem lay4_apply {S : Shape} (z : Fin 16 → FVec Ideal S .f32) (x : S.Idx) (r : ℕ) (hr : r < 8) (v : ℕ → EReal)
    (hz : ∀ j : Fin 16, z j x = v (8 * j.val + r)) (q : Fin 16) : lay4 z q x = st 32 v (8 * q.val + r) := by
  match q with
  | ⟨0, _⟩ =>
    have ha : z 0 x = v (8 * 0 + r) := hz 0
    have hb : z 4 x = v (8 * 4 + r) := hz 4
    show (z 0 x + z 4 x : EReal) = st 32 v (8 * 0 + r)
    rw [ha, hb]
    exact (st_lo (by omega) (by omega)).symm
  | ⟨1, _⟩ =>
    have ha : z 1 x = v (8 * 1 + r) := hz 1
    have hb : z 5 x = v (8 * 5 + r) := hz 5
    show (z 1 x + z 5 x : EReal) = st 32 v (8 * 1 + r)
    rw [ha, hb]
    exact (st_lo (by omega) (by omega)).symm
  | ⟨2, _⟩ =>
    have ha : z 2 x = v (8 * 2 + r) := hz 2
    have hb : z 6 x = v (8 * 6 + r) := hz 6
    show (z 2 x + z 6 x : EReal) = st 32 v (8 * 2 + r)
    rw [ha, hb]
    exact (st_lo (by omega) (by omega)).symm
  | ⟨3, _⟩ =>
    have ha : z 3 x = v (8 * 3 + r) := hz 3
    have hb : z 7 x = v (8 * 7 + r) := hz 7
    show (z 3 x + z 7 x : EReal) = st 32 v (8 * 3 + r)
    rw [ha, hb]
    exact (st_lo (by omega) (by omega)).symm
  | ⟨4, _⟩ =>
    have ha : z 0 x = v (8 * 0 + r) := hz 0
    have hb : z 4 x = v (8 * 4 + r) := hz 4
    show (z 0 x - z 4 x : EReal) = st 32 v (8 * 4 + r)
    rw [ha, hb]
    exact (st_hi (by omega) (by omega)).symm
  | ⟨5, _⟩ =>
    have ha : z 1 x = v (8 * 1 + r) := hz 1
    have hb : z 5 x = v (8 * 5 + r) := hz 5
    show (z 1 x - z 5 x : EReal) = st 32 v (8 * 5 + r)
    rw [ha, hb]
    exact (st_hi (by omega) (by omega)).symm
  | ⟨6, _⟩ =>
    have ha : z 2 x = v (8 * 2 + r) := hz 2
    have hb : z 6 x = v (8 * 6 + r) := hz 6
    show (z 2 x - z 6 x : EReal) = st 32 v (8 * 6 + r)
    rw [ha, hb]
    exact (st_hi (by omega) (by omega)).symm
  | ⟨7, _⟩ =>
    have ha : z 3 x = v (8 * 3 + r) := hz 3
    have hb : z 7 x = v (8 * 7 + r) := hz 7
    show (z 3 x - z 7 x : EReal) = st 32 v (8 * 7 + r)
    rw [ha, hb]
    exact (st_hi (by omega) (by omega)).symm
  | ⟨8, _⟩ =>
    have ha : z 8 x = v (8 * 8 + r) := hz 8
    have hb : z 12 x = v (8 * 12 + r) := hz 12
    show (z 8 x + z 12 x : EReal) = st 32 v (8 * 8 + r)
    rw [ha, hb]
    exact (st_lo (by omega) (by omega)).symm
  | ⟨9, _⟩ =>
    have ha : z 9 x = v (8 * 9 + r) := hz 9
    have hb : z 13 x = v (8 * 13 + r) := hz 13
    show (z 9 x + z 13 x : EReal) = st 32 v (8 * 9 + r)
    rw [ha, hb]
    exact (st_lo (by omega) (by omega)).symm
  | ⟨10, _⟩ =>
    have ha : z 10 x = v (8 * 10 + r) := hz 10
    have hb : z 14 x = v (8 * 14 + r) := hz 14
    show (z 10 x + z 14 x : EReal) = st 32 v (8 * 10 + r)
    rw [ha, hb]
    exact (st_lo (by omega) (by omega)).symm
  | ⟨11, _⟩ =>
    have ha : z 11 x = v (8 * 11 + r) := hz 11
    have hb : z 15 x = v (8 * 15 + r) := hz 15
    show (z 11 x + z 15 x : EReal) = st 32 v (8 * 11 + r)
    rw [ha, hb]
    exact (st_lo (by omega) (by omega)).symm
  | ⟨12, _⟩ =>
    have ha : z 8 x = v (8 * 8 + r) := hz 8
    have hb : z 12 x = v (8 * 12 + r) := hz 12
    show (z 8 x - z 12 x : EReal) = st 32 v (8 * 12 + r)
    rw [ha, hb]
    exact (st_hi (by omega) (by omega)).symm
  | ⟨13, _⟩ =>
    have ha : z 9 x = v (8 * 9 + r) := hz 9
    have hb : z 13 x = v (8 * 13 + r) := hz 13
    show (z 9 x - z 13 x : EReal) = st 32 v (8 * 13 + r)
    rw [ha, hb]
    exact (st_hi (by omega) (by omega)).symm
  | ⟨14, _⟩ =>
    have ha : z 10 x = v (8 * 10 + r) := hz 10
    have hb : z 14 x = v (8 * 14 + r) := hz 14
    show (z 10 x - z 14 x : EReal) = st 32 v (8 * 14 + r)
    rw [ha, hb]
    exact (st_hi (by omega) (by omega)).symm
  | ⟨15, _⟩ =>
    have ha : z 11 x = v (8 * 11 + r) := hz 11
    have hb : z 15 x = v (8 * 15 + r) := hz 15
    show (z 11 x - z 15 x : EReal) = st 32 v (8 * 15 + r)
    rw [ha, hb]
    exact (st_hi (by omega) (by omega)).symm
  | ⟨m + 16, hm⟩ => exact absurd hm (by omega)

/-- One stage of the butterfly of sixteen vectors, between entries 8 apart. -/
abbrev lay8 {S : Shape} (z : Fin 16 → FVec Ideal S .f32) (q : Fin 16) : FVec Ideal S .f32 :=
  match q.val with
  | 0 => addf (z 0) (z 8)
  | 1 => addf (z 1) (z 9)
  | 2 => addf (z 2) (z 10)
  | 3 => addf (z 3) (z 11)
  | 4 => addf (z 4) (z 12)
  | 5 => addf (z 5) (z 13)
  | 6 => addf (z 6) (z 14)
  | 7 => addf (z 7) (z 15)
  | 8 => subf (z 0) (z 8)
  | 9 => subf (z 1) (z 9)
  | 10 => subf (z 2) (z 10)
  | 11 => subf (z 3) (z 11)
  | 12 => subf (z 4) (z 12)
  | 13 => subf (z 5) (z 13)
  | 14 => subf (z 6) (z 14)
  | _ => subf (z 7) (z 15)

theorem lay8_apply {S : Shape} (z : Fin 16 → FVec Ideal S .f32) (x : S.Idx) (r : ℕ) (hr : r < 8) (v : ℕ → EReal)
    (hz : ∀ j : Fin 16, z j x = v (8 * j.val + r)) (q : Fin 16) : lay8 z q x = st 64 v (8 * q.val + r) := by
  match q with
  | ⟨0, _⟩ =>
    have ha : z 0 x = v (8 * 0 + r) := hz 0
    have hb : z 8 x = v (8 * 8 + r) := hz 8
    show (z 0 x + z 8 x : EReal) = st 64 v (8 * 0 + r)
    rw [ha, hb]
    exact (st_lo (by omega) (by omega)).symm
  | ⟨1, _⟩ =>
    have ha : z 1 x = v (8 * 1 + r) := hz 1
    have hb : z 9 x = v (8 * 9 + r) := hz 9
    show (z 1 x + z 9 x : EReal) = st 64 v (8 * 1 + r)
    rw [ha, hb]
    exact (st_lo (by omega) (by omega)).symm
  | ⟨2, _⟩ =>
    have ha : z 2 x = v (8 * 2 + r) := hz 2
    have hb : z 10 x = v (8 * 10 + r) := hz 10
    show (z 2 x + z 10 x : EReal) = st 64 v (8 * 2 + r)
    rw [ha, hb]
    exact (st_lo (by omega) (by omega)).symm
  | ⟨3, _⟩ =>
    have ha : z 3 x = v (8 * 3 + r) := hz 3
    have hb : z 11 x = v (8 * 11 + r) := hz 11
    show (z 3 x + z 11 x : EReal) = st 64 v (8 * 3 + r)
    rw [ha, hb]
    exact (st_lo (by omega) (by omega)).symm
  | ⟨4, _⟩ =>
    have ha : z 4 x = v (8 * 4 + r) := hz 4
    have hb : z 12 x = v (8 * 12 + r) := hz 12
    show (z 4 x + z 12 x : EReal) = st 64 v (8 * 4 + r)
    rw [ha, hb]
    exact (st_lo (by omega) (by omega)).symm
  | ⟨5, _⟩ =>
    have ha : z 5 x = v (8 * 5 + r) := hz 5
    have hb : z 13 x = v (8 * 13 + r) := hz 13
    show (z 5 x + z 13 x : EReal) = st 64 v (8 * 5 + r)
    rw [ha, hb]
    exact (st_lo (by omega) (by omega)).symm
  | ⟨6, _⟩ =>
    have ha : z 6 x = v (8 * 6 + r) := hz 6
    have hb : z 14 x = v (8 * 14 + r) := hz 14
    show (z 6 x + z 14 x : EReal) = st 64 v (8 * 6 + r)
    rw [ha, hb]
    exact (st_lo (by omega) (by omega)).symm
  | ⟨7, _⟩ =>
    have ha : z 7 x = v (8 * 7 + r) := hz 7
    have hb : z 15 x = v (8 * 15 + r) := hz 15
    show (z 7 x + z 15 x : EReal) = st 64 v (8 * 7 + r)
    rw [ha, hb]
    exact (st_lo (by omega) (by omega)).symm
  | ⟨8, _⟩ =>
    have ha : z 0 x = v (8 * 0 + r) := hz 0
    have hb : z 8 x = v (8 * 8 + r) := hz 8
    show (z 0 x - z 8 x : EReal) = st 64 v (8 * 8 + r)
    rw [ha, hb]
    exact (st_hi (by omega) (by omega)).symm
  | ⟨9, _⟩ =>
    have ha : z 1 x = v (8 * 1 + r) := hz 1
    have hb : z 9 x = v (8 * 9 + r) := hz 9
    show (z 1 x - z 9 x : EReal) = st 64 v (8 * 9 + r)
    rw [ha, hb]
    exact (st_hi (by omega) (by omega)).symm
  | ⟨10, _⟩ =>
    have ha : z 2 x = v (8 * 2 + r) := hz 2
    have hb : z 10 x = v (8 * 10 + r) := hz 10
    show (z 2 x - z 10 x : EReal) = st 64 v (8 * 10 + r)
    rw [ha, hb]
    exact (st_hi (by omega) (by omega)).symm
  | ⟨11, _⟩ =>
    have ha : z 3 x = v (8 * 3 + r) := hz 3
    have hb : z 11 x = v (8 * 11 + r) := hz 11
    show (z 3 x - z 11 x : EReal) = st 64 v (8 * 11 + r)
    rw [ha, hb]
    exact (st_hi (by omega) (by omega)).symm
  | ⟨12, _⟩ =>
    have ha : z 4 x = v (8 * 4 + r) := hz 4
    have hb : z 12 x = v (8 * 12 + r) := hz 12
    show (z 4 x - z 12 x : EReal) = st 64 v (8 * 12 + r)
    rw [ha, hb]
    exact (st_hi (by omega) (by omega)).symm
  | ⟨13, _⟩ =>
    have ha : z 5 x = v (8 * 5 + r) := hz 5
    have hb : z 13 x = v (8 * 13 + r) := hz 13
    show (z 5 x - z 13 x : EReal) = st 64 v (8 * 13 + r)
    rw [ha, hb]
    exact (st_hi (by omega) (by omega)).symm
  | ⟨14, _⟩ =>
    have ha : z 6 x = v (8 * 6 + r) := hz 6
    have hb : z 14 x = v (8 * 14 + r) := hz 14
    show (z 6 x - z 14 x : EReal) = st 64 v (8 * 14 + r)
    rw [ha, hb]
    exact (st_hi (by omega) (by omega)).symm
  | ⟨15, _⟩ =>
    have ha : z 7 x = v (8 * 7 + r) := hz 7
    have hb : z 15 x = v (8 * 15 + r) := hz 15
    show (z 7 x - z 15 x : EReal) = st 64 v (8 * 15 + r)
    rw [ha, hb]
    exact (st_hi (by omega) (by omega)).symm
  | ⟨m + 16, hm⟩ => exact absurd hm (by omega)

/-- The four stages over sixteen vectors. -/
abbrev bf16v {S : Shape} (z : Fin 16 → FVec Ideal S .f32) (q : Fin 16) : FVec Ideal S .f32 := lay8 (lay4 (lay2 (lay1 z))) q

theorem bf16v_apply {S : Shape} (z : Fin 16 → FVec Ideal S .f32) (x : S.Idx) (r : ℕ) (hr : r < 8) (v : ℕ → EReal)
    (hz : ∀ j : Fin 16, z j x = v (8 * j.val + r)) (q : Fin 16) :
    bf16v z q x = st 64 (st 32 (st 16 (st 8 v))) (8 * q.val + r) :=
  lay8_apply _ x r hr _ (lay4_apply _ x r hr _ (lay2_apply _ x r hr _ (lay1_apply _ x r hr _ hz))) q

/-- The largest modulus of sixteen vectors, entry by entry. -/
abbrev mxv (V : Fin 16 → FVec Ideal S8x128 .f32) : FVec Ideal S8x128 .f32 := (maximumf (maximumf (maximumf (maximumf (maximumf (maximumf (maximumf (maximumf (maximumf (maximumf (maximumf (maximumf (maximumf (maximumf (maximumf (absf (V 0)) (absf (V 1))) (absf (V 2))) (absf (V 3))) (absf (V 4))) (absf (V 5))) (absf (V 6))) (absf (V 7))) (absf (V 8))) (absf (V 9))) (absf (V 10))) (absf (V 11))) (absf (V 12))) (absf (V 13))) (absf (V 14))) (absf (V 15)))

/-- The modulus. -/
def mag (z : EReal) : EReal := max z (-z)

theorem sup16 (M : Fin 16 → EReal) : (max (max (max (max (max (max (max (max (max (max (max (max (max (max (max (M 0) (M 1)) (M 2)) (M 3)) (M 4)) (M 5)) (M 6)) (M 7)) (M 8)) (M 9)) (M 10)) (M 11)) (M 12)) (M 13)) (M 14)) (M 15)) = (Finset.univ : Finset (Fin 16)).sup M := by
  have h : ∀ q, M q ≤ (Finset.univ : Finset (Fin 16)).sup M := fun q => Finset.le_sup (Finset.mem_univ q)
  refine le_antisymm (max_le (max_le (max_le (max_le (max_le (max_le (max_le (max_le (max_le (max_le (max_le (max_le (max_le (max_le (max_le (h 0) (h 1)) (h 2)) (h 3)) (h 4)) (h 5)) (h 6)) (h 7)) (h 8)) (h 9)) (h 10)) (h 11)) (h 12)) (h 13)) (h 14)) (h 15)) (Finset.sup_le fun q _ => ?_)
  match q with
  | ⟨0, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_rfl)))))))))))))))
  | ⟨1, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))
  | ⟨2, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))
  | ⟨3, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))
  | ⟨4, _⟩ => exact le_max_of_le_left (le_max_of_le_left (le_max_of_le_left (le_max_of_le_left (le_max_of_le_left (le_max_of_le_left (le_max_of_le_left (le_max_of_le_left (le_max_of_le_left (le_max_of_le_left (le_max_of_le_left (le_max_right _ _)))))))))))
  | ⟨5, _⟩ => exact le_max_of_le_left (le_max_of_le_left (le_max_of_le_left (le_max_of_le_left (le_max_of_le_left (le_max_of_le_left (le_max_of_le_left (le_max_of_le_left (le_max_of_le_left (le_max_of_le_left (le_max_right _ _))))))))))
  | ⟨6, _⟩ => exact le_max_of_le_left (le_max_of_le_left (le_max_of_le_left (le_max_of_le_left (le_max_of_le_left (le_max_of_le_left (le_max_of_le_left (le_max_of_le_left (le_max_of_le_left (le_max_right _ _)))))))))
  | ⟨7, _⟩ => exact le_max_of_le_left (le_max_of_le_left (le_max_of_le_left (le_max_of_le_left (le_max_of_le_left (le_max_of_le_left (le_max_of_le_left (le_max_of_le_left (le_max_right _ _))))))))
  | ⟨8, _⟩ => exact le_max_of_le_left (le_max_of_le_left (le_max_of_le_left (le_max_of_le_left (le_max_of_le_left (le_max_of_le_left (le_max_of_le_left (le_max_right _ _)))))))
  | ⟨9, _⟩ => exact le_max_of_le_left (le_max_of_le_left (le_max_of_le_left (le_max_of_le_left (le_max_of_le_left (le_max_of_le_left (le_max_right _ _))))))
  | ⟨10, _⟩ => exact le_max_of_le_left (le_max_of_le_left (le_max_of_le_left (le_max_of_le_left (le_max_of_le_left (le_max_right _ _)))))
  | ⟨11, _⟩ => exact le_max_of_le_left (le_max_of_le_left (le_max_of_le_left (le_max_of_le_left (le_max_right _ _))))
  | ⟨12, _⟩ => exact le_max_of_le_left (le_max_of_le_left (le_max_of_le_left (le_max_right _ _)))
  | ⟨13, _⟩ => exact le_max_of_le_left (le_max_of_le_left (le_max_right _ _))
  | ⟨14, _⟩ => exact le_max_of_le_left (le_max_right _ _)
  | ⟨15, _⟩ => exact le_max_right _ _
  | ⟨m + 16, hm⟩ => exact absurd hm (by omega)

theorem mxv_apply (V : Fin 16 → FVec Ideal S8x128 .f32) (y : S8x128.Idx) :
    mxv V y = (Finset.univ : Finset (Fin 16)).sup fun q => mag (V q y) := by
  rw [← sup16]
  rfl

/-- One round of the running maximum. -/
abbrev accStep (V : Fin 16 → FVec Ideal S8x128 .f32) (A : Vec Ideal S8x128 .f32) : FVec Ideal S8x128 .f32 :=
  shapeCast S8x128 (maximumf A (mxv V)) shapeCasts_S8x128_S8x128

theorem accStep_apply (V : Fin 16 → FVec Ideal S8x128 .f32) (A : Vec Ideal S8x128 .f32) (y : S8x128.Idx) :
    accStep V A y = max (A y : EReal) ((Finset.univ : Finset (Fin 16)).sup fun q => mag (V q y)) := by
  rw [← mxv_apply]
  unfold accStep
  rw [shapeCast_id]
  rfl

/-- The sixteen vectors one under the other. -/
abbrev cat16 (V : Fin 16 → FVec Ideal S8x128 .f32) (h : Shape.Concatenates [S8x128, S8x128, S8x128, S8x128, S8x128, S8x128, S8x128, S8x128, S8x128, S8x128, S8x128, S8x128, S8x128, S8x128, S8x128, S8x128] S128x128 0) : FVec Ideal S128x128 .f32 :=
  concatenate S128x128 0 [⟨S8x128, V 0⟩, ⟨S8x128, V 1⟩, ⟨S8x128, V 2⟩, ⟨S8x128, V 3⟩, ⟨S8x128, V 4⟩, ⟨S8x128, V 5⟩, ⟨S8x128, V 6⟩, ⟨S8x128, V 7⟩, ⟨S8x128, V 8⟩, ⟨S8x128, V 9⟩, ⟨S8x128, V 10⟩, ⟨S8x128, V 11⟩, ⟨S8x128, V 12⟩, ⟨S8x128, V 13⟩, ⟨S8x128, V 14⟩, ⟨S8x128, V 15⟩] h

theorem cat16_apply (V : Fin 16 → FVec Ideal S8x128 .f32) (h : Shape.Concatenates [S8x128, S8x128, S8x128, S8x128, S8x128, S8x128, S8x128, S8x128, S8x128, S8x128, S8x128, S8x128, S8x128, S8x128, S8x128, S8x128] S128x128 0) (p t : Fin 128) :
    cat16 V h (ix2 p t) = V ⟨p.val / 8, by omega⟩ (ix2 ⟨p.val % 8, by omega⟩ t) := by
  exact concatenate_ofFn_apply (t := S128x128) (s₁ := S8x128) 0 V h rfl 8 rfl (ix2 p t) ⟨p.val / 8, by omega⟩ rfl (ix2 ⟨p.val % 8, by omega⟩ t) rfl
    fun b hb => match b, hb with
      | ⟨0, _⟩, hb => absurd rfl hb
      | ⟨1, _⟩, _ => rfl

/-- The constant 1/√18944 the kernel multiplies by. -/
def invC : EReal := (Scalar.ofBits .f32 0x3BEE133E#32 : Ideal .f32)
/-- The clipping bounds. -/
def loC : EReal := (Scalar.ofBits .f32 0xC3E00000#32 : Ideal .f32)
def hiC : EReal := (Scalar.ofBits .f32 0x43E00000#32 : Ideal .f32)

/-- A block of codes from the sixteen vectors. -/
abbrev codeV (V : Fin 16 → FVec Ideal S8x128 .f32) (v3 : Elt Ideal .f32) (h : Shape.Concatenates [S8x128, S8x128, S8x128, S8x128, S8x128, S8x128, S8x128, S8x128, S8x128, S8x128, S8x128, S8x128, S8x128, S8x128, S8x128, S8x128] S128x128 0) : FVec Ideal S128x128 .fp8e4m3 :=
  truncf .fp8e4m3 (minimumf (broadcast S128x128 (Scalar.ofBits .f32 0x43E00000#32 : Ideal .f32))
    (maximumf (broadcast S128x128 (Scalar.ofBits .f32 0xC3E00000#32 : Ideal .f32))
      (mulf (mulf (transpose S128x128 [1, 0] (cat16 V h) transposes_S128x128_p1_0_S128x128)
        (broadcast S128x128 (Scalar.ofBits .f32 0x3BEE133E#32 : Ideal .f32))) (broadcast S128x128 (v3 : Ideal .f32))))) bitsLt_fp8e4m3_f32

theorem codeV_apply (V : Fin 16 → FVec Ideal S8x128 .f32) (v3 : Elt Ideal .f32) (h : Shape.Concatenates [S8x128, S8x128, S8x128, S8x128, S8x128, S8x128, S8x128, S8x128, S8x128, S8x128, S8x128, S8x128, S8x128, S8x128, S8x128, S8x128] S128x128 0) (t p : Fin 128) :
    codeV V v3 h (ix2 t p) = min hiC (max loC (V ⟨p.val / 8, by omega⟩ (ix2 ⟨p.val % 8, by omega⟩ t) * invC * v3)) := by
  rw [← cat16_apply V h]
  unfold codeV
  generalize cat16 V h = W
  pointwise [hiC, loC, invC]

end Cert.RotateIdeal.Trip
-- ==== Proof.RotateT.Val3b.lean ====
module

public import proofs.«01_k».proof.Proof.RotateT.Val3a
public import Idealize.ShloMosaic.Lib.VecWindow

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

variable (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

/-- The transform of token `tok`: block `a`, position `p`, before the scaling by 1/√18944. -/
def yv (x3 : Vec Ideal S160x160 .bf16) (X : Vec Ideal S128x18944 .bf16) (a : ℕ) (tok : Fin 128) (p : ℕ) : EReal :=
  st 64 (st 32 (st 16 (st 8 (st 4 (st 2 (st 1 (dense x3 X a tok))))))) p

/-- The largest modulus of block `a` of a token, over the positions congruent to `r` modulo eight. -/
def mxA (x3 : Vec Ideal S160x160 .bf16) (X : Vec Ideal S128x18944 .bf16) (a : ℕ) (y : S8x128.Idx) : EReal :=
  (Finset.univ : Finset (Fin 16)).sup fun q => mag (yv x3 X a (y 1) (8 * q.val + (y 0).val))

/-- The codes of a tile. -/
def CG (v3 : EReal) (x3 : Vec Ideal S160x160 .bf16) (X : Vec Ideal S128x18944 .bf16) (y : S128x18944.Idx) : EReal :=
  min hiC (max loC (yv x3 X ((y 1).val / 128) (y 0) ((y 1).val % 128) * invC * v3))

/-- The sixteen row blocks trip `k` loads in its round `u`. -/
abbrev ld8 (X8 : BufTy.Contents (Elt Ideal) arg8.view.ty) (k : Fin k0_t3_loop.trips) (u : Fin 4) (q : Fin 16) : FVec Ideal S8x128 .f32 :=
  View.readAt (Elt Ideal) arg8.view (Rect.unit (s := S19536x128) (k0_off7 k (BitVec.ofNat 32 u.val) (BitVec.ofNat 32 (8 * q.val))) S8x128.size (k0_off7_inb k u q)).toLoadRect X8

theorem cat_ok : Shape.Concatenates [S8x128, S8x128, S8x128, S8x128, S8x128, S8x128, S8x128, S8x128, S8x128, S8x128, S8x128, S8x128, S8x128, S8x128, S8x128, S8x128] S128x128 0 := by decide

theorem round_apply (x3 : Vec Ideal S160x160 .bf16) (X : Vec Ideal S128x18944 .bf16) (X8 : BufTy.Contents (Elt Ideal) arg8.view.ty)
    (h8 : ∀ (y : S19536x128.Idx) (a p : ℕ), a < 148 → p < 128 → (y 0).val = 132 * a + p →
      arg8.view.read (Elt Ideal) X8 y = st 4 (st 2 (st 1 (dense x3 X a (y 1)))) p) (k : Fin k0_t3_loop.trips) (u : Fin 4) (q : Fin 16) (x0 : Fin 8) (t : Fin 128) :
    bf16v (ld8 arg8 X8 k u) q (ix2 x0 t) = yv x3 X (4 * k.val + u.val) t (8 * q.val + x0.val) := by
  have hk : k.val < 37 := Nat.lt_of_lt_of_le k.isLt k0_t3_abs.2.1
  refine bf16v_apply (ld8 arg8 X8 k u) (ix2 x0 t) x0.val x0.isLt _ (fun q => ?_) q
  have hu := u.isLt
  have hq := q.isLt
  have hx := x0.isLt
  have e := k0_off7_eq k u q
  have a0 : (((Rect.unit (s := S19536x128) (k0_off7 k (BitVec.ofNat 32 u.val) (BitVec.ofNat 32 (8 * q.val))) S8x128.size (k0_off7_inb k u q)).toLoadRect.idx (ix2 x0 t)) 0).val
      = k0_off7 k (BitVec.ofNat 32 u.val) (BitVec.ofNat 32 (8 * q.val)) 0 + 1 * x0.val := rfl
  have a1 : (((Rect.unit (s := S19536x128) (k0_off7 k (BitVec.ofNat 32 u.val) (BitVec.ofNat 32 (8 * q.val))) S8x128.size (k0_off7_inb k u q)).toLoadRect.idx (ix2 x0 t)) 1).val
      = k0_off7 k (BitVec.ofNat 32 u.val) (BitVec.ofNat 32 (8 * q.val)) 1 + 1 * t.val := rfl
  have e0 : k0_off7 k (BitVec.ofNat 32 u.val) (BitVec.ofNat 32 (8 * q.val)) 0 = 528 * k.val + 132 * u.val + 8 * q.val := by rw [e]; rfl
  have e1 : k0_off7 k (BitVec.ofNat 32 u.val) (BitVec.ofNat 32 (8 * q.val)) 1 = 0 := by rw [e]; rfl
  rw [e0] at a0; rw [e1] at a1
  have a1' : (Rect.unit (s := S19536x128) (k0_off7 k (BitVec.ofNat 32 u.val) (BitVec.ofNat 32 (8 * q.val))) S8x128.size (k0_off7_inb k u q)).toLoadRect.idx (ix2 x0 t) 1 = t :=
    Fin.ext (by rw [a1]; omega)
  unfold ld8
  rw [View.readAt_apply, h8 _ (4 * k.val + u.val) (8 * q.val + x0.val) (by omega) (by omega) (by rw [a0]; omega), a1']

theorem t3_pay (x3 : Vec Ideal S160x160 .bf16) (X : Vec Ideal S128x18944 .bf16) (X8 : BufTy.Contents (Elt Ideal) arg8.view.ty)
    (h8 : ∀ (y : S19536x128.Idx) (a p : ℕ), a < 148 → p < 128 → (y 0).val = 132 * a + p →
      arg8.view.read (Elt Ideal) X8 y = st 4 (st 2 (st 1 (dense x3 X a (y 1)))) p) (k : Fin k0_t3_loop.trips) (u : Fin 4) (v3 : Elt Ideal .f32) (o : Fin 2 → ℕ) (ho : o = ![0, 512 * k.val + 128 * u.val])
    (i3) (hc) (x : S128x128.Idx) :
    codeV (bf16v (ld8 arg8 X8 k u)) v3 hc x = CG v3 x3 X ((Rect.unit (s := S128x18944) o S128x128.size i3).emb x) := by
  have hu := u.isLt
  idx_vars x
  subst ho
  rw [codeV_apply, round_apply arg8 x3 X X8 h8]
  have hx := x1.isLt
  have e1 : (((Rect.unit (s := S128x18944) ![0, 512 * k.val + 128 * u.val] S128x128.size i3).emb (ix2 x0 x1)) 1).val = 512 * k.val + 128 * u.val + 1 * x1.val := rfl
  have e0 : ((Rect.unit (s := S128x18944) ![0, 512 * k.val + 128 * u.val] S128x128.size i3).emb (ix2 x0 x1)) 0 = x0 := Fin.ext (by show 0 + 1 * x0.val = x0.val; omega)
  unfold CG
  rw [e1, e0, show (512 * k.val + 128 * u.val + 1 * x1.val) / 128 = 4 * k.val + u.val by omega,
    show (512 * k.val + 128 * u.val + 1 * x1.val) % 128 = x1.val by omega, show 8 * (x1.val / 8) + x1.val % 8 = x1.val by omega]

theorem t3_geo (o : Fin 2 → ℕ) (m : ℕ) (ho : o = ![0, m]) (i3) (y : S128x18944.Idx) (p : Fin 128) (hy : (y 1).val = m + p.val) :
    ∃ x, (Rect.unit (s := S128x18944) o S128x128.size i3).emb x = y := by
  subst ho
  refine ⟨ix2 (y 0) p, funext fun d => Fin.ext ?_⟩
  match d with
  | 0 => show 0 + 1 * (y 0).val = (y 0).val; omega
  | 1 => show m + 1 * p.val = (y 1).val; omega

theorem trip3_agree (x3 : Vec Ideal S160x160 .bf16) (X : Vec Ideal S128x18944 .bf16) (X8 : BufTy.Contents (Elt Ideal) arg8.view.ty)
    (h8 : ∀ (y : S19536x128.Idx) (a p : ℕ), a < 148 → p < 128 → (y 0).val = 132 * a + p →
      arg8.view.read (Elt Ideal) X8 y = st 4 (st 2 (st 1 (dense x3 X a (y 1)))) p) (v3 : Elt Ideal .f32) (k : Fin k0_t3_loop.trips) (f4) (f9) :
    Agree (CG v3 x3 X) ((trip_k0_t3 (F := Ideal) 𝒱 c bd i arg1 harg1 arg2 harg2 arg3 harg3 arg4 harg4 arg5 harg5 arg6 harg6 arg7 harg7 arg8 harg8 arg9 harg9 v3 X8 k).1 f4 f9) := by
  unfold trip_k0_t3
  dsimp only
  refine agree_cons (fun x => t3_pay arg8 x3 X X8 h8 k 3 v3 _ (k0_off8_eq k 3) (k0_off8_inb k 3) cat_ok x) ?_
  refine agree_cons (fun x => t3_pay arg8 x3 X X8 h8 k 2 v3 _ (k0_off8_eq k 2) (k0_off8_inb k 2) cat_ok x) ?_
  refine agree_cons (fun x => t3_pay arg8 x3 X X8 h8 k 1 v3 _ (k0_off8_eq k 1) (k0_off8_inb k 1) cat_ok x) ?_
  refine agree_cons (fun x => t3_pay arg8 x3 X X8 h8 k 0 v3 _ (k0_off8_eq k 0) (k0_off8_inb k 0) cat_ok x) ?_
  exact agree_nil _

theorem trip3_hits (v3 : Elt Ideal .f32) (X8) (k : Fin k0_t3_loop.trips) (f4) (f9) (y : S128x18944.Idx) (u : Fin 4) (p : Fin 128)
    (hy : (y 1).val = 512 * k.val + 128 * u.val + p.val) :
    Hits ((trip_k0_t3 (F := Ideal) 𝒱 c bd i arg1 harg1 arg2 harg2 arg3 harg3 arg4 harg4 arg5 harg5 arg6 harg6 arg7 harg7 arg8 harg8 arg9 harg9 v3 X8 k).1 f4 f9) y := by
  unfold trip_k0_t3
  dsimp only
  match u with
  | 0 => exact hits_tail (hits_tail (hits_tail (hits_head (t3_geo _ _ (k0_off8_eq k 0) (k0_off8_inb k 0) y p hy))))
  | 1 => exact hits_tail (hits_tail (hits_head (t3_geo _ _ (k0_off8_eq k 1) (k0_off8_inb k 1) y p hy)))
  | 2 => exact hits_tail (hits_head (t3_geo _ _ (k0_off8_eq k 2) (k0_off8_inb k 2) y p hy))
  | 3 => exact hits_head (t3_geo _ _ (k0_off8_eq k 3) (k0_off8_inb k 3) y p hy)

/-- The running maximum after a trip. -/
theorem trip3_acc (x3 : Vec Ideal S160x160 .bf16) (X : Vec Ideal S128x18944 .bf16) (X8 : BufTy.Contents (Elt Ideal) arg8.view.ty)
    (h8 : ∀ (y : S19536x128.Idx) (a p : ℕ), a < 148 → p < 128 → (y 0).val = 132 * a + p →
      arg8.view.read (Elt Ideal) X8 y = st 4 (st 2 (st 1 (dense x3 X a (y 1)))) p) (v3 : Elt Ideal .f32) (k : Fin k0_t3_loop.trips) (f4) (f9) (y : S8x128.Idx) :
    arg9.view.read (Elt Ideal) (arg9.view.writes (Elt Ideal) f9 ((trip_k0_t3 (F := Ideal) 𝒱 c bd i arg1 harg1 arg2 harg2 arg3 harg3 arg4 harg4 arg5 harg5 arg6 harg6 arg7 harg7 arg8 harg8 arg9 harg9 v3 X8 k).2.1 f4 f9)) y
      = max (max (max (max (arg9.view.read (Elt Ideal) f9 y : EReal) (mxA x3 X (4 * k.val) y)) (mxA x3 X (4 * k.val + 1) y))
          (mxA x3 X (4 * k.val + 2) y)) (mxA x3 X (4 * k.val + 3) y) := by
  have e : arg9.view.read (Elt Ideal) (arg9.view.writes (Elt Ideal) f9 ((trip_k0_t3 (F := Ideal) 𝒱 c bd i arg1 harg1 arg2 harg2 arg3 harg3 arg4 harg4 arg5 harg5 arg6 harg6 arg7 harg7 arg8 harg8 arg9 harg9 v3 X8 k).2.1 f4 f9))
      = accStep (bf16v (ld8 arg8 X8 k 3)) (accStep (bf16v (ld8 arg8 X8 k 2)) (accStep (bf16v (ld8 arg8 X8 k 1)) (accStep (bf16v (ld8 arg8 X8 k 0)) (arg9.view.read (Elt Ideal) f9)))) := by
    unfold trip_k0_t3
    dsimp only
    refine (View.read_writes_full _ _ _ _ _).trans ?_
    refine congrArg (accStep (bf16v (ld8 arg8 X8 k 3))) ((View.readCov_full _ _ _ _ _).trans ?_)
    refine congrArg (accStep (bf16v (ld8 arg8 X8 k 2))) ((View.readCov_full _ _ _ _ _).trans ?_)
    refine congrArg (accStep (bf16v (ld8 arg8 X8 k 1))) ((View.readCov_full _ _ _ _ _).trans ?_)
    exact congrArg (accStep (bf16v (ld8 arg8 X8 k 0))) (View.readAt_full _ _ _)
  rw [e]
  idx_vars y
  have hm : ∀ u : Fin 4, ((Finset.univ : Finset (Fin 16)).sup fun q => mag (bf16v (ld8 arg8 X8 k u) q (ix2 y0 y1))) = mxA x3 X (4 * k.val + u.val) (ix2 y0 y1) := fun u => by
    unfold mxA
    refine Finset.sup_congr rfl fun q _ => ?_
    rw [round_apply arg8 x3 X X8 h8]
    rfl
  rw [accStep_apply, accStep_apply, accStep_apply, accStep_apply, hm, hm, hm, hm]
  rfl

end Cert.RotateIdeal.Trip
-- ==== Proof.RotateT.Val3c.lean ====
module

public import proofs.«01_k».proof.Proof.RotateT.Val3b

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

variable (𝒱 : Variants) (c : Dev nD) (bd : Option 𝒱.V) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

theorem pb3_agree (x3 : Vec Ideal S160x160 .bf16) (X : Vec Ideal S128x18944 .bf16) (X8 : BufTy.Contents (Elt Ideal) arg8.view.ty)
    (h8 : ∀ (y : S19536x128.Idx) (a p : ℕ), a < 148 → p < 128 → (y 0).val = 132 * a + p →
      arg8.view.read (Elt Ideal) X8 y = st 4 (st 2 (st 1 (dense x3 X a (y 1)))) p) (v3 : Elt Ideal .f32) (g4) (g9) (n : ℕ) (hn : n ≤ k0_t3_loop.trips) :
    Agree (CG v3 x3 X) (pb_k0_t3 (F := Ideal) 𝒱 c bd i arg1 harg1 arg2 harg2 arg3 harg3 arg4 harg4 arg5 harg5 arg6 harg6 arg7 harg7 arg8 harg8 arg9 harg9 v3 X8 g4 g9 n).1 := by
  induction n with
  | zero => exact agree_nil _
  | succ n ih =>
    have e := pb_k0_t3_succ (F := Ideal) 𝒱 c bd i arg1 harg1 arg2 harg2 arg3 harg3 arg4 harg4 arg5 harg5 arg6 harg6 arg7 harg7 arg8 harg8 arg9 harg9 v3 X8 g4 g9 ⟨n, hn⟩
    dsimp only at e
    rw [e]
    exact agree_append (trip3_agree 𝒱 c bd i arg1 harg1 arg2 harg2 arg3 harg3 arg4 harg4 arg5 harg5 arg6 harg6 arg7 harg7 arg8 harg8 arg9 harg9 x3 X X8 h8 v3 _ _ _) (ih (by omega))

theorem pb3_hits (v3 : Elt Ideal .f32) (X8) (g4) (g9) (n : ℕ) (hn : n ≤ k0_t3_loop.trips) (k : ℕ) (hk : k < n) (y : S128x18944.Idx) (u : Fin 4) (p : Fin 128)
    (hy : (y 1).val = 512 * k + 128 * u.val + p.val) :
    Hits (pb_k0_t3 (F := Ideal) 𝒱 c bd i arg1 harg1 arg2 harg2 arg3 harg3 arg4 harg4 arg5 harg5 arg6 harg6 arg7 harg7 arg8 harg8 arg9 harg9 v3 X8 g4 g9 n).1 y := by
  induction n with
  | zero => omega
  | succ n ih =>
    have e := pb_k0_t3_succ (F := Ideal) 𝒱 c bd i arg1 harg1 arg2 harg2 arg3 harg3 arg4 harg4 arg5 harg5 arg6 harg6 arg7 harg7 arg8 harg8 arg9 harg9 v3 X8 g4 g9 ⟨n, hn⟩
    dsimp only at e
    rw [e]
    by_cases h : k = n
    · subst h
      exact hits_left (trip3_hits 𝒱 c bd i arg1 harg1 arg2 harg2 arg3 harg3 arg4 harg4 arg5 harg5 arg6 harg6 arg7 harg7 arg8 harg8 arg9 harg9 v3 X8 _ _ _ y u p hy)
    · exact hits_right (ih (by omega) (by omega))

/-- The running maximum after `n` trips. -/
theorem pb3_acc (x3 : Vec Ideal S160x160 .bf16) (X : Vec Ideal S128x18944 .bf16) (X8 : BufTy.Contents (Elt Ideal) arg8.view.ty)
    (h8 : ∀ (y : S19536x128.Idx) (a p : ℕ), a < 148 → p < 128 → (y 0).val = 132 * a + p →
      arg8.view.read (Elt Ideal) X8 y = st 4 (st 2 (st 1 (dense x3 X a (y 1)))) p) (v3 : Elt Ideal .f32) (g4) (g9) (y : S8x128.Idx) (n : ℕ) (hn : n ≤ k0_t3_loop.trips) :
    arg9.view.read (Elt Ideal) (arg9.view.writes (Elt Ideal) g9 (pb_k0_t3 (F := Ideal) 𝒱 c bd i arg1 harg1 arg2 harg2 arg3 harg3 arg4 harg4 arg5 harg5 arg6 harg6 arg7 harg7 arg8 harg8 arg9 harg9 v3 X8 g4 g9 n).2) y
      = max (arg9.view.read (Elt Ideal) g9 y : EReal) ((Finset.range (4 * n)).sup fun a => mxA x3 X a y) := by
  induction n with
  | zero =>
    rw [Nat.mul_zero, Finset.range_zero, Finset.sup_empty, max_eq_left bot_le]
    rfl
  | succ n ih =>
    have e := pb_k0_t3_succ (F := Ideal) 𝒱 c bd i arg1 harg1 arg2 harg2 arg3 harg3 arg4 harg4 arg5 harg5 arg6 harg6 arg7 harg7 arg8 harg8 arg9 harg9 v3 X8 g4 g9 ⟨n, hn⟩
    dsimp only at e
    rw [e, View.writes_append, trip3_acc 𝒱 c bd i arg1 harg1 arg2 harg2 arg3 harg3 arg4 harg4 arg5 harg5 arg6 harg6 arg7 harg7 arg8 harg8 arg9 harg9 x3 X X8 h8, ih (by omega), show 4 * (n + 1) = 4 * n + 1 + 1 + 1 + 1 by omega]
    simp only [Finset.range_add_one, Finset.sup_insert]
    generalize (Finset.range (4 * n)).sup (fun a => mxA x3 X a y) = S
    generalize (arg9.view.read (Elt Ideal) g9 y : EReal) = R
    generalize mxA x3 X (4 * n) y = a
    generalize mxA x3 X (4 * n + 1) y = b
    generalize mxA x3 X (4 * n + 2) y = c
    generalize mxA x3 X (4 * n + 3) y = d
    show max (max (max (max (max R S) a) b) c) d = max R (max d (max c (max b (max a S))))
    simp only [max_assoc, max_comm, max_left_comm]

/-- The largest modulus a tile adds to the running maximum. -/
def SX (x3 : Vec Ideal S160x160 .bf16) (X : Vec Ideal S128x18944 .bf16) (y : S8x128.Idx) : EReal :=
  (Finset.range 148).sup fun a => mxA x3 X a y

/-- The hypothesis on the padded matrix: its columns from 148 on are zero. -/
def Padded (x3 : Vec Ideal S160x160 .bf16) : Prop := ∀ (a k : Fin 160), 148 ≤ k.val → x3 (ix2 a k) = 0

/-- The three loops in a row: the codes. -/
theorem body_codes (x3 : Vec Ideal S160x160 .bf16) (hz : Padded x3) (X : Vec Ideal S128x18944 .bf16) (v3 : Elt Ideal .f32) (f4) (f6) (f7) (f8) (g9) (y : S128x18944.Idx) :
    arg4.view.read (Elt Ideal) (arg4.view.writes (Elt Ideal) f4 (pb_k0_t3 (F := Ideal) 𝒱 c bd i arg1 harg1 arg2 harg2 arg3 harg3 arg4 harg4 arg5 harg5 arg6 harg6 arg7 harg7 arg8 harg8 arg9 harg9 v3
      (arg8.view.writes (Elt Ideal) f8 (pb2 (F := Ideal) 𝒱 c bd i arg1 harg1 arg2 harg2 arg3 harg3 arg4 harg4 arg5 harg5 arg6 harg6 arg7 harg7 arg8 harg8 arg9 harg9 (harg3.unread x3)
        (arg6.view.writes (Elt Ideal) f6 (pb1 (F := Ideal) 𝒱 c bd i arg1 harg1 arg2 harg2 arg3 harg3 arg4 harg4 arg5 harg5 arg6 harg6 arg7 harg7 arg8 harg8 arg9 harg9 (harg2.unread X) k0_t1_loop.trips).1)
        (arg7.view.writes (Elt Ideal) f7 (pb1 (F := Ideal) 𝒱 c bd i arg1 harg1 arg2 harg2 arg3 harg3 arg4 harg4 arg5 harg5 arg6 harg6 arg7 harg7 arg8 harg8 arg9 harg9 (harg2.unread X) k0_t1_loop.trips).2) k0_t2_loop.trips)) f4 g9 k0_t3_loop.trips).1) y
      = CG v3 x3 X y := by
  have hp := (y 1).isLt
  have h8 := fun (y : S19536x128.Idx) (a p : ℕ) (ha : a < 148) (hp : p < 128) (hy : (y 0).val = 132 * a + p) =>
    z_read 𝒱 c bd i arg1 harg1 arg2 harg2 arg3 harg3 arg4 harg4 arg5 harg5 arg6 harg6 arg7 harg7 arg8 harg8 arg9 harg9 x3 _ _ X hz (fun y r kp h1 h2 h3 => (tiles_read 𝒱 c bd i arg1 harg1 arg2 harg2 arg3 harg3 arg4 harg4 arg5 harg5 arg6 harg6 arg7 harg7 arg8 harg8 arg9 harg9 X f6 f7 y r kp h1 h2 h3).1)
      (fun y r kp h1 h2 h3 => (tiles_read 𝒱 c bd i arg1 harg1 arg2 harg2 arg3 harg3 arg4 harg4 arg5 harg5 arg6 harg6 arg7 harg7 arg8 harg8 arg9 harg9 X f6 f7 y r kp h1 h2 h3).2) f8 y a p ha hp hy
  have hp' : (y 1).val < 18944 := hp
  exact read_of_agree arg4.view f4 _ (pb3_agree 𝒱 c bd i arg1 harg1 arg2 harg2 arg3 harg3 arg4 harg4 arg5 harg5 arg6 harg6 arg7 harg7 arg8 harg8 arg9 harg9 x3 X _ h8 v3 f4 g9 _ le_rfl)
    (pb3_hits 𝒱 c bd i arg1 harg1 arg2 harg2 arg3 harg3 arg4 harg4 arg5 harg5 arg6 harg6 arg7 harg7 arg8 harg8 arg9 harg9 v3 _ f4 g9 _ le_rfl ((y 1).val / 512) (by rw [t3_trips]; omega) y ⟨(y 1).val % 512 / 128, by omega⟩ ⟨(y 1).val % 128, by omega⟩
      (by show (y 1).val = 512 * ((y 1).val / 512) + 128 * ((y 1).val % 512 / 128) + (y 1).val % 128; omega))

/-- The three loops in a row: the running maximum. -/
theorem body_acc (x3 : Vec Ideal S160x160 .bf16) (hz : Padded x3) (X : Vec Ideal S128x18944 .bf16) (v3 : Elt Ideal .f32) (f4) (f6) (f7) (f8) (g9) (y : S8x128.Idx) :
    arg9.view.read (Elt Ideal) (arg9.view.writes (Elt Ideal) g9 (pb_k0_t3 (F := Ideal) 𝒱 c bd i arg1 harg1 arg2 harg2 arg3 harg3 arg4 harg4 arg5 harg5 arg6 harg6 arg7 harg7 arg8 harg8 arg9 harg9 v3
      (arg8.view.writes (Elt Ideal) f8 (pb2 (F := Ideal) 𝒱 c bd i arg1 harg1 arg2 harg2 arg3 harg3 arg4 harg4 arg5 harg5 arg6 harg6 arg7 harg7 arg8 harg8 arg9 harg9 (harg3.unread x3)
        (arg6.view.writes (Elt Ideal) f6 (pb1 (F := Ideal) 𝒱 c bd i arg1 harg1 arg2 harg2 arg3 harg3 arg4 harg4 arg5 harg5 arg6 harg6 arg7 harg7 arg8 harg8 arg9 harg9 (harg2.unread X) k0_t1_loop.trips).1)
        (arg7.view.writes (Elt Ideal) f7 (pb1 (F := Ideal) 𝒱 c bd i arg1 harg1 arg2 harg2 arg3 harg3 arg4 harg4 arg5 harg5 arg6 harg6 arg7 harg7 arg8 harg8 arg9 harg9 (harg2.unread X) k0_t1_loop.trips).2) k0_t2_loop.trips)) f4 g9 k0_t3_loop.trips).2) y
      = max (arg9.view.read (Elt Ideal) g9 y : EReal) (SX x3 X y) := by
  have h8 := fun (y : S19536x128.Idx) (a p : ℕ) (ha : a < 148) (hp : p < 128) (hy : (y 0).val = 132 * a + p) =>
    z_read 𝒱 c bd i arg1 harg1 arg2 harg2 arg3 harg3 arg4 harg4 arg5 harg5 arg6 harg6 arg7 harg7 arg8 harg8 arg9 harg9 x3 _ _ X hz (fun y r kp h1 h2 h3 => (tiles_read 𝒱 c bd i arg1 harg1 arg2 harg2 arg3 harg3 arg4 harg4 arg5 harg5 arg6 harg6 arg7 harg7 arg8 harg8 arg9 harg9 X f6 f7 y r kp h1 h2 h3).1)
      (fun y r kp h1 h2 h3 => (tiles_read 𝒱 c bd i arg1 harg1 arg2 harg2 arg3 harg3 arg4 harg4 arg5 harg5 arg6 harg6 arg7 harg7 arg8 harg8 arg9 harg9 X f6 f7 y r kp h1 h2 h3).2) f8 y a p ha hp hy
  have e := pb3_acc 𝒱 c bd i arg1 harg1 arg2 harg2 arg3 harg3 arg4 harg4 arg5 harg5 arg6 harg6 arg7 harg7 arg8 harg8 arg9 harg9 x3 X _ h8 v3 f4 g9 y _ le_rfl
  rw [e]
  unfold SX
  rw [t3_trips]

end Cert.RotateIdeal.Trip
-- ==== Proof.RotateT.Val4.lean ====
module

public import proofs.«01_k».proof.Proof.RotateT.Val3c
public import proofs.«01_k».proof.Proof.RotateT.RotateIdealRunA
public import proofs.«01_k».proof.Proof.RotateT.RotateIdealRunB
public import proofs.«01_k».proof.Proof.RotateT.RotateIdealRunC
public import Idealize.ShloMosaic.Lib.VecWindow

@[expose] public section
set_option maxRecDepth 16384
set_option maxHeartbeats 400000
noncomputable section
namespace Cert.RotateIdeal.Trip
open Cert.RotateIdeal Cert.RotateIdeal.Gen
open Idealize.ShloMosaic Idealize.ShloMosaic.TcCoe Idealize.ShloMosaic.Tactic

variable (c : Dev nD) (i : grid0.Coords) (arg1 : Memref sig .tc .smem S1 .f32) (harg1 : arg1.IsWhole) (arg2 : Memref sig .tc .vmem S128x18944 .bf16) (harg2 : arg2.IsWhole) (arg3 : Memref sig .tc .vmem S160x160 .bf16) (harg3 : arg3.IsWhole) (arg4 : Memref sig .tc .vmem S128x18944 .fp8e4m3) (harg4 : arg4.IsWhole) (arg5 : Memref sig .tc .smem S1 .f32) (harg5 : arg5.IsWhole) (arg6 : Memref sig .tc .vmem S4872x2x128 .bf16) (harg6 : arg6.IsWhole) (arg7 : Memref sig .tc .vmem S4872x2x128 .bf16) (harg7 : arg7.IsWhole) (arg8 : Memref sig .tc .vmem S19536x128 .f32) (harg8 : arg8.IsWhole) (arg9 : Memref sig .tc .vmem S8x128 .f32) (harg9 : arg9.IsWhole)

/-- The one index of a one-word buffer. -/
def i0 : S1.Idx := Shape.Idx.first (by decide)

theorem s1_eq (y y' : S1.Idx) : y = y' := funext fun a => by
  obtain ⟨a, ha⟩ := a
  match a, ha with
  | 0, _ => exact Subsingleton.elim (α := Fin 1) _ _

/-- The scale the body loads is the first entry of its operand. -/
theorem r_eq (x1 : Vec Ideal S1 .f32) : View.readAt (Elt Ideal) arg1.view (Rect.unit ![0] ![1] inb_S1_S1_0).toLoadRect (harg1.unread x1) (Shape.Idx.first (by decide)) = x1 i0 := by
  rw [harg1.readAt_unread]
  exact congrArg x1 (s1_eq _ _)

theorem runB_codes (hA : ¬ (Scalar.cmpi .ne (Scalar.extui (Scalar.cmpi .eq (BitVec.ofNat 32 (i 0).val) 0#32) : BitVec 32) 0#32 = 1#1)) (hC : ¬ (k0_cond2 i = 1#1)) (x1 : Vec Ideal S1 .f32) (x2 : Vec Ideal S128x18944 .bf16) (x3 : Vec Ideal S160x160 .bf16) (hz : Padded x3) (f4) (f5) (f6) (f7) (f8) (f9) (y) :
    arg4.view.read (Elt Ideal) (arg4.view.writes (Elt Ideal) f4 (runB c i arg1 harg1 arg2 harg2 arg3 harg3 arg4 harg4 arg5 harg5 arg6 harg6 arg7 harg7 arg8 harg8 arg9 harg9 hA hC x1 x2 x3 f4 f5 f6 f7 f8 f9).1) y = CG (x1 i0) x3 x2 y := by
  unfold runB; dsimp only
  exact (body_codes Variants.none c none i arg1 harg1 arg2 harg2 arg3 harg3 arg4 harg4 arg5 harg5 arg6 harg6 arg7 harg7 arg8 harg8 arg9 harg9 x3 hz x2 _ f4 f6 f7 f8 f9 y).trans (congrArg (fun v => CG v x3 x2 y) (r_eq (arg1 := arg1) (harg1 := harg1) x1))

theorem runB_acc (hA : ¬ (Scalar.cmpi .ne (Scalar.extui (Scalar.cmpi .eq (BitVec.ofNat 32 (i 0).val) 0#32) : BitVec 32) 0#32 = 1#1)) (hC : ¬ (k0_cond2 i = 1#1)) (x1 : Vec Ideal S1 .f32) (x2 : Vec Ideal S128x18944 .bf16) (x3 : Vec Ideal S160x160 .bf16) (hz : Padded x3) (f4) (f5) (f6) (f7) (f8) (f9) (y) :
    arg9.view.read (Elt Ideal) (arg9.view.writes (Elt Ideal) f9 (runB c i arg1 harg1 arg2 harg2 arg3 harg3 arg4 harg4 arg5 harg5 arg6 harg6 arg7 harg7 arg8 harg8 arg9 harg9 hA hC x1 x2 x3 f4 f5 f6 f7 f8 f9).2.1) y = max (arg9.view.read (Elt Ideal) f9 y : EReal) (SX x3 x2 y) := by
  unfold runB; dsimp only
  exact body_acc Variants.none c none i arg1 harg1 arg2 harg2 arg3 harg3 arg4 harg4 arg5 harg5 arg6 harg6 arg7 harg7 arg8 harg8 arg9 harg9 x3 hz x2 _ f4 f6 f7 f8 f9 y

theorem runC_codes (hA : ¬ (Scalar.cmpi .ne (Scalar.extui (Scalar.cmpi .eq (BitVec.ofNat 32 (i 0).val) 0#32) : BitVec 32) 0#32 = 1#1)) (hC : (k0_cond2 i = 1#1)) (x1 : Vec Ideal S1 .f32) (x2 : Vec Ideal S128x18944 .bf16) (x3 : Vec Ideal S160x160 .bf16) (hz : Padded x3) (f4) (f5) (f6) (f7) (f8) (f9) (y) :
    arg4.view.read (Elt Ideal) (arg4.view.writes (Elt Ideal) f4 (runC c i arg1 harg1 arg2 harg2 arg3 harg3 arg4 harg4 arg5 harg5 arg6 harg6 arg7 harg7 arg8 harg8 arg9 harg9 hA hC x1 x2 x3 f4 f5 f6 f7 f8 f9).1) y = CG (x1 i0) x3 x2 y := by
  unfold runC; dsimp only
  exact (body_codes Variants.none c none i arg1 harg1 arg2 harg2 arg3 harg3 arg4 harg4 arg5 harg5 arg6 harg6 arg7 harg7 arg8 harg8 arg9 harg9 x3 hz x2 _ f4 f6 f7 f8 f9 y).trans (congrArg (fun v => CG v x3 x2 y) (r_eq (arg1 := arg1) (harg1 := harg1) x1))

theorem runC_acc (hA : ¬ (Scalar.cmpi .ne (Scalar.extui (Scalar.cmpi .eq (BitVec.ofNat 32 (i 0).val) 0#32) : BitVec 32) 0#32 = 1#1)) (hC : (k0_cond2 i = 1#1)) (x1 : Vec Ideal S1 .f32) (x2 : Vec Ideal S128x18944 .bf16) (x3 : Vec Ideal S160x160 .bf16) (hz : Padded x3) (f4) (f5) (f6) (f7) (f8) (f9) (y) :
    arg9.view.read (Elt Ideal) (arg9.view.writes (Elt Ideal) f9 (runC c i arg1 harg1 arg2 harg2 arg3 harg3 arg4 harg4 arg5 harg5 arg6 harg6 arg7 harg7 arg8 harg8 arg9 harg9 hA hC x1 x2 x3 f4 f5 f6 f7 f8 f9).2.1) y = max (arg9.view.read (Elt Ideal) f9 y : EReal) (SX x3 x2 y) := by
  unfold runC; dsimp only
  exact body_acc Variants.none c none i arg1 harg1 arg2 harg2 arg3 harg3 arg4 harg4 arg5 harg5 arg6 harg6 arg7 harg7 arg8 harg8 arg9 harg9 x3 hz x2 _ f4 f6 f7 f8 f9 y

theorem runA_codes (hA : Scalar.cmpi .ne (Scalar.extui (Scalar.cmpi .eq (BitVec.ofNat 32 (i 0).val) 0#32) : BitVec 32) 0#32 = 1#1) (hC : ¬ (k0_cond2 i = 1#1)) (x1 : Vec Ideal S1 .f32) (x2 : Vec Ideal S128x18944 .bf16) (x3 : Vec Ideal S160x160 .bf16) (hz : Padded x3) (f4) (f5) (f6) (f7) (f8) (f9) (y) :
    arg4.view.read (Elt Ideal) (arg4.view.writes (Elt Ideal) f4 (runA c i arg1 harg1 arg2 harg2 arg3 harg3 arg4 harg4 arg5 harg5 arg6 harg6 arg7 harg7 arg8 harg8 arg9 harg9 hA hC x1 x2 x3 f4 f5 f6 f7 f8 f9).1) y = CG (x1 i0) x3 x2 y := by
  unfold runA; dsimp only
  simp only [View.writes_append]
  exact (body_codes Variants.none c none i arg1 harg1 arg2 harg2 arg3 harg3 arg4 harg4 arg5 harg5 arg6 harg6 arg7 harg7 arg8 harg8 arg9 harg9 x3 hz x2 _ f4 _ _ f8 _ y).trans (congrArg (fun v => CG v x3 x2 y) (r_eq (arg1 := arg1) (harg1 := harg1) x1))

theorem runA_acc (hA : Scalar.cmpi .ne (Scalar.extui (Scalar.cmpi .eq (BitVec.ofNat 32 (i 0).val) 0#32) : BitVec 32) 0#32 = 1#1) (hC : ¬ (k0_cond2 i = 1#1)) (x1 : Vec Ideal S1 .f32) (x2 : Vec Ideal S128x18944 .bf16) (x3 : Vec Ideal S160x160 .bf16) (hz : Padded x3) (f4) (f5) (f6) (f7) (f8) (f9) (y) :
    arg9.view.read (Elt Ideal) (arg9.view.writes (Elt Ideal) arg9.view.junk (runA c i arg1 harg1 arg2 harg2 arg3 harg3 arg4 harg4 arg5 harg5 arg6 harg6 arg7 harg7 arg8 harg8 arg9 harg9 hA hC x1 x2 x3 f4 f5 f6 f7 f8 f9).2.1) y = max (0 : EReal) (SX x3 x2 y) := by
  unfold runA; dsimp only
  simp only [View.writes_append]
  refine (body_acc Variants.none c none i arg1 harg1 arg2 harg2 arg3 harg3 arg4 harg4 arg5 harg5 arg6 harg6 arg7 harg7 arg8 harg8 arg9 harg9 x3 hz x2 _ f4 _ _ f8 _ y).trans ?_
  refine congrArg (fun v : EReal => max v (SX x3 x2 y)) ?_
  refine (congrFun (View.read_writes_full (Val := Elt Ideal) arg9.view _ inb_S8x128_S8x128_0_0 (k0_pay1 (F := Ideal)) []) y).trans ?_
  show FloatOps.ofBits (F := Ideal) .f32 0#32 = (0 : EReal)
  simp

/-- The tile maximum the last step stores. -/
theorem runC_amax (hA : ¬ (Scalar.cmpi .ne (Scalar.extui (Scalar.cmpi .eq (BitVec.ofNat 32 (i 0).val) 0#32) : BitVec 32) 0#32 = 1#1)) (hC : k0_cond2 i = 1#1) (x1 : Vec Ideal S1 .f32) (x2 : Vec Ideal S128x18944 .bf16) (x3 : Vec Ideal S160x160 .bf16) (hz : Padded x3) (f4) (f5) (f6) (f7) (f8) (f9) (y) :
    arg5.view.read (Elt Ideal) (arg5.view.writes (Elt Ideal) f5 (runC c i arg1 harg1 arg2 harg2 arg3 harg3 arg4 harg4 arg5 harg5 arg6 harg6 arg7 harg7 arg8 harg8 arg9 harg9 hA hC x1 x2 x3 f4 f5 f6 f7 f8 f9).2.2.1) y
      = k0_pay6 (F := Ideal) (arg9.view.read (Elt Ideal) (arg9.view.writes (Elt Ideal) f9 (runC c i arg1 harg1 arg2 harg2 arg3 harg3 arg4 harg4 arg5 harg5 arg6 harg6 arg7 harg7 arg8 harg8 arg9 harg9 hA hC x1 x2 x3 f4 f5 f6 f7 f8 f9).2.1)) := by
  unfold runC; dsimp only
  refine (congrFun (View.read_writes_full arg5.view f5 inb_S1_S1_0 _ []) y).trans ?_
  exact congrArg k0_pay6 (View.readAt_full arg9.view _ inb_S8x128_S8x128_0_0)

end Cert.RotateIdeal.Trip
-- ==== Proof.RotateT.Pad.lean ====
module

public import proofs.«01_k».proof.Proof.Gen.RotateIdeal.Frame
public import proofs.«01_k».proof.Proof.RotateT.Val3c
public import Idealize.ShloMosaic.Lib.Pipeline.ValueKit
public import Idealize.ShloMosaic.Lib.Pointwise
public import Idealize.ShloMosaic.Lib.Routing.OpsOne

@[expose] public section
set_option maxRecDepth 16384
noncomputable section
namespace Cert.RotateIdeal.Trip
open Cert.RotateIdeal Cert.RotateIdeal.Gen
open Idealize.ShloMosaic Idealize.ShloMosaic.TcCoe Idealize.ShloMosaic.Tactic
open Idealize.SL Idealize.SL.Sem
open Idealize.ShloMosaic.Routing

/-- Update `k` of a window placed by two index words lands at the words plus `k`. -/
theorem lands_window (idx : IVec S2 32) (k : S148x148.Idx) (r c : Fin 160) :
    scatter_S160x160_S2_S148x148_01_n_01_0.resultIdx? k idx = some (ix2 r c)
      ↔ (idx (ix1 (0 : Fin 2))).toInt + ((k 0).val : Int) = r.val ∧ (idx (ix1 (1 : Fin 2))).toInt + ((k 1).val : Int) = c.val := by
  have hk : scatter_S160x160_S2_S148x148_01_n_01_0.sKept = [0, 1] := rfl
  have hwin0 : scatter_S160x160_S2_S148x148_01_n_01_0.window k (0 : Fin 2) = (k 0).val := by
    unfold ScatterDims.window
    rw [dif_pos (by rw [hk]; simp)]
    rfl
  have hwin1 : scatter_S160x160_S2_S148x148_01_n_01_0.window k (1 : Fin 2) = (k 1).val := by
    unfold ScatterDims.window
    rw [dif_pos (by rw [hk]; simp)]
    rfl
  have e := resultIdx?_ix2 scatter_S160x160_S2_S148x148_01_n_01_0 k idx r c
  rw [start_pair scatter_S160x160_S2_S148x148_01_n_01_0 rfl rfl, start_pair scatter_S160x160_S2_S148x148_01_n_01_0 rfl rfl, hwin0, hwin1] at e
  exact e.trans Iff.rfl

/-- The matrix set into the corner of an array: itself there, the array elsewhere. -/
theorem scatter_corner {α : Type} (x : S160x160.Idx → α) (idx : IVec S2 32) (h0 : ∀ i, idx i = 0#32) (u : S148x148.Idx → α) (r c : Fin 160) :
    Host.scatter scatter_S160x160_S2_S148x148_01_n_01_0 (fun _ b => b) x idx u (ix2 r c)
      = if h : r.val < 148 ∧ c.val < 148 then u (ix2 ⟨r.val, h.1⟩ ⟨c.val, h.2⟩) else x (ix2 r c) := by
  have hl : ∀ k, scatter_S160x160_S2_S148x148_01_n_01_0.resultIdx? k idx = some (ix2 r c) ↔ (k 0).val = r.val ∧ (k 1).val = c.val := fun k => by
    rw [lands_window, h0, h0]
    show (0 : Int) + _ = _ ∧ (0 : Int) + _ = _ ↔ _
    omega
  split
  · rename_i h
    refine scatter_set_hit _ x idx u _ _ (fun k hk => congrArg u ?_) (ix2 ⟨r.val, h.1⟩ ⟨c.val, h.2⟩) ((hl _).mpr ⟨rfl, rfl⟩)
    obtain ⟨e0, e1⟩ := (hl k).mp hk
    refine funext fun a => ?_
    match a with
    | ⟨0, _⟩ => exact Fin.ext e0
    | ⟨1, _⟩ => exact Fin.ext e1
  · rename_i h
    refine scatter_set_miss _ x idx u _ fun k hk => h ?_
    obtain ⟨e0, e1⟩ := (hl k).mp hk
    exact ⟨e0 ▸ (k 0).isLt, e1 ▸ (k 1).isLt⟩

variable (m : (ℓ : Loc nD τ sig) → Buf (Elt Ideal) ℓ)

/-- The matrix's window is the whole array. -/
theorem idx2 : ∀ t : Fin cfg0.N, win0_2.index t = ![0, 0] :=
  (by decide +kernel : ∀ t : Fin grid0.N, _)

/-- The padded matrix as the region finds it. -/
theorem had_at (c : Dev nD) (t : Fin cfg0.N) (r k : Fin 160) :
    (iblk m c 2 t : Vec Ideal S160x160 .bf16) (ix2 r k)
      = if h : r.val < 148 ∧ k.val < 148 then (m (c.tc.loc main_arg1) : Vec Ideal S148x148 .f32) (ix2 ⟨r.val, h.1⟩ ⟨k.val, h.2⟩) else (0 : EReal) := by
  have e : (iblk m c 2 t : Vec Ideal S160x160 .bf16) (ix2 r k) = (V m c main_v5 : Vec Ideal S160x160 .bf16) (ix2 r k) := by
    unfold iblk
    show ((cfg0.win 2).blk t).view.read (Elt Ideal) (V m c main_v5) (ix2 r k) = (V m c main_v5 : Vec Ideal S160x160 .bf16) (ix2 r k)
    generalize V m c main_v5 = X
    blk_point [idx2 t]
  rw [e]
  rw [show (V m c main_v5 : Vec Ideal S160x160 .bf16) = Host.scatter scatter_S160x160_S2_S148x148_01_n_01_0 (fun _ b => b)
      (broadcastInDim S160x160 ![] bcast_S_S160x160 (constant (F := Ideal) S_ FTy.bf16 0#16))
      (concatenate S2 0
        [⟨S1, broadcastInDim S1 ![] bcast_S_S1 (constantI S_ 32 0#32)⟩,
          ⟨S1, broadcastInDim S1 ![] bcast_S_S1 (constantI S_ 32 0#32)⟩]
        concatenates_S1_S1_S2_d0) (m (c.tc.loc main_arg1) : Vec Ideal S148x148 .f32) from by entry_read; rfl]
  rw [scatter_corner _ _ (fun i => ?_) _ r k]
  · split
    · rfl
    · show FloatOps.ofBits (F := Ideal) .bf16 0#16 = (0 : EReal)
      simp
  · idx_vars i
    fin_cases i0 <;> rfl

theorem padded (c : Dev nD) (t : Fin cfg0.N) : Padded (iblk m c 2 t) := fun a k hk => by
  rw [had_at, dif_neg (by omega)]

end Cert.RotateIdeal.Trip
-- ==== Proof.RotateT.RotateIdealFrame.lean ====
module

public import proofs.«01_k».proof.Proof.RotateT.RotateIdealRunA
public import proofs.«01_k».proof.Proof.RotateT.RotateIdealRunB
public import proofs.«01_k».proof.Proof.RotateT.RotateIdealRunC
public import proofs.«01_k».proof.Proof.Gen.RotateIdeal.Frame
public import Idealize.ShloMosaic.Lib.Claim
public import proofs.«01_k».proof.Proof.RotateT.Val4
public import proofs.«01_k».proof.Proof.RotateT.Pad
@[expose] public section

set_option maxRecDepth 16384
set_option maxHeartbeats 1000000

noncomputable section

namespace Cert.RotateIdeal.Trip

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem sepAssoc {M : Type _} [RA M] (P Q R : sProp M) : iprop((P ∗ Q) ∗ R) = iprop(P ∗ Q ∗ R) := equiv_iff.mp ⟨Idealize.SL.BI.sep_assoc, Idealize.SL.BI.sep_assoc'⟩

/-- The first condition of the body holds at the first step only, the last at the last step only. -/
theorem condA_iff : ∀ t : Fin cfg0.N, (Scalar.cmpi .ne (Scalar.extui (Scalar.cmpi .eq (BitVec.ofNat 32 ((grid0.coords t) 0).val) 0#32) : BitVec 32) 0#32 = 1#1) ↔ t.val = 0 := by decide +kernel
theorem condC_iff : ∀ t : Fin cfg0.N, (k0_cond2 (grid0.coords t) = 1#1) ↔ t.val = 35 := by decide +kernel

/-- The scratch memrefs. -/
abbrev sc0 : Memref sig .tc .vmem S4872x2x128 .bf16 := Memref.whole cc0_scratch0
abbrev sc1 : Memref sig .tc .vmem S4872x2x128 .bf16 := Memref.whole cc0_scratch1
abbrev sc2 : Memref sig .tc .vmem S19536x128 .f32 := Memref.whole cc0_scratch2
abbrev sc3 : Memref sig .tc .vmem S8x128 .f32 := Memref.whole cc0_scratch3

/-- The running maximum before step `n`: zero, then the largest modulus of the tiles already seen. -/
def acc (c : Dev nD) : ℕ → Vec Ideal S8x128 .f32
  | 0 => fun _ => (0 : EReal)
  | n + 1 => fun y => if h : n < cfg0.N then (max (acc c n y : EReal) (SX (iblk m c 2 ⟨n, h⟩) (iblk m c 1 ⟨n, h⟩) y) : EReal) else acc c n y

theorem acc_succ (c : Dev nD) (t : Fin cfg0.N) (y : S8x128.Idx) :
    acc m c (t.val + 1) y = (max (acc m c t.val y : EReal) (SX (iblk m c 2 t) (iblk m c 1 t) y) : EReal) := by
  show (if h : t.val < cfg0.N then _ else _) = _
  rw [dif_pos t.isLt]

theorem acc_zero (c : Dev nD) (t : Fin cfg0.N) (ht : t.val = 0) (y : S8x128.Idx) :
    acc m c (t.val + 1) y = (max (0 : EReal) (SX (iblk m c 2 t) (iblk m c 1 t) y) : EReal) := by
  rw [acc_succ, ht]; rfl

/-- The proof data: the inputs' buffers at their blocks, the codes' at the tile's codes, the maximum's at the maximum of the tiles
    up to this one; the invariant describes the running maximum. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => CG (iblk m c 0 t i0) (iblk m c 2 t) (iblk m c 1 t)
    | ⟨4, _⟩ => fun _ => k0_pay6 (F := Ideal) (acc m c (t.val + 1))
  Φ t := (iprop((∃ f, (sc0.view.loc (c : Thread nD τ) ↦[sc0.view.set]{fullShare} f)) ∗ (∃ f, (sc1.view.loc (c : Thread nD τ) ↦[sc1.view.set]{fullShare} f)) ∗ (∃ f, (sc2.view.loc (c : Thread nD τ) ↦[sc2.view.set]{fullShare} f)) ∗ (∃ f, ⌜t.val ≠ 0 → ∀ y, sc3.view.read (Elt Ideal) f y = acc m c (t.val) y⌝ ∗ (sc3.view.loc (c : Thread nD τ) ↦[sc3.view.set]{fullShare} f)) ∗ ∃ r, prngReg c r) : sProp 𝕄)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = CG (iblk m c 0 t i0) (iblk m c 2 t) (iblk m c 1 t) := by dsimp only [dats]
theorem after0_4 (c : Dev nD) (t : Fin cfg0.N) : (dats m 0 c).after 4 t = fun _ => k0_pay6 (F := Ideal) (acc m c (t.val + 1)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem Φ_castSucc (c : Dev nD) (t : Fin cfg0.N) : (dats m 0 c).Φ t.castSucc = (iprop((∃ f, (sc0.view.loc (c : Thread nD τ) ↦[sc0.view.set]{fullShare} f)) ∗ (∃ f, (sc1.view.loc (c : Thread nD τ) ↦[sc1.view.set]{fullShare} f)) ∗ (∃ f, (sc2.view.loc (c : Thread nD τ) ↦[sc2.view.set]{fullShare} f)) ∗ (∃ f, ⌜t.val ≠ 0 → ∀ y, sc3.view.read (Elt Ideal) f y = acc m c (t.val) y⌝ ∗ (sc3.view.loc (c : Thread nD τ) ↦[sc3.view.set]{fullShare} f)) ∗ ∃ r, prngReg c r) : sProp 𝕄) := rfl
theorem Φ_succ (c : Dev nD) (t : Fin cfg0.N) : (dats m 0 c).Φ t.succ = (iprop((∃ f, (sc0.view.loc (c : Thread nD τ) ↦[sc0.view.set]{fullShare} f)) ∗ (∃ f, (sc1.view.loc (c : Thread nD τ) ↦[sc1.view.set]{fullShare} f)) ∗ (∃ f, (sc2.view.loc (c : Thread nD τ) ↦[sc2.view.set]{fullShare} f)) ∗ (∃ f, ⌜t.val + 1 ≠ 0 → ∀ y, sc3.view.read (Elt Ideal) f y = acc m c (t.val + 1) y⌝ ∗ (sc3.view.loc (c : Thread nD τ) ↦[sc3.view.set]{fullShare} f)) ∗ ∃ r, prngReg c r) : sProp 𝕄) := rfl

/-- The class invariant, the scratch buffer by buffer. -/
theorem ΦA_eq (c : Dev nD) : (Pipeline.ΦA spec0 c : sProp 𝕄) = iprop((∃ f, (sc0.view.loc (c : Thread nD τ) ↦[sc0.view.set]{fullShare} f)) ∗ (∃ f, (sc1.view.loc (c : Thread nD τ) ↦[sc1.view.set]{fullShare} f)) ∗ (∃ f, (sc2.view.loc (c : Thread nD τ) ↦[sc2.view.set]{fullShare} f)) ∗ (∃ f, (sc3.view.loc (c : Thread nD τ) ↦[sc3.view.set]{fullShare} f)) ∗ ∃ r, prngReg c r) := by
  unfold Pipeline.ΦA
  rw [scopedRest0_eq]
  simp only [Memref.view_whole, View.set_whole]
  rw [sepAssoc, sepAssoc, sepAssoc]

theorem Φ_in (c : Dev nD) : (Pipeline.ΦA spec0 c : sProp 𝕄) ⊢ (dats m 0 c).Φ 0 := by
  rw [ΦA_eq, show (dats m 0 c).Φ 0 = (iprop((∃ f, (sc0.view.loc (c : Thread nD τ) ↦[sc0.view.set]{fullShare} f)) ∗ (∃ f, (sc1.view.loc (c : Thread nD τ) ↦[sc1.view.set]{fullShare} f)) ∗ (∃ f, (sc2.view.loc (c : Thread nD τ) ↦[sc2.view.set]{fullShare} f)) ∗ (∃ f, ⌜0 ≠ 0 → ∀ y, sc3.view.read (Elt Ideal) f y = acc m c (0) y⌝ ∗ (sc3.view.loc (c : Thread nD τ) ↦[sc3.view.set]{fullShare} f)) ∗ ∃ r, prngReg c r) : sProp 𝕄) from rfl]
  iintro ⟨H0, H1, H2, ⟨%f, H3⟩, HR⟩
  isplitl [H0]; · iexact H0
  isplitl [H1]; · iexact H1
  isplitl [H2]; · iexact H2
  isplitl [H3]
  · iexists f; isplitr; · ipureintro; exact fun h => absurd rfl h
    iexact H3
  iexact HR

theorem Φ_out (c : Dev nD) : (dats m 0 c).Φ (Fin.last cfg0.N) ⊢ (Pipeline.ΦA spec0 c : sProp 𝕄) := by
  rw [ΦA_eq, show (dats m 0 c).Φ (Fin.last cfg0.N) = (iprop((∃ f, (sc0.view.loc (c : Thread nD τ) ↦[sc0.view.set]{fullShare} f)) ∗ (∃ f, (sc1.view.loc (c : Thread nD τ) ↦[sc1.view.set]{fullShare} f)) ∗ (∃ f, (sc2.view.loc (c : Thread nD τ) ↦[sc2.view.set]{fullShare} f)) ∗ (∃ f, ⌜(Fin.last cfg0.N).val ≠ 0 → ∀ y, sc3.view.read (Elt Ideal) f y = acc m c ((Fin.last cfg0.N).val) y⌝ ∗ (sc3.view.loc (c : Thread nD τ) ↦[sc3.view.set]{fullShare} f)) ∗ ∃ r, prngReg c r) : sProp 𝕄) from rfl]
  iintro ⟨H0, H1, H2, ⟨%f, -, H3⟩, HR⟩
  isplitl [H0]; · iexact H0
  isplitl [H1]; · iexact H1
  isplitl [H2]; · iexact H2
  isplitl [H3]; · iexists f; iexact H3
  iexact HR

/-- The maximum's window is written at the last step only. -/
theorem leaves4_idle (c : Dev nD) (t : Fin cfg0.N) (hC : ¬ (k0_cond2 (grid0.coords t) = 1#1)) :
    (dats m 0 c).leavesExact 4 t = iprop(∃ d, owns (c : Thread nD τ) (st0_4 t) fullShare ((dats m 0 c).before 4 t d)) := by
  refine (dats m 0 c).leavesExact_idle 4 t ?_ ?_
  · show (!(k0_cond2 (grid0.coords t) == 1#1)) = true
    simp [hC]
  · refine Bool.eq_false_iff.mpr fun h => hC ((condC_iff t).mpr ?_)
    have := (flush0_4 t).mp h
    have := t.isLt
    have : cfg0.N = 36 := N_0
    omega
theorem leaves4_C (c : Dev nD) (t : Fin cfg0.N) (hC : k0_cond2 (grid0.coords t) = 1#1) :
    (dats m 0 c).leavesExact 4 t = owns (c : Thread nD τ) (st0_4 t) fullShare ((dats m 0 c).after 4 t) := by
  have hi : cfg0.idle 4 (cfg0.grid.coords t) = false := by
    show (!(k0_cond2 (grid0.coords t) == 1#1)) = false
    simp [hC]
  unfold Dat.leavesExact; rw [hi]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem sound_A (c : Dev nD) (t : Fin cfg0.N) (hA : Scalar.cmpi .ne (Scalar.extui (Scalar.cmpi .eq (BitVec.ofNat 32 ((grid0.coords t) 0).val) 0#32) : BitVec 32) 0#32 = 1#1) (hC : ¬ (k0_cond2 (grid0.coords t) = 1#1)) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2, after0_3]
  rw [leaves4_idle m c t hC]
  rw [show (dats m 0 c).owesAt () t.succ = (dats m 0 c).owesAt () t.castSucc from rfl, Φ_castSucc, Φ_succ]
  unfold owns
  iintro ⟨⟨⟨%g6, S6⟩, ⟨%g7, S7⟩, ⟨%g8, S8⟩, ⟨%g9, %h9, S9⟩, HR⟩, Ho, ⟨%d0, %f0, %h0, H0⟩, ⟨%d1, %f1, %h1, H1⟩, ⟨%d2, %f2, %h2, H2⟩, ⟨%d3, %f3, %h3, H3⟩, ⟨%d4, %f4, %h4, H4⟩⟩
  have hacc : ∀ y, sc3.view.read (Elt Ideal) (sc3.view.writes (Elt Ideal) (Memref.whole cc0_scratch3 : Memref sig .tc .vmem S8x128 .f32).view.junk (runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.1) y = acc m c (t.val + 1) y :=
    fun y => (runA_acc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) (padded m c t) f3 f4 g6 g7 g8 g9 y).trans (acc_zero m c t ((condA_iff t).mp hA) y).symm
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.2 Set.univ _)
  unfold owns
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]; · iexact H3
  isplitl [H4]; · iexact H4
  isplitl [S6]; · iexact S6
  isplitl [S7]; · iexact S7
  isplitl [S8]; · iexact S8
  isplitl [S9]; · iexact S9
  iintro ⟨⟨%e0, %k0, H0⟩, ⟨%e1, %k1, H1⟩, ⟨%e2, %k2, H2⟩, H3, H4, S6, S7, S8, S9⟩
  isplitl [S6 S7 S8 S9 HR]
  · isplitl [S6]; · iexact S6
    isplitl [S7]; · iexact S7
    isplitl [S8]; · iexact S8
    isplitl [S9]
    · iexists _; isplitr
      swap; · iexact S9
      ipureintro; exact fun _ => hacc
    iexact HR
  isplitl [Ho]; · iexact Ho
  isplitl [H0]
  · iexists _; isplitr; · ipureintro; exact k0
    iexact H0
  isplitl [H1]
  · iexists _; isplitr; · ipureintro; exact k1
    iexact H1
  isplitl [H2]
  · iexists _; isplitr; · ipureintro; exact k2
    iexact H2
  isplitl [H3]
  · iexists _; isplitr
    swap; · iexact H3
    ipureintro
    exact funext fun y => runA_codes c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) (padded m c t) f3 f4 g6 g7 g8 g9 y
  iexists d4; iexists _; isplitr; · ipureintro; exact h4
  iexact H4

theorem sound_B (c : Dev nD) (t : Fin cfg0.N) (hA : ¬ (Scalar.cmpi .ne (Scalar.extui (Scalar.cmpi .eq (BitVec.ofNat 32 ((grid0.coords t) 0).val) 0#32) : BitVec 32) 0#32 = 1#1)) (hC : ¬ (k0_cond2 (grid0.coords t) = 1#1)) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2, after0_3]
  rw [leaves4_idle m c t hC]
  rw [show (dats m 0 c).owesAt () t.succ = (dats m 0 c).owesAt () t.castSucc from rfl, Φ_castSucc, Φ_succ]
  unfold owns
  iintro ⟨⟨⟨%g6, S6⟩, ⟨%g7, S7⟩, ⟨%g8, S8⟩, ⟨%g9, %h9, S9⟩, HR⟩, Ho, ⟨%d0, %f0, %h0, H0⟩, ⟨%d1, %f1, %h1, H1⟩, ⟨%d2, %f2, %h2, H2⟩, ⟨%d3, %f3, %h3, H3⟩, ⟨%d4, %f4, %h4, H4⟩⟩
  have hacc : ∀ y, sc3.view.read (Elt Ideal) (sc3.view.writes (Elt Ideal) g9 (runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.1) y = acc m c (t.val + 1) y :=
    fun y => (runB_acc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) (padded m c t) f3 f4 g6 g7 g8 g9 y).trans ((congrArg (fun v : EReal => max v (SX (iblk m c 2 t) (iblk m c 1 t) y)) (h9 (fun h => hA ((condA_iff t).mpr h)) y)).trans (acc_succ m c t y).symm)
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.2 Set.univ _)
  unfold owns
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]; · iexact H3
  isplitl [H4]; · iexact H4
  isplitl [S6]; · iexact S6
  isplitl [S7]; · iexact S7
  isplitl [S8]; · iexact S8
  isplitl [S9]; · iexact S9
  iintro ⟨⟨%e0, %k0, H0⟩, ⟨%e1, %k1, H1⟩, ⟨%e2, %k2, H2⟩, H3, H4, S6, S7, S8, S9⟩
  isplitl [S6 S7 S8 S9 HR]
  · isplitl [S6]; · iexact S6
    isplitl [S7]; · iexact S7
    isplitl [S8]; · iexact S8
    isplitl [S9]
    · iexists _; isplitr
      swap; · iexact S9
      ipureintro; exact fun _ => hacc
    iexact HR
  isplitl [Ho]; · iexact Ho
  isplitl [H0]
  · iexists _; isplitr; · ipureintro; exact k0
    iexact H0
  isplitl [H1]
  · iexists _; isplitr; · ipureintro; exact k1
    iexact H1
  isplitl [H2]
  · iexists _; isplitr; · ipureintro; exact k2
    iexact H2
  isplitl [H3]
  · iexists _; isplitr
    swap; · iexact H3
    ipureintro
    exact funext fun y => runB_codes c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) (padded m c t) f3 f4 g6 g7 g8 g9 y
  iexists d4; iexists _; isplitr; · ipureintro; exact h4
  iexact H4

theorem sound_C (c : Dev nD) (t : Fin cfg0.N) (hA : ¬ (Scalar.cmpi .ne (Scalar.extui (Scalar.cmpi .eq (BitVec.ofNat 32 ((grid0.coords t) 0).val) 0#32) : BitVec 32) 0#32 = 1#1)) (hC : k0_cond2 (grid0.coords t) = 1#1) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2, after0_3]
  rw [leaves4_C m c t hC, after0_4]
  rw [show (dats m 0 c).owesAt () t.succ = (dats m 0 c).owesAt () t.castSucc from rfl, Φ_castSucc, Φ_succ]
  unfold owns
  iintro ⟨⟨⟨%g6, S6⟩, ⟨%g7, S7⟩, ⟨%g8, S8⟩, ⟨%g9, %h9, S9⟩, HR⟩, Ho, ⟨%d0, %f0, %h0, H0⟩, ⟨%d1, %f1, %h1, H1⟩, ⟨%d2, %f2, %h2, H2⟩, ⟨%d3, %f3, %h3, H3⟩, ⟨%d4, %f4, %h4, H4⟩⟩
  have hacc : ∀ y, sc3.view.read (Elt Ideal) (sc3.view.writes (Elt Ideal) g9 (runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.1) y = acc m c (t.val + 1) y :=
    fun y => (runC_acc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) (padded m c t) f3 f4 g6 g7 g8 g9 y).trans ((congrArg (fun v : EReal => max v (SX (iblk m c 2 t) (iblk m c 1 t) y)) (h9 (fun h => hA ((condA_iff t).mpr h)) y)).trans (acc_succ m c t y).symm)
  iapply ((runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) f3 f4 g6 g7 g8 g9).2.2.2 Set.univ _)
  unfold owns
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]; · iexact H3
  isplitl [H4]; · iexact H4
  isplitl [S6]; · iexact S6
  isplitl [S7]; · iexact S7
  isplitl [S8]; · iexact S8
  isplitl [S9]; · iexact S9
  iintro ⟨⟨%e0, %k0, H0⟩, ⟨%e1, %k1, H1⟩, ⟨%e2, %k2, H2⟩, H3, H4, S6, S7, S8, S9⟩
  isplitl [S6 S7 S8 S9 HR]
  · isplitl [S6]; · iexact S6
    isplitl [S7]; · iexact S7
    isplitl [S8]; · iexact S8
    isplitl [S9]
    · iexists _; isplitr
      swap; · iexact S9
      ipureintro; exact fun _ => hacc
    iexact HR
  isplitl [Ho]; · iexact Ho
  isplitl [H0]
  · iexists _; isplitr; · ipureintro; exact k0
    iexact H0
  isplitl [H1]
  · iexists _; isplitr; · ipureintro; exact k1
    iexact H1
  isplitl [H2]
  · iexists _; isplitr; · ipureintro; exact k2
    iexact H2
  isplitl [H3]
  · iexists _; isplitr
    swap; · iexact H3
    ipureintro
    exact funext fun y => runC_codes c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) (padded m c t) f3 f4 g6 g7 g8 g9 y
  iexists _; isplitr
  swap; · iexact H4
  ipureintro
  refine funext fun y => (runC_amax c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) sc0 (Memref.isWhole_whole _) sc1 (Memref.isWhole_whole _) sc2 (Memref.isWhole_whole _) sc3 (Memref.isWhole_whole _) hA hC (iblk m c 0 t) (iblk m c 1 t) (iblk m c 2 t) (padded m c t) f3 f4 g6 g7 g8 g9 y).trans (congrArg (k0_pay6 (F := Ideal)) (funext hacc))

theorem sound_body (c : Dev nD) (t : Fin cfg0.N) :
    bodyPre m c t ⊢ wp frame (wpE (defs₀ (F := Ideal)) Variants.none c none) Set.univ (bodyAt0 t) (fun _ => bodyPost m c t) := by
  by_cases hA : Scalar.cmpi .ne (Scalar.extui (Scalar.cmpi .eq (BitVec.ofNat 32 ((grid0.coords t) 0).val) 0#32) : BitVec 32) 0#32 = 1#1
  · exact sound_A m c t hA (fun h => by have := (condA_iff t).mp hA; have := (condC_iff t).mp h; omega)
  · by_cases hC : k0_cond2 (grid0.coords t) = 1#1
    · exact sound_C m c t hA hC
    · exact sound_B m c t hA hC

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.RotateIdeal.Trip
-- ==== Proof.RotateT.RotCommon.lean ====
/-
  The rotated, scaled and clipped activations as one function of the arguments, and facts about its suprema.
-/
module

public import proofs.«01_k».proof.Proof.RotateT.Val3c
public import Idealize.ShloMosaic.Lib.Pipeline.ValueKit
public import Idealize.ShloMosaic.Lib.Pointwise

@[expose] public section
set_option maxRecDepth 16384
noncomputable section
namespace Cert.RotateValue
open Idealize.ShloMosaic
open Cert.RotateIdeal.Trip (st st_lo st_hi mag invC hiC loC)

/-- One token of the activations, zero past its end. -/
def xr (x : FVec Ideal ⟨3, ![3, 1536, 18944]⟩ .bf16) (b : Fin 3) (s : Fin 1536) (n : ℕ) : EReal :=
  if h : n < 18944 then x (ix3 b s ⟨n, h⟩) else 0

/-- The dense factor of the rotation: row `a` of the matrix against the token's blocks at position `p`. -/
def dn (x : FVec Ideal ⟨3, ![3, 1536, 18944]⟩ .bf16) (hd : FVec Ideal ⟨2, ![148, 148]⟩ .f32) (b : Fin 3) (s : Fin 1536) (a : Fin 148) (p : ℕ) : EReal :=
  ∑ k : Fin 148, (hd (ix2 a k) : EReal) * xr x b s (k.val * 128 + p)

/-- The seven butterflies. -/
def st7 (v : ℕ → EReal) : ℕ → EReal := st 64 (st 32 (st 16 (st 8 (st 4 (st 2 (st 1 v))))))

/-- The rotated token, before its constant factor. -/
def Y (x : FVec Ideal ⟨3, ![3, 1536, 18944]⟩ .bf16) (hd : FVec Ideal ⟨2, ![148, 148]⟩ .f32) (b : Fin 3) (s : Fin 1536) (a : Fin 148) (p : ℕ) : EReal :=
  st7 (dn x hd b s a) p

/-- The rotated array before its constant factor, at an index of the activations. -/
def YI (x : FVec Ideal ⟨3, ![3, 1536, 18944]⟩ .bf16) (hd : FVec Ideal ⟨2, ![148, 148]⟩ .f32) (i : Fin 3 × Fin 1536 × Fin 148 × Fin 128) : EReal :=
  Y x hd i.1 i.2.1 i.2.2.1 i.2.2.2.val

/-- The codes. -/
def C (x : FVec Ideal ⟨3, ![3, 1536, 18944]⟩ .bf16) (hd : FVec Ideal ⟨2, ![148, 148]⟩ .f32) (inv : FVec Ideal ⟨0, ![]⟩ .f32) :
    FVec Ideal ⟨2, ![4608, 18944]⟩ .fp8e4m3 := fun j =>
  (min hiC (max loC (Y x hd ⟨(j 0).val / 1536, by have := (j 0).isLt; change _ < 4608 at this; omega⟩ ⟨(j 0).val % 1536, by omega⟩
    ⟨(j 1).val / 128, by have := (j 1).isLt; change _ < 18944 at this; omega⟩ ((j 1).val % 128) * invC * (inv ix0 : EReal))) : EReal)

/-- The largest modulus. -/
def AM (x : FVec Ideal ⟨3, ![3, 1536, 18944]⟩ .bf16) (hd : FVec Ideal ⟨2, ![148, 148]⟩ .f32) : EReal :=
  (Finset.univ.sup fun i => mag (YI x hd i)) * invC

theorem st_congr {h : ℕ} (hh : h = 1 ∨ h = 2 ∨ h = 4 ∨ h = 8 ∨ h = 16 ∨ h = 32 ∨ h = 64) {v w : ℕ → EReal} (e : ∀ p, p < 128 → v p = w p) :
    ∀ p, p < 128 → st h v p = st h w p := fun p hp => by
  unfold st
  rcases hh with rfl | rfl | rfl | rfl | rfl | rfl | rfl <;>
  · split
    · rw [e p hp, e _ (by omega)]
    · rw [e p hp, e _ (by omega)]

theorem st7_congr {v w : ℕ → EReal} (e : ∀ p, p < 128 → v p = w p) : ∀ p, p < 128 → st7 v p = st7 w p :=
  st_congr (by omega) (st_congr (by omega) (st_congr (by omega) (st_congr (by omega) (st_congr (by omega) (st_congr (by omega) (st_congr (by omega) e))))))

theorem mag_nonneg (z : EReal) : 0 ≤ mag z := by
  unfold mag
  rcases le_total 0 z with h | h
  · exact le_max_of_le_left h
  · exact le_max_of_le_right (by simpa using EReal.neg_le_neg_iff.mpr h)

/-- The rotation's constant factor is not negative. -/
theorem invC_nonneg : 0 ≤ invC := by
  show 0 ≤ Ideal.ofBits .f32 0x3BEE133E#32
  simp [Ideal.ofBits, Ideal.ieee, -EReal.coe_mul]

/-- A modulus times the factor is the modulus of the product. -/
theorem mag_mul (z : EReal) : mag (z * invC) = mag z * invC := by
  unfold mag
  rw [← EReal.neg_mul]
  rcases le_total z (-z) with h | h
  · rw [max_eq_right h, max_eq_right (mul_le_mul_of_nonneg_right h invC_nonneg)]
  · rw [max_eq_left h, max_eq_left (mul_le_mul_of_nonneg_right h invC_nonneg)]

/-- The factor moves out of the supremum of moduli over a nonempty set. -/
theorem sup_mag_mul {ι : Type} [Fintype ι] [Nonempty ι] (f : ι → EReal) :
    (Finset.univ.sup fun i => mag (f i * invC)) = (Finset.univ.sup fun i => mag (f i)) * invC := by
  refine le_antisymm (Finset.sup_le fun i hi => ?_) ?_
  · rw [mag_mul]
    exact mul_le_mul_of_nonneg_right (Finset.le_sup (f := fun i => mag (f i)) hi) invC_nonneg
  · obtain ⟨i, hi, e⟩ := Finset.exists_mem_eq_sup (Finset.univ : Finset ι) Finset.univ_nonempty (fun i => mag (f i))
    rw [e, ← mag_mul]
    exact Finset.le_sup (f := fun i => mag (f i * invC)) hi

/-- The reductions' starting word is the least element. -/
theorem bot_eq : (FloatOps.ofBits (F := Ideal) .f32 0xFF800000#32 : EReal) = ⊥ := by
  show Ideal.ofBits .f32 0xFF800000#32 = ⊥
  simp [Ideal.ofBits, Ideal.ieee]

/-- A fold of the float maximum from the least element is the supremum. -/
theorem fold_sup {ι : Type} (S : Finset ι) (f : ι → EReal) (b : EReal) (hb : b = ⊥) :
    S.fold (FloatOps.maximumf (F := Ideal) (φ := .f32)) b f = S.sup f := by
  subst hb; rfl

end Cert.RotateValue
end
-- ==== Proof.RotateT.RotValue.lean ====
/-
  What the rotation kernel leaves in its two results, at the ideal instance.
-/
module

public import proofs.«01_k».proof.Proof.RotateT.RotateIdealFrame
public import proofs.«01_k».proof.Proof.RotateT.Pad
public import proofs.«01_k».proof.Proof.RotateT.RotCommon
public import Idealize.ShloMosaic.Lib.Pipeline.ValueKit
public import Idealize.ShloMosaic.Lib.Pointwise
public import Idealize.ShloMosaic.Lib.Claim

@[expose] public section
set_option maxRecDepth 16384
noncomputable section
namespace Cert.RotateIdeal.Trip
open Cert.RotateIdeal Cert.RotateIdeal.Gen
open Idealize.ShloMosaic Idealize.ShloMosaic.TcCoe Idealize.SL Idealize.SL.Sem
open Cert.RotateValue

/-- A tile's rotated token is the rotated token of the arguments. -/
theorem yv_eq (x : FVec Ideal ⟨3, ![3, 1536, 18944]⟩ .bf16) (hd : FVec Ideal ⟨2, ![148, 148]⟩ .f32) (X3 : Vec Ideal S160x160 .bf16) (X : Vec Ideal S128x18944 .bf16)
    (b : Fin 3) (s : Fin 1536) (tok : Fin 128)
    (h3 : ∀ r k : Fin 148, (X3 (ix2 ⟨r.val, by omega⟩ ⟨k.val, by omega⟩) : EReal) = hd (ix2 r k))
    (hX : ∀ n : Fin 18944, (X (ix2 tok n) : EReal) = x (ix3 b s n)) (a : Fin 148) (p : ℕ) (hp : p < 128) :
    yv X3 X a.val tok p = Y x hd b s a p := by
  refine st7_congr (v := dense X3 X a.val tok) (w := dn x hd b s a) (fun p hp => ?_) p hp
  unfold dense dn
  refine Finset.sum_congr rfl fun k _ => ?_
  have hk := k.isLt
  have ha := a.isLt
  have e1 : hat X3 a.val k.val = hd (ix2 a k) := by
    unfold hat
    rw [dif_pos ⟨by omega, by omega⟩]
    exact h3 a k
  have e2 : xat X tok (k.val * 128 + p) = xr x b s (k.val * 128 + p) := by
    unfold xat xr
    rw [dif_pos (by omega), dif_pos (by omega)]
    exact hX _
  rw [e1, e2]

variable (m : (ℓ : Loc nD τ sig) → Buf (Elt Ideal) ℓ)

theorem tlt (t : Fin cfg0.N) : t.val < 36 := t.isLt

/-- The index maps. -/
theorem idx0 : ∀ t : Fin cfg0.N, win0_0.index t = ![0] := (by decide +kernel : ∀ t : Fin grid0.N, _)
theorem idx1 : ∀ t : Fin cfg0.N, win0_1.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0] := (by decide +kernel : ∀ t : Fin grid0.N, _)

/-- The activations' array, as the region finds it. -/
theorem v7_eq (c : Dev nD) : (V m c main_v7 : Vec Ideal S4608x18944 .bf16)
    = shapeCast S4608x18944 (m (c.tc.loc main_arg0) : Vec Ideal S3x1536x18944 .bf16) shapeCasts_S3x1536x18944_S4608x18944 := by
  entry_read; rfl

theorem v6_eq (c : Dev nD) : (V m c main_v6 : Vec Ideal S1 .f32)
    = shapeCast S1 (m (c.tc.loc main_arg2) : Vec Ideal S_ .f32) shapeCasts_S_S1 := by
  entry_read; rfl

/-- The activations' reshape, at an index. -/
theorem flat_at (x : FVec Ideal S3x1536x18944 .bf16) (T : Fin 4608) (n : Fin 18944) :
    shapeCast S4608x18944 x shapeCasts_S3x1536x18944_S4608x18944 (ix2 T n) = x (ix3 ⟨T.val / 1536, by omega⟩ ⟨T.val % 1536, by omega⟩ n) := by
  pointwise

/-- A tile of the activations. -/
theorem x_at (c : Dev nD) (t : Fin cfg0.N) (tok : Fin 128) (n : Fin 18944) :
    (iblk m c 1 t : Vec Ideal S128x18944 .bf16) (ix2 tok n)
      = (m (c.tc.loc main_arg0) : Vec Ideal S3x1536x18944 .bf16) (ix3 ⟨(t.val * 128 + tok.val) / 1536, by have := tlt t; omega⟩ ⟨(t.val * 128 + tok.val) % 1536, by omega⟩ n) := by
  have ht := tlt t
  have e : (iblk m c 1 t : Vec Ideal S128x18944 .bf16) (ix2 tok n) = (V m c main_v7 : Vec Ideal S4608x18944 .bf16) (ix2 ⟨t.val * 128 + tok.val, by omega⟩ n) := by
    unfold iblk
    show ((cfg0.win 1).blk t).view.read (Elt Ideal) (V m c main_v7) (ix2 tok n) = (V m c main_v7 : Vec Ideal S4608x18944 .bf16) (ix2 ⟨t.val * 128 + tok.val, by omega⟩ n)
    generalize V m c main_v7 = X
    blk_point [idx1 t]
  rw [e, v7_eq, flat_at]

/-- The inverse scale. -/
theorem inv_at (c : Dev nD) (t : Fin cfg0.N) (i : S1.Idx) :
    (iblk m c 0 t : Vec Ideal S1 .f32) i = (m (c.tc.loc main_arg2) : Vec Ideal S_ .f32) ix0 := by
  have e : (iblk m c 0 t : Vec Ideal S1 .f32) i = (V m c main_v6 : Vec Ideal S1 .f32) i := by
    unfold iblk
    show ((cfg0.win 0).blk t).view.read (Elt Ideal) (V m c main_v6) i = (V m c main_v6 : Vec Ideal S1 .f32) i
    generalize V m c main_v6 = X
    idx_vars i
    blk_point [idx0 t]
  rw [e, v6_eq]
  exact congrArg (m (c.tc.loc main_arg2) : Vec Ideal S_ .f32) (funext fun a => a.elim0)

/-- A tile's rotated tokens. -/
theorem tile_eq (c : Dev nD) (t : Fin cfg0.N) (tok : Fin 128) (a : Fin 148) (p : ℕ) (hp : p < 128) :
    yv (iblk m c 2 t) (iblk m c 1 t) a.val tok p
      = Y (m (c.tc.loc main_arg0)) (m (c.tc.loc main_arg1)) ⟨(t.val * 128 + tok.val) / 1536, by have := tlt t; omega⟩ ⟨(t.val * 128 + tok.val) % 1536, by omega⟩ a p :=
  yv_eq _ _ _ _ _ _ tok (fun r k => by rw [had_at, dif_pos ⟨r.isLt, k.isLt⟩]) (fun n => x_at m c t tok n) a p hp

/-- A code lies where its tile does. -/
theorem emb3 (t : Fin cfg0.N) (a : Fin 128) (n : Fin 18944) : (win0_3.blk t).view.emb (ix2 a n : S128x18944.Idx) = (ix2 ⟨t.val * 128 + a.val, by have := tlt t; omega⟩ n : S4608x18944.Idx) := by
  blk_point [idx3 t]

/-- The codes the kernel leaves. -/
theorem final3 (c : Dev nD) : (dats m 0 c).arrAt 3 cfg0.N
    = C (m (c.tc.loc main_arg0)) (m (c.tc.loc main_arg1)) (m (c.tc.loc main_arg2)) := by
  refine (dats m 0 c).arrAt_eq_of_covers 3 _ (by decide +kernel) fun t hf y => ?_
  blk_simp
  rw [after0_3]
  obtain ⟨a, n, rfl⟩ : ∃ (a : Fin 128) (n : Fin 18944), y = (ix2 a n : S128x18944.Idx) := ⟨y 0, y 1, by idx_vars y⟩
  refine Eq.trans ?_ (congrArg (C (m (c.tc.loc main_arg0)) (m (c.tc.loc main_arg1)) (m (c.tc.loc main_arg2))) (emb3 t a n).symm)
  have hn := n.isLt
  have e := tile_eq m c t a ⟨n.val / 128, by omega⟩ (n.val % 128) (by omega)
  have ei := inv_at m c t i0
  unfold CG C
  exact congrArg₂ (fun u v : EReal => min hiC (max loC (u * invC * v))) e ei

/-- The reduction over a tile of maxima. -/
def mred (B : FVec Ideal S1x8x128 .f32) : FVec Ideal S1 .f32 :=
  multiReduction (F := Ideal) (φ := .f32) .maximumf [1, 2] S1 B 0xFF800000#32 reduces_S1x8x128_S1 (.inl rfl) rfl

/-- It is the supremum. -/
theorem mred_sup (B : FVec Ideal S1x8x128 .f32) (j : S1.Idx) : (mred B j : EReal) = Finset.univ.sup fun i => (B i : EReal) := by
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  refine (multiReduction_maximumf_eq_fold (F := Ideal) (φ := .f32) B _ reduces_S1x8x128_S1 (.inl rfl) rfl j).trans ?_
  refine (fold_sup _ _ _ bot_eq).trans (congrArg (fun S => Finset.sup S fun i => (B i : EReal)) ?_)
  exact Finset.ext fun i => ⟨fun _ => Finset.mem_univ _, fun _ => Finset.mem_filter.mpr ⟨Finset.mem_univ _, s1_eq _ _⟩⟩

theorem lift_at (A : FVec Ideal S8x128 .f32) (z : Fin 1) (r : Fin 8) (l : Fin 128) :
    shapeCast S1x8x128 A shapeCasts_S8x128_S1x8x128 (ix3 z r l) = A (ix2 r l) := by
  pointwise

theorem lift_sup (A : FVec Ideal S8x128 .f32) : (Finset.univ.sup fun i => (shapeCast S1x8x128 A shapeCasts_S8x128_S1x8x128 i : EReal)) = Finset.univ.sup fun i => (A i : EReal) := by
  refine le_antisymm (Finset.sup_le fun i _ => ?_) (Finset.sup_le fun i _ => ?_)
  · idx_vars i
    rw [lift_at]
    exact Finset.le_sup (f := fun i => (A i : EReal)) (Finset.mem_univ _)
  · idx_vars i
    rw [← lift_at A 0]
    exact Finset.le_sup (f := fun i => (shapeCast S1x8x128 A shapeCasts_S8x128_S1x8x128 i : EReal)) (Finset.mem_univ _)

/-- The scalar the last step stores. -/
theorem pay6_eq (A : Vec Ideal S8x128 .f32) : (k0_pay6 (F := Ideal) A : EReal) = (Finset.univ.sup fun i => (A i : EReal)) * invC := by
  rw [← lift_sup]
  exact congrArg (fun u : EReal => u * invC) (mred_sup (shapeCast S1x8x128 A shapeCasts_S8x128_S1x8x128) _)

theorem acc_le (c : Dev nD) (y : S8x128.Idx) (M : EReal) (h0 : 0 ≤ M) (h : ∀ t : Fin cfg0.N, SX (iblk m c 2 t) (iblk m c 1 t) y ≤ M) :
    ∀ n, n ≤ 36 → (acc m c n y : EReal) ≤ M
  | 0, _ => h0
  | n + 1, hn => by
    refine (acc_succ m c ⟨n, by show n < 36; omega⟩ y).le.trans (max_le ?_ (h _))
    exact acc_le c y M h0 h n (by omega)

theorem le_acc (c : Dev nD) (y : S8x128.Idx) (t : Fin cfg0.N) :
    ∀ n, n ≤ 36 → t.val < n → SX (iblk m c 2 t) (iblk m c 1 t) y ≤ (acc m c n y : EReal)
  | 0, _, h => absurd h (by omega)
  | n + 1, hn, h => by
    refine le_trans ?_ (acc_succ m c ⟨n, by show n < 36; omega⟩ y).symm.le
    by_cases e : t.val = n
    · have et : t = ⟨n, by show n < 36; omega⟩ := Fin.ext e
      rw [et]
      exact le_max_right _ _
    · exact (le_acc c y t n (by omega) (by omega)).trans (le_max_left _ _)

/-- The running maxima's supremum is the largest modulus. -/
theorem acc_sup (c : Dev nD) : (Finset.univ.sup fun y => (acc m c 36 y : EReal))
    = Finset.univ.sup fun i => mag (YI (m (c.tc.loc main_arg0)) (m (c.tc.loc main_arg1)) i) := by
  refine le_antisymm (Finset.sup_le fun y _ => ?_) (Finset.sup_le fun i _ => ?_)
  · have hle := fun i => Finset.le_sup (f := fun i => mag (YI (m (c.tc.loc main_arg0)) (m (c.tc.loc main_arg1)) i)) (Finset.mem_univ i)
    refine acc_le m c y _ ((mag_nonneg _).trans (hle (0, 0, 0, 0))) (fun t => ?_) 36 le_rfl
    unfold SX
    refine Finset.sup_le fun a ha => ?_
    unfold mxA
    refine Finset.sup_le fun q _ => ?_
    have ha' := Finset.mem_range.mp ha
    have hy : (y 0).val < 8 := (y 0).isLt
    have hq := q.isLt
    have hp : 8 * q.val + (y 0).val < 128 := by omega
    refine (congrArg mag (tile_eq m c t (y 1) ⟨a, ha'⟩ (8 * q.val + (y 0).val) hp)).le.trans ?_
    exact hle (_, _, ⟨a, ha'⟩, ⟨8 * q.val + (y 0).val, hp⟩)
  · obtain ⟨b, s, a, p⟩ := i
    have hb := b.isLt
    have hs := s.isLt
    have hp := p.isLt
    have ht : (b.val * 1536 + s.val) / 128 < 36 := by omega
    have e := tile_eq m c ⟨(b.val * 1536 + s.val) / 128, ht⟩ ⟨(b.val * 1536 + s.val) % 128, by omega⟩ a (8 * (p.val / 8) + p.val % 8) (by omega)
    have e1 : (⟨((b.val * 1536 + s.val) / 128 * 128 + (b.val * 1536 + s.val) % 128) / 1536, by omega⟩ : Fin 3) = b :=
      Fin.ext (by show ((b.val * 1536 + s.val) / 128 * 128 + (b.val * 1536 + s.val) % 128) / 1536 = b.val; omega)
    have e2 : (⟨((b.val * 1536 + s.val) / 128 * 128 + (b.val * 1536 + s.val) % 128) % 1536, by omega⟩ : Fin 1536) = s :=
      Fin.ext (by show ((b.val * 1536 + s.val) / 128 * 128 + (b.val * 1536 + s.val) % 128) % 1536 = s.val; omega)
    have e3 : 8 * (p.val / 8) + p.val % 8 = p.val := by omega
    dsimp only at e
    rw [e1, e2] at e
    have hY : YI (m (c.tc.loc main_arg0)) (m (c.tc.loc main_arg1)) (b, s, a, p) = Y (m (c.tc.loc main_arg0)) (m (c.tc.loc main_arg1)) b s a (8 * (p.val / 8) + p.val % 8) := by
      rw [e3]; rfl
    refine (congrArg mag (hY.trans e.symm)).le.trans ?_
    have h1 := Finset.le_sup (f := fun q : Fin 16 => mag (yv (iblk m c 2 ⟨(b.val * 1536 + s.val) / 128, ht⟩) (iblk m c 1 ⟨(b.val * 1536 + s.val) / 128, ht⟩) a.val ⟨(b.val * 1536 + s.val) % 128, by omega⟩ (8 * q.val + p.val % 8))) (Finset.mem_univ ⟨p.val / 8, by omega⟩)
    have h2 := Finset.le_sup (f := fun a => mxA (iblk m c 2 ⟨(b.val * 1536 + s.val) / 128, ht⟩) (iblk m c 1 ⟨(b.val * 1536 + s.val) / 128, ht⟩) a (ix2 ⟨p.val % 8, by omega⟩ ⟨(b.val * 1536 + s.val) % 128, by omega⟩)) (Finset.mem_range.mpr a.isLt)
    have h3 := le_acc m c (ix2 ⟨p.val % 8, by omega⟩ ⟨(b.val * 1536 + s.val) % 128, by omega⟩) ⟨(b.val * 1536 + s.val) / 128, ht⟩ 36 le_rfl ht
    have h4 := Finset.le_sup (f := fun y => (acc m c 36 y : EReal)) (Finset.mem_univ (ix2 ⟨p.val % 8, by omega⟩ ⟨(b.val * 1536 + s.val) % 128, by omega⟩))
    exact h1.trans (h2.trans (h3.trans h4))

theorem flush4 : ∀ t : Fin cfg0.N, (cfg0.win 4).flush t = true → t.val = 35 := (by decide +kernel : ∀ t : Fin grid0.N, _)

/-- The largest modulus the kernel leaves. -/
theorem final4 (c : Dev nD) : (dats m 0 c).arrAt 4 cfg0.N
    = fun _ => AM (m (c.tc.loc main_arg0)) (m (c.tc.loc main_arg1)) := by
  refine (dats m 0 c).arrAt_eq_of_covers 4 _ (by decide +kernel) fun t hf y => ?_
  blk_simp
  rw [after0_4, flush4 t hf]
  refine (pay6_eq _).trans ?_
  rw [acc_sup]
  rfl

end Cert.RotateIdeal.Trip
end
-- ==== Proof.RotateT.RefStage.lean ====
/-
  The seven butterflies of the reference's rotation, each as one function of the array it takes.
-/
module

public import proofs.«01_k».proof.Proof.Gen.RotateRefIdeal.Run
public import proofs.«01_k».proof.Proof.RotateT.Val2a
public import Idealize.ShloMosaic.Lib.Pipeline.ValueKit
public import Idealize.ShloMosaic.Lib.Pointwise

@[expose] public section
set_option maxRecDepth 16384
noncomputable section
namespace Cert.RotateRefIdeal.Ref
open Cert.RotateRefIdeal Cert.RotateRefIdeal.Gen Cert.RotateRefIdeal.Value
open Idealize.ShloMosaic Idealize.ShloMosaic.StableHlo Idealize.SL Idealize.SL.Sem
open Cert.RotateIdeal.Trip (st st_lo st_hi)

/-- One block of one token, as a function of the position. -/
def zf (Z : FVec Ideal S3x1536x148x128 .f32) (b : Fin 3) (s : Fin 1536) (a : Fin 148) (p : ℕ) : EReal :=
  if h : p < 128 then Z (ix4 b s a ⟨p, h⟩) else 0

theorem zf_eq (Z : FVec Ideal S3x1536x148x128 .f32) (b : Fin 3) (s : Fin 1536) (a : Fin 148) (p : Fin 128) (q : ℕ) (h : p.val = q) :
    (Z (ix4 b s a p) : EReal) = zf Z b s a q := by
  subst h
  unfold zf
  rw [dif_pos p.isLt]

theorem zf_fin (Z : FVec Ideal S3x1536x148x128 .f32) (b : Fin 3) (s : Fin 1536) (a : Fin 148) (p : Fin 128) :
    zf Z b s a p.val = Z (ix4 b s a p) := (zf_eq Z b s a p _ rfl).symm

/-- The array split into pairs of runs of 1. -/
def W1 (Z : FVec Ideal S3x1536x148x128 .f32) : FVec Ideal S3x1536x148x64x2x1 .f32 := shapeCast _ Z shapeCasts_S3x1536x148x128_S3x1536x148x64x2x1

/-- The first run of each pair. -/
def E1 (Z : FVec Ideal S3x1536x148x128 .f32) : FVec Ideal S3x1536x148x64x1 .f32 :=
  shapeCast _ (extractStridedSlice S3x1536x148x64x1x1 ![0, 0, 0, 0, 0, 0] (W1 Z) slices_S3x1536x148x64x2x1_S3x1536x148x64x1x1_0_0_0_0_0_0) shapeCasts_S3x1536x148x64x1x1_S3x1536x148x64x1

/-- The second run of each pair. -/
def O1 (Z : FVec Ideal S3x1536x148x128 .f32) : FVec Ideal S3x1536x148x64x1 .f32 :=
  shapeCast _ (extractStridedSlice S3x1536x148x64x1x1 ![0, 0, 0, 0, 1, 0] (W1 Z) slices_S3x1536x148x64x2x1_S3x1536x148x64x1x1_0_0_0_0_1_0) shapeCasts_S3x1536x148x64x1x1_S3x1536x148x64x1

/-- One butterfly: sums and differences of the pairs' runs. -/
def B1 (Z : FVec Ideal S3x1536x148x128 .f32) : FVec Ideal S3x1536x148x128 .f32 :=
  shapeCast _ (concatenate S3x1536x148x64x2x1 4 [⟨S3x1536x148x64x1x1, (broadcastInDim S3x1536x148x64x1x1 ![0, 1, 2, 3, 5] bcast_S3x1536x148x64x1_S3x1536x148x64x1x1_0_1_2_3_5 (addf (E1 Z) (O1 Z)))⟩, ⟨S3x1536x148x64x1x1, (broadcastInDim S3x1536x148x64x1x1 ![0, 1, 2, 3, 5] bcast_S3x1536x148x64x1_S3x1536x148x64x1x1_0_1_2_3_5 (subf (E1 Z) (O1 Z)))⟩] concatenates_S3x1536x148x64x1x1_S3x1536x148x64x1x1_S3x1536x148x64x2x1_d4) shapeCasts_S3x1536x148x64x2x1_S3x1536x148x128

theorem B1_at (Z : FVec Ideal S3x1536x148x128 .f32) (b : Fin 3) (s : Fin 1536) (a : Fin 148) (p : Fin 128) :
    B1 Z (ix4 b s a p) = st 1 (zf Z b s a) p.val := by
  pointwise [B1, E1, O1, W1]
  have hp := p.isLt
  split <;> rename_i h
  · have hc : p.val / 1 % 2 = 0 := by omega
    refine Eq.trans ?_ (st_lo (h := 1) (v := zf Z b s a) (p := p.val) (q := p.val + 1) hc rfl).symm
    exact congrArg₂ (fun u v : EReal => u + v) (zf_eq Z b s a _ _ (by dsimp only; omega)) (zf_eq Z b s a _ _ (by dsimp only; omega))
  · have hc : p.val / 1 % 2 ≠ 0 := by omega
    have hq : p.val - 1 + 1 = p.val := by omega
    refine Eq.trans ?_ (st_hi (h := 1) (v := zf Z b s a) (p := p.val) (q := p.val - 1) hc hq).symm
    exact congrArg₂ (fun u v : EReal => u - v) (zf_eq Z b s a _ _ (by dsimp only; omega)) (zf_eq Z b s a _ _ (by dsimp only; omega))

/-- The array split into pairs of runs of 2. -/
def W2 (Z : FVec Ideal S3x1536x148x128 .f32) : FVec Ideal S3x1536x148x32x2x2 .f32 := shapeCast _ Z shapeCasts_S3x1536x148x128_S3x1536x148x32x2x2

/-- The first run of each pair. -/
def E2 (Z : FVec Ideal S3x1536x148x128 .f32) : FVec Ideal S3x1536x148x32x2 .f32 :=
  shapeCast _ (extractStridedSlice S3x1536x148x32x1x2 ![0, 0, 0, 0, 0, 0] (W2 Z) slices_S3x1536x148x32x2x2_S3x1536x148x32x1x2_0_0_0_0_0_0) shapeCasts_S3x1536x148x32x1x2_S3x1536x148x32x2

/-- The second run of each pair. -/
def O2 (Z : FVec Ideal S3x1536x148x128 .f32) : FVec Ideal S3x1536x148x32x2 .f32 :=
  shapeCast _ (extractStridedSlice S3x1536x148x32x1x2 ![0, 0, 0, 0, 1, 0] (W2 Z) slices_S3x1536x148x32x2x2_S3x1536x148x32x1x2_0_0_0_0_1_0) shapeCasts_S3x1536x148x32x1x2_S3x1536x148x32x2

/-- One butterfly: sums and differences of the pairs' runs. -/
def B2 (Z : FVec Ideal S3x1536x148x128 .f32) : FVec Ideal S3x1536x148x128 .f32 :=
  shapeCast _ (concatenate S3x1536x148x32x2x2 4 [⟨S3x1536x148x32x1x2, (broadcastInDim S3x1536x148x32x1x2 ![0, 1, 2, 3, 5] bcast_S3x1536x148x32x2_S3x1536x148x32x1x2_0_1_2_3_5 (addf (E2 Z) (O2 Z)))⟩, ⟨S3x1536x148x32x1x2, (broadcastInDim S3x1536x148x32x1x2 ![0, 1, 2, 3, 5] bcast_S3x1536x148x32x2_S3x1536x148x32x1x2_0_1_2_3_5 (subf (E2 Z) (O2 Z)))⟩] concatenates_S3x1536x148x32x1x2_S3x1536x148x32x1x2_S3x1536x148x32x2x2_d4) shapeCasts_S3x1536x148x32x2x2_S3x1536x148x128

theorem B2_at (Z : FVec Ideal S3x1536x148x128 .f32) (b : Fin 3) (s : Fin 1536) (a : Fin 148) (p : Fin 128) :
    B2 Z (ix4 b s a p) = st 2 (zf Z b s a) p.val := by
  pointwise [B2, E2, O2, W2]
  have hp := p.isLt
  split <;> rename_i h
  · have hc : p.val / 2 % 2 = 0 := by omega
    refine Eq.trans ?_ (st_lo (h := 2) (v := zf Z b s a) (p := p.val) (q := p.val + 2) hc rfl).symm
    exact congrArg₂ (fun u v : EReal => u + v) (zf_eq Z b s a _ _ (by dsimp only; omega)) (zf_eq Z b s a _ _ (by dsimp only; omega))
  · have hc : p.val / 2 % 2 ≠ 0 := by omega
    have hq : p.val - 2 + 2 = p.val := by omega
    refine Eq.trans ?_ (st_hi (h := 2) (v := zf Z b s a) (p := p.val) (q := p.val - 2) hc hq).symm
    exact congrArg₂ (fun u v : EReal => u - v) (zf_eq Z b s a _ _ (by dsimp only; omega)) (zf_eq Z b s a _ _ (by dsimp only; omega))

/-- The array split into pairs of runs of 4. -/
def W4 (Z : FVec Ideal S3x1536x148x128 .f32) : FVec Ideal S3x1536x148x16x2x4 .f32 := shapeCast _ Z shapeCasts_S3x1536x148x128_S3x1536x148x16x2x4

/-- The first run of each pair. -/
def E4 (Z : FVec Ideal S3x1536x148x128 .f32) : FVec Ideal S3x1536x148x16x4 .f32 :=
  shapeCast _ (extractStridedSlice S3x1536x148x16x1x4 ![0, 0, 0, 0, 0, 0] (W4 Z) slices_S3x1536x148x16x2x4_S3x1536x148x16x1x4_0_0_0_0_0_0) shapeCasts_S3x1536x148x16x1x4_S3x1536x148x16x4

/-- The second run of each pair. -/
def O4 (Z : FVec Ideal S3x1536x148x128 .f32) : FVec Ideal S3x1536x148x16x4 .f32 :=
  shapeCast _ (extractStridedSlice S3x1536x148x16x1x4 ![0, 0, 0, 0, 1, 0] (W4 Z) slices_S3x1536x148x16x2x4_S3x1536x148x16x1x4_0_0_0_0_1_0) shapeCasts_S3x1536x148x16x1x4_S3x1536x148x16x4

/-- One butterfly: sums and differences of the pairs' runs. -/
def B4 (Z : FVec Ideal S3x1536x148x128 .f32) : FVec Ideal S3x1536x148x128 .f32 :=
  shapeCast _ (concatenate S3x1536x148x16x2x4 4 [⟨S3x1536x148x16x1x4, (broadcastInDim S3x1536x148x16x1x4 ![0, 1, 2, 3, 5] bcast_S3x1536x148x16x4_S3x1536x148x16x1x4_0_1_2_3_5 (addf (E4 Z) (O4 Z)))⟩, ⟨S3x1536x148x16x1x4, (broadcastInDim S3x1536x148x16x1x4 ![0, 1, 2, 3, 5] bcast_S3x1536x148x16x4_S3x1536x148x16x1x4_0_1_2_3_5 (subf (E4 Z) (O4 Z)))⟩] concatenates_S3x1536x148x16x1x4_S3x1536x148x16x1x4_S3x1536x148x16x2x4_d4) shapeCasts_S3x1536x148x16x2x4_S3x1536x148x128

theorem B4_at (Z : FVec Ideal S3x1536x148x128 .f32) (b : Fin 3) (s : Fin 1536) (a : Fin 148) (p : Fin 128) :
    B4 Z (ix4 b s a p) = st 4 (zf Z b s a) p.val := by
  pointwise [B4, E4, O4, W4]
  have hp := p.isLt
  split <;> rename_i h
  · have hc : p.val / 4 % 2 = 0 := by omega
    refine Eq.trans ?_ (st_lo (h := 4) (v := zf Z b s a) (p := p.val) (q := p.val + 4) hc rfl).symm
    exact congrArg₂ (fun u v : EReal => u + v) (zf_eq Z b s a _ _ (by dsimp only; omega)) (zf_eq Z b s a _ _ (by dsimp only; omega))
  · have hc : p.val / 4 % 2 ≠ 0 := by omega
    have hq : p.val - 4 + 4 = p.val := by omega
    refine Eq.trans ?_ (st_hi (h := 4) (v := zf Z b s a) (p := p.val) (q := p.val - 4) hc hq).symm
    exact congrArg₂ (fun u v : EReal => u - v) (zf_eq Z b s a _ _ (by dsimp only; omega)) (zf_eq Z b s a _ _ (by dsimp only; omega))

/-- The array split into pairs of runs of 8. -/
def W8 (Z : FVec Ideal S3x1536x148x128 .f32) : FVec Ideal S3x1536x148x8x2x8 .f32 := shapeCast _ Z shapeCasts_S3x1536x148x128_S3x1536x148x8x2x8

/-- The first run of each pair. -/
def E8 (Z : FVec Ideal S3x1536x148x128 .f32) : FVec Ideal S3x1536x148x8x8 .f32 :=
  shapeCast _ (extractStridedSlice S3x1536x148x8x1x8 ![0, 0, 0, 0, 0, 0] (W8 Z) slices_S3x1536x148x8x2x8_S3x1536x148x8x1x8_0_0_0_0_0_0) shapeCasts_S3x1536x148x8x1x8_S3x1536x148x8x8

/-- The second run of each pair. -/
def O8 (Z : FVec Ideal S3x1536x148x128 .f32) : FVec Ideal S3x1536x148x8x8 .f32 :=
  shapeCast _ (extractStridedSlice S3x1536x148x8x1x8 ![0, 0, 0, 0, 1, 0] (W8 Z) slices_S3x1536x148x8x2x8_S3x1536x148x8x1x8_0_0_0_0_1_0) shapeCasts_S3x1536x148x8x1x8_S3x1536x148x8x8

/-- One butterfly: sums and differences of the pairs' runs. -/
def B8 (Z : FVec Ideal S3x1536x148x128 .f32) : FVec Ideal S3x1536x148x128 .f32 :=
  shapeCast _ (concatenate S3x1536x148x8x2x8 4 [⟨S3x1536x148x8x1x8, (broadcastInDim S3x1536x148x8x1x8 ![0, 1, 2, 3, 5] bcast_S3x1536x148x8x8_S3x1536x148x8x1x8_0_1_2_3_5 (addf (E8 Z) (O8 Z)))⟩, ⟨S3x1536x148x8x1x8, (broadcastInDim S3x1536x148x8x1x8 ![0, 1, 2, 3, 5] bcast_S3x1536x148x8x8_S3x1536x148x8x1x8_0_1_2_3_5 (subf (E8 Z) (O8 Z)))⟩] concatenates_S3x1536x148x8x1x8_S3x1536x148x8x1x8_S3x1536x148x8x2x8_d4) shapeCasts_S3x1536x148x8x2x8_S3x1536x148x128

theorem B8_at (Z : FVec Ideal S3x1536x148x128 .f32) (b : Fin 3) (s : Fin 1536) (a : Fin 148) (p : Fin 128) :
    B8 Z (ix4 b s a p) = st 8 (zf Z b s a) p.val := by
  pointwise [B8, E8, O8, W8]
  have hp := p.isLt
  split <;> rename_i h
  · have hc : p.val / 8 % 2 = 0 := by omega
    refine Eq.trans ?_ (st_lo (h := 8) (v := zf Z b s a) (p := p.val) (q := p.val + 8) hc rfl).symm
    exact congrArg₂ (fun u v : EReal => u + v) (zf_eq Z b s a _ _ (by dsimp only; omega)) (zf_eq Z b s a _ _ (by dsimp only; omega))
  · have hc : p.val / 8 % 2 ≠ 0 := by omega
    have hq : p.val - 8 + 8 = p.val := by omega
    refine Eq.trans ?_ (st_hi (h := 8) (v := zf Z b s a) (p := p.val) (q := p.val - 8) hc hq).symm
    exact congrArg₂ (fun u v : EReal => u - v) (zf_eq Z b s a _ _ (by dsimp only; omega)) (zf_eq Z b s a _ _ (by dsimp only; omega))

/-- The array split into pairs of runs of 16. -/
def W16 (Z : FVec Ideal S3x1536x148x128 .f32) : FVec Ideal S3x1536x148x4x2x16 .f32 := shapeCast _ Z shapeCasts_S3x1536x148x128_S3x1536x148x4x2x16

/-- The first run of each pair. -/
def E16 (Z : FVec Ideal S3x1536x148x128 .f32) : FVec Ideal S3x1536x148x4x16 .f32 :=
  shapeCast _ (extractStridedSlice S3x1536x148x4x1x16 ![0, 0, 0, 0, 0, 0] (W16 Z) slices_S3x1536x148x4x2x16_S3x1536x148x4x1x16_0_0_0_0_0_0) shapeCasts_S3x1536x148x4x1x16_S3x1536x148x4x16

/-- The second run of each pair. -/
def O16 (Z : FVec Ideal S3x1536x148x128 .f32) : FVec Ideal S3x1536x148x4x16 .f32 :=
  shapeCast _ (extractStridedSlice S3x1536x148x4x1x16 ![0, 0, 0, 0, 1, 0] (W16 Z) slices_S3x1536x148x4x2x16_S3x1536x148x4x1x16_0_0_0_0_1_0) shapeCasts_S3x1536x148x4x1x16_S3x1536x148x4x16

/-- One butterfly: sums and differences of the pairs' runs. -/
def B16 (Z : FVec Ideal S3x1536x148x128 .f32) : FVec Ideal S3x1536x148x128 .f32 :=
  shapeCast _ (concatenate S3x1536x148x4x2x16 4 [⟨S3x1536x148x4x1x16, (broadcastInDim S3x1536x148x4x1x16 ![0, 1, 2, 3, 5] bcast_S3x1536x148x4x16_S3x1536x148x4x1x16_0_1_2_3_5 (addf (E16 Z) (O16 Z)))⟩, ⟨S3x1536x148x4x1x16, (broadcastInDim S3x1536x148x4x1x16 ![0, 1, 2, 3, 5] bcast_S3x1536x148x4x16_S3x1536x148x4x1x16_0_1_2_3_5 (subf (E16 Z) (O16 Z)))⟩] concatenates_S3x1536x148x4x1x16_S3x1536x148x4x1x16_S3x1536x148x4x2x16_d4) shapeCasts_S3x1536x148x4x2x16_S3x1536x148x128

theorem B16_at (Z : FVec Ideal S3x1536x148x128 .f32) (b : Fin 3) (s : Fin 1536) (a : Fin 148) (p : Fin 128) :
    B16 Z (ix4 b s a p) = st 16 (zf Z b s a) p.val := by
  pointwise [B16, E16, O16, W16]
  have hp := p.isLt
  split <;> rename_i h
  · have hc : p.val / 16 % 2 = 0 := by omega
    refine Eq.trans ?_ (st_lo (h := 16) (v := zf Z b s a) (p := p.val) (q := p.val + 16) hc rfl).symm
    exact congrArg₂ (fun u v : EReal => u + v) (zf_eq Z b s a _ _ (by dsimp only; omega)) (zf_eq Z b s a _ _ (by dsimp only; omega))
  · have hc : p.val / 16 % 2 ≠ 0 := by omega
    have hq : p.val - 16 + 16 = p.val := by omega
    refine Eq.trans ?_ (st_hi (h := 16) (v := zf Z b s a) (p := p.val) (q := p.val - 16) hc hq).symm
    exact congrArg₂ (fun u v : EReal => u - v) (zf_eq Z b s a _ _ (by dsimp only; omega)) (zf_eq Z b s a _ _ (by dsimp only; omega))

/-- The array split into pairs of runs of 32. -/
def W32 (Z : FVec Ideal S3x1536x148x128 .f32) : FVec Ideal S3x1536x148x2x2x32 .f32 := shapeCast _ Z shapeCasts_S3x1536x148x128_S3x1536x148x2x2x32

/-- The first run of each pair. -/
def E32 (Z : FVec Ideal S3x1536x148x128 .f32) : FVec Ideal S3x1536x148x2x32 .f32 :=
  shapeCast _ (extractStridedSlice S3x1536x148x2x1x32 ![0, 0, 0, 0, 0, 0] (W32 Z) slices_S3x1536x148x2x2x32_S3x1536x148x2x1x32_0_0_0_0_0_0) shapeCasts_S3x1536x148x2x1x32_S3x1536x148x2x32

/-- The second run of each pair. -/
def O32 (Z : FVec Ideal S3x1536x148x128 .f32) : FVec Ideal S3x1536x148x2x32 .f32 :=
  shapeCast _ (extractStridedSlice S3x1536x148x2x1x32 ![0, 0, 0, 0, 1, 0] (W32 Z) slices_S3x1536x148x2x2x32_S3x1536x148x2x1x32_0_0_0_0_1_0) shapeCasts_S3x1536x148x2x1x32_S3x1536x148x2x32

/-- One butterfly: sums and differences of the pairs' runs. -/
def B32 (Z : FVec Ideal S3x1536x148x128 .f32) : FVec Ideal S3x1536x148x128 .f32 :=
  shapeCast _ (concatenate S3x1536x148x2x2x32 4 [⟨S3x1536x148x2x1x32, (broadcastInDim S3x1536x148x2x1x32 ![0, 1, 2, 3, 5] bcast_S3x1536x148x2x32_S3x1536x148x2x1x32_0_1_2_3_5 (addf (E32 Z) (O32 Z)))⟩, ⟨S3x1536x148x2x1x32, (broadcastInDim S3x1536x148x2x1x32 ![0, 1, 2, 3, 5] bcast_S3x1536x148x2x32_S3x1536x148x2x1x32_0_1_2_3_5 (subf (E32 Z) (O32 Z)))⟩] concatenates_S3x1536x148x2x1x32_S3x1536x148x2x1x32_S3x1536x148x2x2x32_d4) shapeCasts_S3x1536x148x2x2x32_S3x1536x148x128

theorem B32_at (Z : FVec Ideal S3x1536x148x128 .f32) (b : Fin 3) (s : Fin 1536) (a : Fin 148) (p : Fin 128) :
    B32 Z (ix4 b s a p) = st 32 (zf Z b s a) p.val := by
  pointwise [B32, E32, O32, W32]
  have hp := p.isLt
  split <;> rename_i h
  · have hc : p.val / 32 % 2 = 0 := by omega
    refine Eq.trans ?_ (st_lo (h := 32) (v := zf Z b s a) (p := p.val) (q := p.val + 32) hc rfl).symm
    exact congrArg₂ (fun u v : EReal => u + v) (zf_eq Z b s a _ _ (by dsimp only; omega)) (zf_eq Z b s a _ _ (by dsimp only; omega))
  · have hc : p.val / 32 % 2 ≠ 0 := by omega
    have hq : p.val - 32 + 32 = p.val := by omega
    refine Eq.trans ?_ (st_hi (h := 32) (v := zf Z b s a) (p := p.val) (q := p.val - 32) hc hq).symm
    exact congrArg₂ (fun u v : EReal => u - v) (zf_eq Z b s a _ _ (by dsimp only; omega)) (zf_eq Z b s a _ _ (by dsimp only; omega))

/-- The array split into pairs of runs of 64. -/
def W64 (Z : FVec Ideal S3x1536x148x128 .f32) : FVec Ideal S3x1536x148x1x2x64 .f32 := shapeCast _ Z shapeCasts_S3x1536x148x128_S3x1536x148x1x2x64

/-- The first run of each pair. -/
def E64 (Z : FVec Ideal S3x1536x148x128 .f32) : FVec Ideal S3x1536x148x1x64 .f32 :=
  shapeCast _ (extractStridedSlice S3x1536x148x1x1x64 ![0, 0, 0, 0, 0, 0] (W64 Z) slices_S3x1536x148x1x2x64_S3x1536x148x1x1x64_0_0_0_0_0_0) shapeCasts_S3x1536x148x1x1x64_S3x1536x148x1x64

/-- The second run of each pair. -/
def O64 (Z : FVec Ideal S3x1536x148x128 .f32) : FVec Ideal S3x1536x148x1x64 .f32 :=
  shapeCast _ (extractStridedSlice S3x1536x148x1x1x64 ![0, 0, 0, 0, 1, 0] (W64 Z) slices_S3x1536x148x1x2x64_S3x1536x148x1x1x64_0_0_0_0_1_0) shapeCasts_S3x1536x148x1x1x64_S3x1536x148x1x64

/-- One butterfly: sums and differences of the pairs' runs. -/
def B64 (Z : FVec Ideal S3x1536x148x128 .f32) : FVec Ideal S3x1536x148x128 .f32 :=
  shapeCast _ (concatenate S3x1536x148x1x2x64 4 [⟨S3x1536x148x1x1x64, (broadcastInDim S3x1536x148x1x1x64 ![0, 1, 2, 3, 5] bcast_S3x1536x148x1x64_S3x1536x148x1x1x64_0_1_2_3_5 (addf (E64 Z) (O64 Z)))⟩, ⟨S3x1536x148x1x1x64, (broadcastInDim S3x1536x148x1x1x64 ![0, 1, 2, 3, 5] bcast_S3x1536x148x1x64_S3x1536x148x1x1x64_0_1_2_3_5 (subf (E64 Z) (O64 Z)))⟩] concatenates_S3x1536x148x1x1x64_S3x1536x148x1x1x64_S3x1536x148x1x2x64_d4) shapeCasts_S3x1536x148x1x2x64_S3x1536x148x128

theorem B64_at (Z : FVec Ideal S3x1536x148x128 .f32) (b : Fin 3) (s : Fin 1536) (a : Fin 148) (p : Fin 128) :
    B64 Z (ix4 b s a p) = st 64 (zf Z b s a) p.val := by
  pointwise [B64, E64, O64, W64]
  have hp := p.isLt
  split <;> rename_i h
  · have hc : p.val / 64 % 2 = 0 := by omega
    refine Eq.trans ?_ (st_lo (h := 64) (v := zf Z b s a) (p := p.val) (q := p.val + 64) hc rfl).symm
    exact congrArg₂ (fun u v : EReal => u + v) (zf_eq Z b s a _ _ (by dsimp only; omega)) (zf_eq Z b s a _ _ (by dsimp only; omega))
  · have hc : p.val / 64 % 2 ≠ 0 := by omega
    have hq : p.val - 64 + 64 = p.val := by omega
    refine Eq.trans ?_ (st_hi (h := 64) (v := zf Z b s a) (p := p.val) (q := p.val - 64) hc hq).symm
    exact congrArg₂ (fun u v : EReal => u - v) (zf_eq Z b s a _ _ (by dsimp only; omega)) (zf_eq Z b s a _ _ (by dsimp only; omega))

/-- The dense factor, before the butterflies. -/
def Z0 (x : FVec Ideal S3x1536x18944 .bf16) (hd : FVec Ideal S148x148 .f32) : FVec Ideal S3x1536x148x128 .f32 :=
  transpose S3x1536x148x128 [1, 2, 0, 3] (Host.dotGeneral dot_S148x148_S3x1536x148x128_S148x3x1536x128_1_2_0_013_n_n (some .fp32) hd
    (shapeCast S3x1536x148x128 (extf .f32 x bitsLt_bf16_f32) shapeCasts_S3x1536x18944_S3x1536x148x128)) transposes_S148x3x1536x128_S3x1536x148x128_1_2_0_3

theorem Z0_at (x : FVec Ideal S3x1536x18944 .bf16) (hd : FVec Ideal S148x148 .f32) (b : Fin 3) (s : Fin 1536) (a : Fin 148) (p : Fin 128) :
    Z0 x hd (ix4 b s a p) = ∑ k : Fin 148, (hd (ix2 a k) : EReal) * x (ix3 b s ⟨k.val * 128 + p.val, by omega⟩) := by
  pointwise [Z0]

/-- All seven butterflies, smallest first. -/
def ZZ (x : FVec Ideal S3x1536x18944 .bf16) (hd : FVec Ideal S148x148 .f32) : FVec Ideal S3x1536x148x128 .f32 :=
  B64 (B32 (B16 (B8 (B4 (B2 (B1 (Z0 x hd)))))))

/-- The rotated array, scaled. -/
theorem res83_eq (V0 : Valuation τ sig (Elt Ideal)) : res_main_v83 V0
    = shapeCast _ (mulf (ZZ (V0 (Proc.devRef .tc main_arg0)) (V0 (Proc.devRef .tc main_arg1))) (broadcastInDim S3x1536x148x128 ![] bcast_S_S3x1536x148x128 (constant S_ .f32 0x3BEE133E#32))) shapeCasts_S3x1536x148x128_S3x1536x18944 := by
  rfl

end Cert.RotateRefIdeal.Ref
end
-- ==== Proof.RotateT.RefValue.lean ====
/-
  What the reference of the rotation and quantisation leaves in its two results, at the ideal instance.
-/
module

public import proofs.«01_k».proof.Proof.RotateT.RefStage
public import proofs.«01_k».proof.Proof.RotateT.RotCommon
public import Idealize.ShloMosaic.Lib.Pipeline.ValueKit
public import Idealize.ShloMosaic.Lib.Pointwise

@[expose] public section
set_option maxRecDepth 16384
noncomputable section
namespace Cert.RotateRefIdeal.Ref
open Cert.RotateRefIdeal Cert.RotateRefIdeal.Gen Cert.RotateRefIdeal.Value
open Idealize.ShloMosaic Idealize.ShloMosaic.StableHlo Idealize.SL Idealize.SL.Sem
open Cert.RotateIdeal.Trip (st st_lo st_hi mag invC loC hiC)
open Cert.RotateValue

theorem zf_of {Z : FVec Ideal S3x1536x148x128 .f32} {b : Fin 3} {s : Fin 1536} {a : Fin 148} {v : ℕ → EReal}
    (h : ∀ p : Fin 128, Z (ix4 b s a p) = v p.val) : ∀ p, p < 128 → zf Z b s a p = v p := fun p hp => by
  unfold zf; rw [dif_pos hp]; exact h ⟨p, hp⟩

theorem dn_eq (x : FVec Ideal S3x1536x18944 .bf16) (hd : FVec Ideal S148x148 .f32) (b : Fin 3) (s : Fin 1536) (a : Fin 148) (p : Fin 128) :
    Z0 x hd (ix4 b s a p) = dn x hd b s a p.val := by
  rw [Z0_at]
  unfold dn
  refine Finset.sum_congr rfl fun k _ => ?_
  unfold xr
  rw [dif_pos (by omega)]

/-- The butterflies of the dense factor are the rotated token. -/
theorem ZZ_at (x : FVec Ideal S3x1536x18944 .bf16) (hd : FVec Ideal S148x148 .f32) (b : Fin 3) (s : Fin 1536) (a : Fin 148) (p : Fin 128) :
    ZZ x hd (ix4 b s a p) = Y x hd b s a p.val := by
  unfold ZZ
  rw [B64_at]
  have h0 := zf_of (dn_eq x hd b s a)
  have step : ∀ {h : ℕ} (hh : h = 1 ∨ h = 2 ∨ h = 4 ∨ h = 8 ∨ h = 16 ∨ h = 32 ∨ h = 64) {B Z : FVec Ideal S3x1536x148x128 .f32} {v : ℕ → EReal}
      (hB : ∀ p : Fin 128, B (ix4 b s a p) = st h (zf Z b s a) p.val) (hz : ∀ p, p < 128 → zf Z b s a p = v p),
      ∀ p, p < 128 → zf B b s a p = st h v p := fun hh B Z v hB hz p hp => (zf_of hB p hp).trans (st_congr hh hz p hp)
  have h1 := step (by omega) (B1_at (Z0 x hd) b s a) h0
  have h2 := step (by omega) (B2_at _ b s a) h1
  have h4 := step (by omega) (B4_at _ b s a) h2
  have h8 := step (by omega) (B8_at _ b s a) h4
  have h16 := step (by omega) (B16_at _ b s a) h8
  have h32 := step (by omega) (B32_at _ b s a) h16
  exact st_congr (by omega) h32 p.val p.isLt

/-- The rotated array, scaled. -/
def R (x : FVec Ideal S3x1536x18944 .bf16) (hd : FVec Ideal S148x148 .f32) : FVec Ideal S3x1536x18944 .f32 :=
  shapeCast _ (mulf (ZZ x hd) (broadcastInDim S3x1536x148x128 ![] bcast_S_S3x1536x148x128 (constant S_ .f32 0x3BEE133E#32))) shapeCasts_S3x1536x148x128_S3x1536x18944

/-- Scaling by a constant and the reshape, at an index. -/
theorem scaled_at (Z : FVec Ideal S3x1536x148x128 .f32) (K : FVec Ideal S_ .f32) (b : Fin 3) (s : Fin 1536) (j : Fin 18944) :
    shapeCast S3x1536x18944 (mulf Z (broadcastInDim S3x1536x148x128 ![] bcast_S_S3x1536x148x128 K)) shapeCasts_S3x1536x148x128_S3x1536x18944 (ix3 b s j)
      = (Z (ix4 b s ⟨j.val / 128, by omega⟩ ⟨j.val % 128, by omega⟩) : EReal) * (K ix0 : EReal) := by
  pointwise

theorem R_at (x : FVec Ideal S3x1536x18944 .bf16) (hd : FVec Ideal S148x148 .f32) (b : Fin 3) (s : Fin 1536) (j : Fin 18944) :
    R x hd (ix3 b s j) = (Y x hd b s ⟨j.val / 128, by omega⟩ (j.val % 128) * invC : EReal) :=
  (scaled_at (ZZ x hd) (constant S_ .f32 0x3BEE133E#32) b s j).trans
    (congrArg (fun u : EReal => u * invC) (ZZ_at x hd b s ⟨j.val / 128, by omega⟩ ⟨j.val % 128, by omega⟩))

/-- Clipping and the reshape, at an index. -/
theorem clipped_at (Z : FVec Ideal S3x1536x18944 .f32) (L H inv : FVec Ideal S_ .f32) (T : Fin 4608) (j : Fin 18944) :
    shapeCast S4608x18944 (Host.convertf .fp8e4m3 (minimumf (broadcastInDim S3x1536x18944 ![] bcast_S_S3x1536x18944 H) (maximumf (broadcastInDim S3x1536x18944 ![] bcast_S_S3x1536x18944 L) (mulf Z (broadcastInDim S3x1536x18944 ![] bcast_S_S3x1536x18944 inv))))) shapeCasts_S3x1536x18944_S4608x18944 (ix2 T j)
      = (min (H ix0 : EReal) (max (L ix0 : EReal) ((Z (ix3 ⟨T.val / 1536, by omega⟩ ⟨T.val % 1536, by omega⟩ j) : EReal) * (inv ix0 : EReal))) : EReal) := by
  pointwise

/-- The codes. -/
theorem codes_eq (x : FVec Ideal S3x1536x18944 .bf16) (hd : FVec Ideal S148x148 .f32) (inv : FVec Ideal S_ .f32) :
    shapeCast S4608x18944 (Host.convertf .fp8e4m3 (minimumf (broadcastInDim S3x1536x18944 ![] bcast_S_S3x1536x18944 (id (constant S_ .f32 0x43E00000#32))) (maximumf (broadcastInDim S3x1536x18944 ![] bcast_S_S3x1536x18944 (id (constant S_ .f32 0xC3E00000#32))) (mulf (R x hd) (broadcastInDim S3x1536x18944 ![] bcast_S_S3x1536x18944 inv))))) shapeCasts_S3x1536x18944_S4608x18944
      = C x hd inv := by
  funext j
  idx_vars j
  refine (clipped_at (R x hd) _ _ inv j0 j1).trans ?_
  rw [R_at]
  rfl

/-- A reduction over all axes from the least element is the supremum. -/
theorem reduce_sup (Q : FVec Ideal S3x1536x18944 .f32) (K : FVec Ideal S_ .f32) (hK : ∀ i, (K i : EReal) = ⊥) (j : S_.Idx) :
    (Host.reduce (FloatOps.maximumf (F := Ideal) (φ := .f32)) Q K reducesTo_S3x1536x18944_S_d0_1_2 h_S_ j : EReal) = Finset.univ.sup fun i => (Q i : EReal) := by
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  rw [Host.reduce_eq_fold]
  refine (fold_sup _ _ _ (hK _)).trans (congrArg (fun S => Finset.sup S fun i => (Q i : EReal)) ?_)
  exact Finset.ext fun i => ⟨fun _ => Finset.mem_univ _, fun _ => Finset.mem_filter.mpr ⟨Finset.mem_univ _, funext fun a => a.elim0⟩⟩

/-- The suprema over the array's indices and over blocks and positions agree. -/
theorem sup_split (Q : FVec Ideal S3x1536x18944 .f32) (f : Fin 3 × Fin 1536 × Fin 148 × Fin 128 → EReal)
    (h : ∀ b s (j : Fin 18944), (Q (ix3 b s j) : EReal) = f (b, s, ⟨j.val / 128, by omega⟩, ⟨j.val % 128, by omega⟩)) :
    (Finset.univ.sup fun i => (Q i : EReal)) = Finset.univ.sup f := by
  refine le_antisymm (Finset.sup_le fun i _ => ?_) (Finset.sup_le fun i _ => ?_)
  · idx_vars i
    rw [h]
    exact Finset.le_sup (f := f) (Finset.mem_univ _)
  · obtain ⟨b, s, a, p⟩ := i
    have e := h b s ⟨a.val * 128 + p.val, by omega⟩
    have e1 : (⟨(a.val * 128 + p.val) / 128, by omega⟩ : Fin 148) = a := Fin.ext (by show (a.val * 128 + p.val) / 128 = a.val; omega)
    have e2 : (⟨(a.val * 128 + p.val) % 128, by omega⟩ : Fin 128) = p := Fin.ext (by show (a.val * 128 + p.val) % 128 = p.val; omega)
    dsimp only at e
    rw [e1, e2] at e
    rw [← e]
    exact Finset.le_sup (f := fun i => (Q i : EReal)) (Finset.mem_univ _)

theorem absf_at (Q : FVec Ideal S3x1536x18944 .f32) (i : S3x1536x18944.Idx) : (Host.absf Q i : EReal) = mag (Q i) := rfl

/-- A scalar reshaped to one element. -/
theorem one_at (Q : FVec Ideal S_ .f32) (j : S1.Idx) : shapeCast S1 Q shapeCasts_S_S1 j = Q ix0 :=
  congrArg Q (funext fun a => a.elim0)

theorem YI_at (x : FVec Ideal S3x1536x18944 .bf16) (hd : FVec Ideal S148x148 .f32) (b : Fin 3) (s : Fin 1536) (j : Fin 18944) :
    mag (R x hd (ix3 b s j)) = mag (YI x hd (b, s, ⟨j.val / 128, by omega⟩, ⟨j.val % 128, by omega⟩) * invC) := by
  rw [R_at]
  rfl

/-- The supremum of the scaled array's moduli. -/
theorem supR (x : FVec Ideal S3x1536x18944 .bf16) (hd : FVec Ideal S148x148 .f32) :
    (Finset.univ.sup fun i => (Host.absf (R x hd) i : EReal)) = AM x hd := by
  unfold AM
  rw [← sup_mag_mul]
  exact sup_split (Host.absf (R x hd)) (fun i => mag (YI x hd i * invC)) fun b s j => (absf_at (R x hd) (ix3 b s j)).trans (YI_at x hd b s j)

/-- The largest modulus. -/
theorem amax_eq (x : FVec Ideal S3x1536x18944 .bf16) (hd : FVec Ideal S148x148 .f32) :
    shapeCast S1 (Host.reduce (FloatOps.maximumf (F := Ideal) (φ := .f32)) (Host.absf (R x hd)) (constant (F := Ideal) S_ .f32 0xFF800000#32) reducesTo_S3x1536x18944_S_d0_1_2 h_S_) shapeCasts_S_S1
      = fun _ => AM x hd := by
  have hr := fun Q : FVec Ideal S3x1536x18944 .f32 => reduce_sup Q (constant (F := Ideal) S_ .f32 0xFF800000#32) (fun _ => bot_eq) ix0
  have hs := supR x hd
  revert hs
  generalize R x hd = Z
  intro hs
  funext j
  rw [one_at, hr, hs]

end Cert.RotateRefIdeal.Ref
end
-- ==== Proof.RotateT.RotClaims.lean ====
/-
  The rotation's claims: its runs with their results named, and the equality of the kernel's with the reference's.
-/
module

public import proofs.«01_k».proof.Defs
public import proofs.«01_k».proof.Proof.RotateT.RotateFrame
public import proofs.«01_k».proof.Proof.RotateT.RotValue
public import proofs.«01_k».proof.Proof.RotateT.RefValue
public import Idealize.ShloMosaic.Lib.Claim
public import Idealize.ShloMosaic.Lib.Quiescent

@[expose] public section
set_option maxRecDepth 16384
noncomputable section

open Idealize.ShloMosaic Idealize.ShloMosaic.TcCoe Idealize.SL.Sem

namespace Cert.RotateIdeal.Trip
open Cert.RotateIdeal Cert.RotateIdeal.Gen

variable (m : (ℓ : Loc nD τ sig) → Buf (Elt Ideal) ℓ) (ρ : Dev nD → PrngReg)

/-- The kernel's run: its codes and its largest modulus, the arguments unchanged. -/
theorem run_values : θ_run defs (onTc (τ := τ) (main (F := Ideal))) ⟨m, fun _ => 0, ρ⟩ fun r => ∀ c : Dev nD,
      r.2.mem ((c.tc : Thread nD τ).loc main_v8_0) = Cert.RotateValue.C (m (c.tc.loc main_arg0)) (m (c.tc.loc main_arg1)) (m (c.tc.loc main_arg2))
      ∧ r.2.mem ((c.tc : Thread nD τ).loc main_v8_1) = (fun _ => Cert.RotateValue.AM (m (c.tc.loc main_arg0)) (m (c.tc.loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.RotateIdeal.Trip

namespace Cert.RotateRefIdeal.Ref
open Cert.RotateRefIdeal Cert.RotateRefIdeal.Gen Cert.RotateRefIdeal.Value

variable (m : (ℓ : Loc nD τ sig) → Buf (Elt Ideal) ℓ) (ρ : Dev nD → PrngReg)

theorem res83_R (V0 : Idealize.ShloMosaic.Valuation τ sig (Elt Ideal)) : res_main_v83 V0 = R (V0 (Proc.devRef .tc main_arg0)) (V0 (Proc.devRef .tc main_arg1)) :=
  res83_eq V0

/-- The reference's run: the same. -/
theorem run_values : θ_run defs (onTc (τ := τ) (main (F := Ideal))) ⟨m, fun _ => 0, ρ⟩ fun r => ∀ c : Dev nD,
      r.2.mem ((c.tc : Thread nD τ).loc main_v90) = Cert.RotateValue.C (m (c.tc.loc main_arg0)) (m (c.tc.loc main_arg1)) (m (c.tc.loc main_arg2))
      ∧ r.2.mem ((c.tc : Thread nD τ).loc main_v91) = (fun _ => Cert.RotateValue.AM (m (c.tc.loc main_arg0)) (m (c.tc.loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2⟩ := h c
    rw [res83_R] at h0 h1
    exact ⟨h0.trans (codes_eq _ _ _), h1.trans (amax_eq _ _), h2⟩) (run (F := Ideal) m ρ)

end Cert.RotateRefIdeal.Ref

namespace Cert.Proof

theorem quiescentRotateRef : Cert.quiescent_RotateRefIdeal := fun m ρ _ =>
  (θ_run Cert.RotateRefIdeal.defs _ _).mono (fun r h => ⟨fun c => (h c).2.2, Idealize.ShloMosaic.sem_eq_zero_of_no_sems (by decide) r.2⟩)
    (Cert.RotateRefIdeal.Value.run (F := Ideal) m ρ)

/-- At the ideal instance the rotation kernel and its reference leave the same codes and the same largest modulus. -/
theorem algebraicRotate : Cert.algebraic_RotateIdeal_RotateRefIdeal := by
  intro m g m' g' _ hagree
  refine ⟨_, _, Cert.RotateIdeal.Trip.run_values m g, ?_⟩
  refine (θ_run Cert.RotateRefIdeal.defs _ _).mono (fun r h c => ?_) (Cert.RotateRefIdeal.Ref.run_values m' g')
  obtain ⟨h0, h1, h2⟩ := h c
  obtain ⟨e0, e1, e2⟩ := hagree c
  rw [e0, e1, e2] at h0
  rw [e0, e1] at h1
  exact ⟨h0, h1, h2⟩

end Cert.Proof

end
-- ==== Proof.lean ====
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Frame
public import proofs.«01_k».proof.Proof.Gen.DownRefIdeal.Value
public import proofs.«01_k».proof.Proof.DownValue
public import proofs.«01_k».proof.Proof.Gen.Rotate
public import proofs.«01_k».proof.Proof.Gen.RotateIdeal
public import proofs.«01_k».proof.Proof.Gen.RotateRefIdeal
public import proofs.«01_k».proof.Proof.RotateT.Preserves
public import proofs.«01_k».proof.Proof.RotateT.RotClaims
public import Idealize.ShloMosaic.Lib.Claim
public import Idealize.ShloMosaic.Adequacy
public import Idealize.ShloMosaic.Init

@[expose] public section

noncomputable section

namespace Cert.Proof

open Idealize.ShloMosaic Idealize.SL.Sem Cert.Down

/-- At the ideal instance the tiled kernel and the reference leave the same array. -/
theorem algebraicDown : Cert.algebraic_DownIdeal_DownRefIdeal := by
  pair_intro
  · run_from Cert.DownIdeal.Value.run_blocks m g
  · run_from Cert.DownRefIdeal.Value.run_blocks m' g'
    rw [Cert.DownIdeal.RefValue.final m c, Cert.DownRefIdeal.RefValue.final m' c]
    simp only [hagree c]

theorem claim : Cert.Claim := ⟨Cert.Down.Gen.facts, Cert.DownIdeal.Gen.facts, Cert.DownRefIdeal.Gen.facts,
  Cert.Rotate.Gen.facts, Cert.RotateIdeal.Gen.facts, Cert.RotateRefIdeal.Gen.facts,
  fun m ρ _ => Cert.Down.Gen.frame m ρ,
  fun m ρ _ => Cert.DownIdeal.Gen.frame m ρ,
  fun m ρ _ => Cert.DownRefIdeal.Gen.frame m ρ,
  fun m ρ _ => Cert.Rotate.Trip.frame m ρ,
  fun m ρ _ => Cert.RotateIdeal.Trip.frame m ρ,
  quiescentRotateRef,
  trivial,
  algebraicDown,
  preservesRotate,
  algebraicRotate⟩

end Cert.Proof

end
